-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_some_visible [hKernelIdeal : Cert.KernelIdeal.Facts] [hReferenceIdeal : Cert.ReferenceIdeal.Facts] [hOn_some_visible : Cert.On_some_visible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v485)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![4, 96, 224, 224]⟩ : Shape).Idx, (Cert.On_some_visible.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v485) i = v0 c i)
          ∧ (∀ i : (⟨3, ![4, 96, 2]⟩ : Shape).Idx, (Cert.On_some_visible.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v42) i = v1 c i)
          ∧ (∀ i : (⟨3, ![4, 96, 2]⟩ : Shape).Idx, (Cert.On_some_visible.fn (F := Ideal) (m ((c.tc : Thread Cert.KernelIdeal.nD Cert.KernelIdeal.τ).loc Cert.KernelIdeal.main_arg0))).2.2.1 i = 1#1 → r.2.mem ((c.tc : Thread Cert.KernelIdeal.nD Cert.KernelIdeal.τ).loc Cert.KernelIdeal.main_v44) i = v2 c i)
          ∧ (∀ i : (⟨2, ![4, 96]⟩ : Shape).Idx, (Cert.On_some_visible.fn (F := Ideal) (m ((c.tc : Thread Cert.KernelIdeal.nD Cert.KernelIdeal.τ).loc Cert.KernelIdeal.main_arg0))).2.2.2 i = 1#1 → r.2.mem ((c.tc : Thread Cert.KernelIdeal.nD Cert.KernelIdeal.τ).loc Cert.KernelIdeal.main_v38) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 96, 224, 224]⟩ : Shape).Idx, (Cert.On_some_visible.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v164) i = v0 c i)
          ∧ (∀ i : (⟨3, ![4, 96, 2]⟩ : Shape).Idx, (Cert.On_some_visible.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v53) i = v1 c i)
          ∧ (∀ i : (⟨3, ![4, 96, 2]⟩ : Shape).Idx, (Cert.On_some_visible.fn (F := Ideal) (m ((c.tc : Thread Cert.KernelIdeal.nD Cert.KernelIdeal.τ).loc Cert.KernelIdeal.main_arg0))).2.2.1 i = 1#1 → r.2.mem ((c.tc : Thread Cert.ReferenceIdeal.nD Cert.ReferenceIdeal.τ).loc Cert.ReferenceIdeal.main_v57) i = v2 c i)
          ∧ (∀ i : (⟨2, ![4, 96]⟩ : Shape).Idx, (Cert.On_some_visible.fn (F := Ideal) (m ((c.tc : Thread Cert.KernelIdeal.nD Cert.KernelIdeal.τ).loc Cert.KernelIdeal.main_arg0))).2.2.2 i = 1#1 → r.2.mem ((c.tc : Thread Cert.ReferenceIdeal.nD Cert.ReferenceIdeal.τ).loc Cert.ReferenceIdeal.main_v49) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_some_visible : Cert.On_some_visible.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_some_visible (hKernelIdeal := hKernelIdeal) (hReferenceIdeal := hReferenceIdeal) (hOn_some_visible := hOn_some_visible)
-- ==== On_some_visible.lean ====
abbrev S4x96x224x224 : Shape := ⟨4, ![4, 96, 224, 224]⟩
abbrev S_ : Shape := ⟨0, ![]⟩
abbrev S1 : Shape := ⟨1, ![1]⟩
abbrev S2 : Shape := ⟨1, ![2]⟩
abbrev S5 : Shape := ⟨1, ![5]⟩
abbrev S5x1 : Shape := ⟨2, ![5, 1]⟩
abbrev S5x2 : Shape := ⟨2, ![5, 2]⟩
abbrev S1x1x1x1 : Shape := ⟨4, ![1, 1, 1, 1]⟩
abbrev S1x4x96x224x224 : Shape := ⟨5, ![1, 4, 96, 224, 224]⟩
abbrev S5x1x1x1x1 : Shape := ⟨5, ![5, 1, 1, 1, 1]⟩
abbrev S5x4x96x224x224 : Shape := ⟨5, ![5, 4, 96, 224, 224]⟩
abbrev S1x1x1x1x1 : Shape := ⟨5, ![1, 1, 1, 1, 1]⟩
abbrev S5x4x96x50176 : Shape := ⟨4, ![5, 4, 96, 50176]⟩
abbrev S5x4x96 : Shape := ⟨3, ![5, 4, 96]⟩
abbrev S4x96 : Shape := ⟨2, ![4, 96]⟩
abbrev S4x96x2 : Shape := ⟨3, ![4, 96, 2]⟩

class Facts : Prop where
  bcast_S_S4x96x224x224 : S_.BroadcastsInDim S4x96x224x224 (![] : Fin 0 → Fin S4x96x224x224.rank)
  bcast_S_S1 : S_.BroadcastsInDim S1 (![] : Fin 0 → Fin S1.rank)
  concatenates_S1_S1_S2_d0 : Shape.Concatenates [S1, S1] S2 0
  bcast_S_S5 : S_.BroadcastsInDim S5 (![] : Fin 0 → Fin S5.rank)
  bcast_S5_S5x1_0 : S5.BroadcastsInDim S5x1 (![0] : Fin 1 → Fin S5x1.rank)
  concatenates_S5x1_S5x1_S5x2_d1 : Shape.Concatenates [S5x1, S5x1] S5x2 1
  slices_S2_S1_0 : S2.Slices ![0] S1
  shapeCasts_S1_S_ : S1.ShapeCasts S_
  slices_S2_S1_1 : S2.Slices ![1] S1
  slices_S5x2_S5x1_0_0 : S5x2.Slices ![0, 0] S5x1
  slices_S5x2_S5x1_0_1 : S5x2.Slices ![0, 1] S5x1
  bcast_S_S5x1 : S_.BroadcastsInDim S5x1 (![] : Fin 0 → Fin S5x1.rank)
  bcast_S_S1x1x1x1 : S_.BroadcastsInDim S1x1x1x1 (![] : Fin 0 → Fin S1x1x1x1.rank)
  shapeCasts_S5x1_S5 : S5x1.ShapeCasts S5
  natLt_32_64 : 32 < 64
  bcast_S4x96x224x224_S1x4x96x224x224_1_2_3_4 : S4x96x224x224.BroadcastsInDim S1x4x96x224x224 (![1, 2, 3, 4] : Fin 4 → Fin S1x4x96x224x224.rank)
  bcast_S5_S5x1x1x1x1_0 : S5.BroadcastsInDim S5x1x1x1x1 (![0] : Fin 1 → Fin S5x1x1x1x1.rank)
  bcast_S_S5x1x1x1x1 : S_.BroadcastsInDim S5x1x1x1x1 (![] : Fin 0 → Fin S5x1x1x1x1.rank)
  bcast_S1x4x96x224x224_S5x4x96x224x224_0_1_2_3_4 : S1x4x96x224x224.BroadcastsInDim S5x4x96x224x224 (![0, 1, 2, 3, 4] : Fin 5 → Fin S5x4x96x224x224.rank)
  bcast_S5x1x1x1x1_S5x4x96x224x224_0_1_2_3_4 : S5x1x1x1x1.BroadcastsInDim S5x4x96x224x224 (![0, 1, 2, 3, 4] : Fin 5 → Fin S5x4x96x224x224.rank)
  bcast_S_S5x4x96x224x224 : S_.BroadcastsInDim S5x4x96x224x224 (![] : Fin 0 → Fin S5x4x96x224x224.rank)
  bcast_S1x1x1x1_S1x1x1x1x1_1_2_3_4 : S1x1x1x1.BroadcastsInDim S1x1x1x1x1 (![1, 2, 3, 4] : Fin 4 → Fin S1x1x1x1x1.rank)
  bcast_S1x1x1x1x1_S5x4x96x224x224_0_1_2_3_4 : S1x1x1x1x1.BroadcastsInDim S5x4x96x224x224 (![0, 1, 2, 3, 4] : Fin 5 → Fin S5x4x96x224x224.rank)
  shapeCasts_S5x4x96x224x224_S5x4x96x50176 : S5x4x96x224x224.ShapeCasts S5x4x96x50176
  reducesTo_S5x4x96x50176_S5x4x96_d3 : S5x4x96x50176.ReducesTo [3] S5x4x96
  h_S_ : 0 < S_.numel
  bcast_S_S5x4x96 : S_.BroadcastsInDim S5x4x96 (![] : Fin 0 → Fin S5x4x96.rank)
  reducesTo_S5x4x96_S4x96_d0 : S5x4x96.ReducesTo [0] S4x96
  bcast_S_S4x96 : S_.BroadcastsInDim S4x96 (![] : Fin 0 → Fin S4x96.rank)
  bcast_S_S4x96x2 : S_.BroadcastsInDim S4x96x2 (![] : Fin 0 → Fin S4x96x2.rank)
  reducesTo_S4x96_S_d0_1 : S4x96.ReducesTo [0, 1] S_

variable [Facts]

def fn_threefry2x32_part9 {F : FTy → Type} [FloatOps F] (arg0 : IVec S_ 32) (v163 : IVec S5x1 32) (v169 : IVec S5x1 32) (v170 : IVec S5x1 32) : IVec S5x1 32 × IVec S5x1 32 :=
  let v171 : IVec S5x1 32 := addi v163 v170
  let v172 : IVec S5x1 32 := broadcastInDim S5x1 ![] bcast_S_S5x1 arg0
  let v173 : IVec S5x1 32 := addi v169 v172
  let c_44 : IVec S_ 32 := constantI S_ 32 5#32
  let v174 : IVec S5x1 32 := broadcastInDim S5x1 ![] bcast_S_S5x1 c_44
  let v175 : IVec S5x1 32 := addi v173 v174
  (v171, v175)

def fn_threefry2x32_part8 {F : FTy → Type} [FloatOps F] (arg0 : IVec S_ 32) (v1 : IVec S_ 32) (v148 : IVec S5x1 32) (v149 : IVec S5x1 32) (v151 : IVec S5x1 32) : IVec S5x1 32 × IVec S5x1 32 :=
  let c_39 : IVec S_ 32 := constantI S_ 32 17#32
  let v152 : IVec S5x1 32 := broadcastInDim S5x1 ![] bcast_S_S5x1 c_39
  let v153 : IVec S5x1 32 := Host.shrui v148 v152
  let v154 : IVec S5x1 32 := ori v151 v153
  let v155 : IVec S5x1 32 := xori v149 v154
  let v156 : IVec S5x1 32 := addi v149 v155
  let c_40 : IVec S_ 32 := constantI S_ 32 26#32
  let v157 : IVec S5x1 32 := broadcastInDim S5x1 ![] bcast_S_S5x1 c_40
  let v158 : IVec S5x1 32 := Host.shli v155 v157
  let c_41 : IVec S_ 32 := constantI S_ 32 6#32
  let v159 : IVec S5x1 32 := broadcastInDim S5x1 ![] bcast_S_S5x1 c_41
  let v160 : IVec S5x1 32 := Host.shrui v155 v159
  let v161 : IVec S5x1 32 := ori v158 v160
  let v162 : IVec S5x1 32 := xori v156 v161
  let v163 : IVec S5x1 32 := addi v156 v162
  let c_42 : IVec S_ 32 := constantI S_ 32 6#32
  let v164 : IVec S5x1 32 := broadcastInDim S5x1 ![] bcast_S_S5x1 c_42
  let v165 : IVec S5x1 32 := Host.shli v162 v164
  let c_43 : IVec S_ 32 := constantI S_ 32 26#32
  let v166 : IVec S5x1 32 := broadcastInDim S5x1 ![] bcast_S_S5x1 c_43
  let v167 : IVec S5x1 32 := Host.shrui v162 v166
  let v168 : IVec S5x1 32 := ori v165 v167
  let v169 : IVec S5x1 32 := xori v163 v168
  let v170 : IVec S5x1 32 := broadcastInDim S5x1 ![] bcast_S_S5x1 v1
  fn_threefry2x32_part9 (F := F) arg0 v163 v169 v170

def fn_threefry2x32_part7 {F : FTy → Type} [FloatOps F] (arg0 : IVec S_ 32) (arg1 : IVec S_ 32) (v1 : IVec S_ 32) (v128 : IVec S5x1 32) (v129 : IVec S5x1 32) (v131 : IVec S5x1 32) (c_34 : IVec S_ 32) : IVec S5x1 32 × IVec S5x1 32 :=
  let v132 : IVec S5x1 32 := broadcastInDim S5x1 ![] bcast_S_S5x1 c_34
  let v133 : IVec S5x1 32 := Host.shrui v128 v132
  let v134 : IVec S5x1 32 := ori v131 v133
  let v135 : IVec S5x1 32 := xori v129 v134
  let v136 : IVec S5x1 32 := broadcastInDim S5x1 ![] bcast_S_S5x1 arg1
  let v137 : IVec S5x1 32 := addi v129 v136
  let v138 : IVec S5x1 32 := broadcastInDim S5x1 ![] bcast_S_S5x1 v1
  let v139 : IVec S5x1 32 := addi v135 v138
  let c_35 : IVec S_ 32 := constantI S_ 32 4#32
  let v140 : IVec S5x1 32 := broadcastInDim S5x1 ![] bcast_S_S5x1 c_35
  let v141 : IVec S5x1 32 := addi v139 v140
  let v142 : IVec S5x1 32 := addi v137 v141
  let c_36 : IVec S_ 32 := constantI S_ 32 13#32
  let v143 : IVec S5x1 32 := broadcastInDim S5x1 ![] bcast_S_S5x1 c_36
  let v144 : IVec S5x1 32 := Host.shli v141 v143
  let c_37 : IVec S_ 32 := constantI S_ 32 19#32
  let v145 : IVec S5x1 32 := broadcastInDim S5x1 ![] bcast_S_S5x1 c_37
  let v146 : IVec S5x1 32 := Host.shrui v141 v145
  let v147 : IVec S5x1 32 := ori v144 v146
  let v148 : IVec S5x1 32 := xori v142 v147
  let v149 : IVec S5x1 32 := addi v142 v148
  let c_38 : IVec S_ 32 := constantI S_ 32 15#32
  let v150 : IVec S5x1 32 := broadcastInDim S5x1 ![] bcast_S_S5x1 c_38
  let v151 : IVec S5x1 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S5x1 32) (v113 : IVec S5x1 32) : IVec S5x1 32 × IVec S5x1 32 :=
  let v114 : IVec S5x1 32 := xori v108 v113
  let v115 : IVec S5x1 32 := addi v108 v114
  let c_29 : IVec S_ 32 := constantI S_ 32 29#32
  let v116 : IVec S5x1 32 := broadcastInDim S5x1 ![] bcast_S_S5x1 c_29
  let v117 : IVec S5x1 32 := Host.shli v114 v116
  let c_30 : IVec S_ 32 := constantI S_ 32 3#32
  let v118 : IVec S5x1 32 := broadcastInDim S5x1 ![] bcast_S_S5x1 c_30
  let v119 : IVec S5x1 32 := Host.shrui v114 v118
  let v120 : IVec S5x1 32 := ori v117 v119
  let v121 : IVec S5x1 32 := xori v115 v120
  let v122 : IVec S5x1 32 := addi v115 v121
  let c_31 : IVec S_ 32 := constantI S_ 32 16#32
  let v123 : IVec S5x1 32 := broadcastInDim S5x1 ![] bcast_S_S5x1 c_31
  let v124 : IVec S5x1 32 := Host.shli v121 v123
  let c_32 : IVec S_ 32 := constantI S_ 32 16#32
  let v125 : IVec S5x1 32 := broadcastInDim S5x1 ![] bcast_S_S5x1 c_32
  let v126 : IVec S5x1 32 := Host.shrui v121 v125
  let v127 : IVec S5x1 32 := ori v124 v126
  let v128 : IVec S5x1 32 := xori v122 v127
  let v129 : IVec S5x1 32 := addi v122 v128
  let c_33 : IVec S_ 32 := constantI S_ 32 24#32
  let v130 : IVec S5x1 32 := broadcastInDim S5x1 ![] bcast_S_S5x1 c_33
  let v131 : IVec S5x1 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S5x1 32) (v94 : IVec S5x1 32) : IVec S5x1 32 × IVec S5x1 32 :=
  let v95 : IVec S5x1 32 := addi v88 v94
  let c_24 : IVec S_ 32 := constantI S_ 32 6#32
  let v96 : IVec S5x1 32 := broadcastInDim S5x1 ![] bcast_S_S5x1 c_24
  let v97 : IVec S5x1 32 := Host.shli v94 v96
  let c_25 : IVec S_ 32 := constantI S_ 32 26#32
  let v98 : IVec S5x1 32 := broadcastInDim S5x1 ![] bcast_S_S5x1 c_25
  let v99 : IVec S5x1 32 := Host.shrui v94 v98
  let v100 : IVec S5x1 32 := ori v97 v99
  let v101 : IVec S5x1 32 := xori v95 v100
  let v102 : IVec S5x1 32 := broadcastInDim S5x1 ![] bcast_S_S5x1 arg0
  let v103 : IVec S5x1 32 := addi v95 v102
  let v104 : IVec S5x1 32 := broadcastInDim S5x1 ![] bcast_S_S5x1 arg1
  let v105 : IVec S5x1 32 := addi v101 v104
  let c_26 : IVec S_ 32 := constantI S_ 32 3#32
  let v106 : IVec S5x1 32 := broadcastInDim S5x1 ![] bcast_S_S5x1 c_26
  let v107 : IVec S5x1 32 := addi v105 v106
  let v108 : IVec S5x1 32 := addi v103 v107
  let c_27 : IVec S_ 32 := constantI S_ 32 17#32
  let v109 : IVec S5x1 32 := broadcastInDim S5x1 ![] bcast_S_S5x1 c_27
  let v110 : IVec S5x1 32 := Host.shli v107 v109
  let c_28 : IVec S_ 32 := constantI S_ 32 15#32
  let v111 : IVec S5x1 32 := broadcastInDim S5x1 ![] bcast_S_S5x1 c_28
  let v112 : IVec S5x1 32 := Host.shrui v107 v111
  let v113 : IVec S5x1 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S5x1 32) (v74 : IVec S5x1 32) (v75 : IVec S5x1 32) : IVec S5x1 32 × IVec S5x1 32 :=
  let v76 : IVec S5x1 32 := Host.shli v73 v75
  let c_19 : IVec S_ 32 := constantI S_ 32 19#32
  let v77 : IVec S5x1 32 := broadcastInDim S5x1 ![] bcast_S_S5x1 c_19
  let v78 : IVec S5x1 32 := Host.shrui v73 v77
  let v79 : IVec S5x1 32 := ori v76 v78
  let v80 : IVec S5x1 32 := xori v74 v79
  let v81 : IVec S5x1 32 := addi v74 v80
  let c_20 : IVec S_ 32 := constantI S_ 32 15#32
  let v82 : IVec S5x1 32 := broadcastInDim S5x1 ![] bcast_S_S5x1 c_20
  let v83 : IVec S5x1 32 := Host.shli v80 v82
  let c_21 : IVec S_ 32 := constantI S_ 32 17#32
  let v84 : IVec S5x1 32 := broadcastInDim S5x1 ![] bcast_S_S5x1 c_21
  let v85 : IVec S5x1 32 := Host.shrui v80 v84
  let v86 : IVec S5x1 32 := ori v83 v85
  let v87 : IVec S5x1 32 := xori v81 v86
  let v88 : IVec S5x1 32 := addi v81 v87
  let c_22 : IVec S_ 32 := constantI S_ 32 26#32
  let v89 : IVec S5x1 32 := broadcastInDim S5x1 ![] bcast_S_S5x1 c_22
  let v90 : IVec S5x1 32 := Host.shli v87 v89
  let c_23 : IVec S_ 32 := constantI S_ 32 6#32
  let v91 : IVec S5x1 32 := broadcastInDim S5x1 ![] bcast_S_S5x1 c_23
  let v92 : IVec S5x1 32 := Host.shrui v87 v91
  let v93 : IVec S5x1 32 := ori v90 v92
  let v94 : IVec S5x1 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S5x1 32) (v54 : IVec S5x1 32) (v56 : IVec S5x1 32) : IVec S5x1 32 × IVec S5x1 32 :=
  let c_14 : IVec S_ 32 := constantI S_ 32 16#32
  let v57 : IVec S5x1 32 := broadcastInDim S5x1 ![] bcast_S_S5x1 c_14
  let v58 : IVec S5x1 32 := Host.shrui v53 v57
  let v59 : IVec S5x1 32 := ori v56 v58
  let v60 : IVec S5x1 32 := xori v54 v59
  let v61 : IVec S5x1 32 := addi v54 v60
  let c_15 : IVec S_ 32 := constantI S_ 32 24#32
  let v62 : IVec S5x1 32 := broadcastInDim S5x1 ![] bcast_S_S5x1 c_15
  let v63 : IVec S5x1 32 := Host.shli v60 v62
  let c_16 : IVec S_ 32 := constantI S_ 32 8#32
  let v64 : IVec S5x1 32 := broadcastInDim S5x1 ![] bcast_S_S5x1 c_16
  let v65 : IVec S5x1 32 := Host.shrui v60 v64
  let v66 : IVec S5x1 32 := ori v63 v65
  let v67 : IVec S5x1 32 := xori v61 v66
  let v68 : IVec S5x1 32 := broadcastInDim S5x1 ![] bcast_S_S5x1 v1
  let v69 : IVec S5x1 32 := addi v61 v68
  let v70 : IVec S5x1 32 := broadcastInDim S5x1 ![] bcast_S_S5x1 arg0
  let v71 : IVec S5x1 32 := addi v67 v70
  let c_17 : IVec S_ 32 := constantI S_ 32 2#32
  let v72 : IVec S5x1 32 := broadcastInDim S5x1 ![] bcast_S_S5x1 c_17
  let v73 : IVec S5x1 32 := addi v71 v72
  let v74 : IVec S5x1 32 := addi v69 v73
  let c_18 : IVec S_ 32 := constantI S_ 32 13#32
  let v75 : IVec S5x1 32 := broadcastInDim S5x1 ![] bcast_S_S5x1 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S5x1 32) (v37 : IVec S5x1 32) (c_8 : IVec S_ 32) : IVec S5x1 32 × IVec S5x1 32 :=
  let v38 : IVec S5x1 32 := broadcastInDim S5x1 ![] bcast_S_S5x1 c_8
  let v39 : IVec S5x1 32 := addi v37 v38
  let v40 : IVec S5x1 32 := addi v35 v39
  let c_9 : IVec S_ 32 := constantI S_ 32 17#32
  let v41 : IVec S5x1 32 := broadcastInDim S5x1 ![] bcast_S_S5x1 c_9
  let v42 : IVec S5x1 32 := Host.shli v39 v41
  let c_10 : IVec S_ 32 := constantI S_ 32 15#32
  let v43 : IVec S5x1 32 := broadcastInDim S5x1 ![] bcast_S_S5x1 c_10
  let v44 : IVec S5x1 32 := Host.shrui v39 v43
  let v45 : IVec S5x1 32 := ori v42 v44
  let v46 : IVec S5x1 32 := xori v40 v45
  let v47 : IVec S5x1 32 := addi v40 v46
  let c_11 : IVec S_ 32 := constantI S_ 32 29#32
  let v48 : IVec S5x1 32 := broadcastInDim S5x1 ![] bcast_S_S5x1 c_11
  let v49 : IVec S5x1 32 := Host.shli v46 v48
  let c_12 : IVec S_ 32 := constantI S_ 32 3#32
  let v50 : IVec S5x1 32 := broadcastInDim S5x1 ![] bcast_S_S5x1 c_12
  let v51 : IVec S5x1 32 := Host.shrui v46 v50
  let v52 : IVec S5x1 32 := ori v49 v51
  let v53 : IVec S5x1 32 := xori v47 v52
  let v54 : IVec S5x1 32 := addi v47 v53
  let c_13 : IVec S_ 32 := constantI S_ 32 16#32
  let v55 : IVec S5x1 32 := broadcastInDim S5x1 ![] bcast_S_S5x1 c_13
  let v56 : IVec S5x1 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S5x1 32) (v18 : IVec S5x1 32) : IVec S5x1 32 × IVec S5x1 32 :=
  let v19 : IVec S5x1 32 := xori v13 v18
  let v20 : IVec S5x1 32 := addi v13 v19
  let c_4 : IVec S_ 32 := constantI S_ 32 26#32
  let v21 : IVec S5x1 32 := broadcastInDim S5x1 ![] bcast_S_S5x1 c_4
  let v22 : IVec S5x1 32 := Host.shli v19 v21
  let c_5 : IVec S_ 32 := constantI S_ 32 6#32
  let v23 : IVec S5x1 32 := broadcastInDim S5x1 ![] bcast_S_S5x1 c_5
  let v24 : IVec S5x1 32 := Host.shrui v19 v23
  let v25 : IVec S5x1 32 := ori v22 v24
  let v26 : IVec S5x1 32 := xori v20 v25
  let v27 : IVec S5x1 32 := addi v20 v26
  let c_6 : IVec S_ 32 := constantI S_ 32 6#32
  let v28 : IVec S5x1 32 := broadcastInDim S5x1 ![] bcast_S_S5x1 c_6
  let v29 : IVec S5x1 32 := Host.shli v26 v28
  let c_7 : IVec S_ 32 := constantI S_ 32 26#32
  let v30 : IVec S5x1 32 := broadcastInDim S5x1 ![] bcast_S_S5x1 c_7
  let v31 : IVec S5x1 32 := Host.shrui v26 v30
  let v32 : IVec S5x1 32 := ori v29 v31
  let v33 : IVec S5x1 32 := xori v27 v32
  let v34 : IVec S5x1 32 := broadcastInDim S5x1 ![] bcast_S_S5x1 arg1
  let v35 : IVec S5x1 32 := addi v27 v34
  let v36 : IVec S5x1 32 := broadcastInDim S5x1 ![] bcast_S_S5x1 v1
  let v37 : IVec S5x1 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S5x1 32) (arg3 : IVec S5x1 32) : IVec S5x1 32 × IVec S5x1 32 :=
  let v0 : IVec S_ 32 := xori arg0 arg1
  let c : IVec S_ 32 := constantI S_ 32 466688986#32
  let v1 : IVec S_ 32 := xori v0 c
  let v2 : IVec S5x1 32 := broadcastInDim S5x1 ![] bcast_S_S5x1 arg0
  let v3 : IVec S5x1 32 := addi arg2 v2
  let v4 : IVec S5x1 32 := broadcastInDim S5x1 ![] bcast_S_S5x1 arg1
  let v5 : IVec S5x1 32 := addi arg3 v4
  let v6 : IVec S5x1 32 := addi v3 v5
  let c_0 : IVec S_ 32 := constantI S_ 32 13#32
  let v7 : IVec S5x1 32 := broadcastInDim S5x1 ![] bcast_S_S5x1 c_0
  let v8 : IVec S5x1 32 := Host.shli v5 v7
  let c_1 : IVec S_ 32 := constantI S_ 32 19#32
  let v9 : IVec S5x1 32 := broadcastInDim S5x1 ![] bcast_S_S5x1 c_1
  let v10 : IVec S5x1 32 := Host.shrui v5 v9
  let v11 : IVec S5x1 32 := ori v8 v10
  let v12 : IVec S5x1 32 := xori v6 v11
  let v13 : IVec S5x1 32 := addi v6 v12
  let c_2 : IVec S_ 32 := constantI S_ 32 15#32
  let v14 : IVec S5x1 32 := broadcastInDim S5x1 ![] bcast_S_S5x1 c_2
  let v15 : IVec S5x1 32 := Host.shli v12 v14
  let c_3 : IVec S_ 32 := constantI S_ 32 17#32
  let v16 : IVec S5x1 32 := broadcastInDim S5x1 ![] bcast_S_S5x1 c_3
  let v17 : IVec S5x1 32 := Host.shrui v12 v16
  let v18 : IVec S5x1 32 := ori v15 v17
  fn_threefry2x32_part1 (F := F) arg0 arg1 v1 v13 v18

def fn_threefry_fold_in {F : FTy → Type} [FloatOps F] (arg0 : IVec S2 32) (arg1 : IVec S5 32) : IVec S5x2 32 :=
  let c : IVec S_ 32 := constantI S_ 32 32#32
  let v0 : IVec S5 32 := broadcastInDim S5 ![] bcast_S_S5 c
  let v1 : IVec S5 32 := Host.shrui arg1 v0
  let v2 : IVec S5x1 32 := broadcastInDim S5x1 ![0] bcast_S5_S5x1_0 v1
  let c_0 : IVec S_ 32 := constantI S_ 32 4294967295#32
  let v3 : IVec S5 32 := broadcastInDim S5 ![] bcast_S_S5 c_0
  let v4 : IVec S5 32 := andi arg1 v3
  let v5 : IVec S5x1 32 := broadcastInDim S5x1 ![0] bcast_S5_S5x1_0 v4
  let v6 : IVec S5x2 32 := (fun a b => concatenate S5x2 1 [⟨S5x1, a⟩, ⟨S5x1, b⟩] concatenates_S5x1_S5x1_S5x2_d1) v2 v5
  let v7 : IVec S1 32 := (extractStridedSlice S1 ![0] · slices_S2_S1_0) arg0
  let v8 : IVec S_ 32 := shapeCast S_ v7 shapeCasts_S1_S_
  let v9 : IVec S1 32 := (extractStridedSlice S1 ![1] · slices_S2_S1_1) arg0
  let v10 : IVec S_ 32 := shapeCast S_ v9 shapeCasts_S1_S_
  let v11 : IVec S5x1 32 := (extractStridedSlice S5x1 ![0, 0] · slices_S5x2_S5x1_0_0) v6
  let v12 : IVec S5x1 32 := (extractStridedSlice S5x1 ![0, 1] · slices_S5x2_S5x1_0_1) v6
  let v13_0 : IVec S5x1 32 := (fn_threefry2x32 (F := F) v8 v10 v11 v12).1
  let v13_1 : IVec S5x1 32 := (fn_threefry2x32 (F := F) v8 v10 v11 v12).2
  let v14 : IVec S5x2 32 := (fun a b => concatenate S5x2 1 [⟨S5x1, a⟩, ⟨S5x1, b⟩] concatenates_S5x1_S5x1_S5x2_d1) v13_0 v13_1
  v14

def fn_threefry2x32_0_part9 {F : FTy → Type} [FloatOps F] (arg0 : IVec S5x1x1x1x1 32) (v2 : IVec S5x1x1x1x1 32) (v166 : IVec S5x4x96x224x224 32) (v168 : IVec S5x4x96x224x224 32) (v170 : IVec S5x4x96x224x224 32) : IVec S5x4x96x224x224 32 × IVec S5x4x96x224x224 32 :=
  let v171 : IVec S5x4x96x224x224 32 := ori v168 v170
  let v172 : IVec S5x4x96x224x224 32 := xori v166 v171
  let v173 : IVec S5x4x96x224x224 32 := broadcastInDim S5x4x96x224x224 ![0, 1, 2, 3, 4] bcast_S5x1x1x1x1_S5x4x96x224x224_0_1_2_3_4 v2
  let v174 : IVec S5x4x96x224x224 32 := addi v166 v173
  let v175 : IVec S5x4x96x224x224 32 := broadcastInDim S5x4x96x224x224 ![0, 1, 2, 3, 4] bcast_S5x1x1x1x1_S5x4x96x224x224_0_1_2_3_4 arg0
  let v176 : IVec S5x4x96x224x224 32 := addi v172 v175
  let c_44 : IVec S_ 32 := constantI S_ 32 5#32
  let v177 : IVec S5x4x96x224x224 32 := broadcastInDim S5x4x96x224x224 ![] bcast_S_S5x4x96x224x224 c_44
  let v178 : IVec S5x4x96x224x224 32 := addi v176 v177
  (v174, v178)

def fn_threefry2x32_0_part8 {F : FTy → Type} [FloatOps F] (arg0 : IVec S5x1x1x1x1 32) (v2 : IVec S5x1x1x1x1 32) (v151 : IVec S5x4x96x224x224 32) (v152 : IVec S5x4x96x224x224 32) : IVec S5x4x96x224x224 32 × IVec S5x4x96x224x224 32 :=
  let c_38 : IVec S_ 32 := constantI S_ 32 15#32
  let v153 : IVec S5x4x96x224x224 32 := broadcastInDim S5x4x96x224x224 ![] bcast_S_S5x4x96x224x224 c_38
  let v154 : IVec S5x4x96x224x224 32 := Host.shli v151 v153
  let c_39 : IVec S_ 32 := constantI S_ 32 17#32
  let v155 : IVec S5x4x96x224x224 32 := broadcastInDim S5x4x96x224x224 ![] bcast_S_S5x4x96x224x224 c_39
  let v156 : IVec S5x4x96x224x224 32 := Host.shrui v151 v155
  let v157 : IVec S5x4x96x224x224 32 := ori v154 v156
  let v158 : IVec S5x4x96x224x224 32 := xori v152 v157
  let v159 : IVec S5x4x96x224x224 32 := addi v152 v158
  let c_40 : IVec S_ 32 := constantI S_ 32 26#32
  let v160 : IVec S5x4x96x224x224 32 := broadcastInDim S5x4x96x224x224 ![] bcast_S_S5x4x96x224x224 c_40
  let v161 : IVec S5x4x96x224x224 32 := Host.shli v158 v160
  let c_41 : IVec S_ 32 := constantI S_ 32 6#32
  let v162 : IVec S5x4x96x224x224 32 := broadcastInDim S5x4x96x224x224 ![] bcast_S_S5x4x96x224x224 c_41
  let v163 : IVec S5x4x96x224x224 32 := Host.shrui v158 v162
  let v164 : IVec S5x4x96x224x224 32 := ori v161 v163
  let v165 : IVec S5x4x96x224x224 32 := xori v159 v164
  let v166 : IVec S5x4x96x224x224 32 := addi v159 v165
  let c_42 : IVec S_ 32 := constantI S_ 32 6#32
  let v167 : IVec S5x4x96x224x224 32 := broadcastInDim S5x4x96x224x224 ![] bcast_S_S5x4x96x224x224 c_42
  let v168 : IVec S5x4x96x224x224 32 := Host.shli v165 v167
  let c_43 : IVec S_ 32 := constantI S_ 32 26#32
  let v169 : IVec S5x4x96x224x224 32 := broadcastInDim S5x4x96x224x224 ![] bcast_S_S5x4x96x224x224 c_43
  let v170 : IVec S5x4x96x224x224 32 := Host.shrui v165 v169
  fn_threefry2x32_0_part9 (F := F) arg0 v2 v166 v168 v170

def fn_threefry2x32_0_part7 {F : FTy → Type} [FloatOps F] (arg0 : IVec S5x1x1x1x1 32) (arg1 : IVec S5x1x1x1x1 32) (v2 : IVec S5x1x1x1x1 32) (v131 : IVec S5x4x96x224x224 32) (v132 : IVec S5x4x96x224x224 32) (c_33 : IVec S_ 32) : IVec S5x4x96x224x224 32 × IVec S5x4x96x224x224 32 :=
  let v133 : IVec S5x4x96x224x224 32 := broadcastInDim S5x4x96x224x224 ![] bcast_S_S5x4x96x224x224 c_33
  let v134 : IVec S5x4x96x224x224 32 := Host.shli v131 v133
  let c_34 : IVec S_ 32 := constantI S_ 32 8#32
  let v135 : IVec S5x4x96x224x224 32 := broadcastInDim S5x4x96x224x224 ![] bcast_S_S5x4x96x224x224 c_34
  let v136 : IVec S5x4x96x224x224 32 := Host.shrui v131 v135
  let v137 : IVec S5x4x96x224x224 32 := ori v134 v136
  let v138 : IVec S5x4x96x224x224 32 := xori v132 v137
  let v139 : IVec S5x4x96x224x224 32 := broadcastInDim S5x4x96x224x224 ![0, 1, 2, 3, 4] bcast_S5x1x1x1x1_S5x4x96x224x224_0_1_2_3_4 arg1
  let v140 : IVec S5x4x96x224x224 32 := addi v132 v139
  let v141 : IVec S5x4x96x224x224 32 := broadcastInDim S5x4x96x224x224 ![0, 1, 2, 3, 4] bcast_S5x1x1x1x1_S5x4x96x224x224_0_1_2_3_4 v2
  let v142 : IVec S5x4x96x224x224 32 := addi v138 v141
  let c_35 : IVec S_ 32 := constantI S_ 32 4#32
  let v143 : IVec S5x4x96x224x224 32 := broadcastInDim S5x4x96x224x224 ![] bcast_S_S5x4x96x224x224 c_35
  let v144 : IVec S5x4x96x224x224 32 := addi v142 v143
  let v145 : IVec S5x4x96x224x224 32 := addi v140 v144
  let c_36 : IVec S_ 32 := constantI S_ 32 13#32
  let v146 : IVec S5x4x96x224x224 32 := broadcastInDim S5x4x96x224x224 ![] bcast_S_S5x4x96x224x224 c_36
  let v147 : IVec S5x4x96x224x224 32 := Host.shli v144 v146
  let c_37 : IVec S_ 32 := constantI S_ 32 19#32
  let v148 : IVec S5x4x96x224x224 32 := broadcastInDim S5x4x96x224x224 ![] bcast_S_S5x4x96x224x224 c_37
  let v149 : IVec S5x4x96x224x224 32 := Host.shrui v144 v148
  let v150 : IVec S5x4x96x224x224 32 := ori v147 v149
  let v151 : IVec S5x4x96x224x224 32 := xori v145 v150
  let v152 : IVec S5x4x96x224x224 32 := addi v145 v151
  fn_threefry2x32_0_part8 (F := F) arg0 v2 v151 v152

def fn_threefry2x32_0_part6 {F : FTy → Type} [FloatOps F] (arg0 : IVec S5x1x1x1x1 32) (arg1 : IVec S5x1x1x1x1 32) (v2 : IVec S5x1x1x1x1 32) (v110 : IVec S5x4x96x224x224 32) (v111 : IVec S5x4x96x224x224 32) (v113 : IVec S5x4x96x224x224 32) (c_28 : IVec S_ 32) : IVec S5x4x96x224x224 32 × IVec S5x4x96x224x224 32 :=
  let v114 : IVec S5x4x96x224x224 32 := broadcastInDim S5x4x96x224x224 ![] bcast_S_S5x4x96x224x224 c_28
  let v115 : IVec S5x4x96x224x224 32 := Host.shrui v110 v114
  let v116 : IVec S5x4x96x224x224 32 := ori v113 v115
  let v117 : IVec S5x4x96x224x224 32 := xori v111 v116
  let v118 : IVec S5x4x96x224x224 32 := addi v111 v117
  let c_29 : IVec S_ 32 := constantI S_ 32 29#32
  let v119 : IVec S5x4x96x224x224 32 := broadcastInDim S5x4x96x224x224 ![] bcast_S_S5x4x96x224x224 c_29
  let v120 : IVec S5x4x96x224x224 32 := Host.shli v117 v119
  let c_30 : IVec S_ 32 := constantI S_ 32 3#32
  let v121 : IVec S5x4x96x224x224 32 := broadcastInDim S5x4x96x224x224 ![] bcast_S_S5x4x96x224x224 c_30
  let v122 : IVec S5x4x96x224x224 32 := Host.shrui v117 v121
  let v123 : IVec S5x4x96x224x224 32 := ori v120 v122
  let v124 : IVec S5x4x96x224x224 32 := xori v118 v123
  let v125 : IVec S5x4x96x224x224 32 := addi v118 v124
  let c_31 : IVec S_ 32 := constantI S_ 32 16#32
  let v126 : IVec S5x4x96x224x224 32 := broadcastInDim S5x4x96x224x224 ![] bcast_S_S5x4x96x224x224 c_31
  let v127 : IVec S5x4x96x224x224 32 := Host.shli v124 v126
  let c_32 : IVec S_ 32 := constantI S_ 32 16#32
  let v128 : IVec S5x4x96x224x224 32 := broadcastInDim S5x4x96x224x224 ![] bcast_S_S5x4x96x224x224 c_32
  let v129 : IVec S5x4x96x224x224 32 := Host.shrui v124 v128
  let v130 : IVec S5x4x96x224x224 32 := ori v127 v129
  let v131 : IVec S5x4x96x224x224 32 := xori v125 v130
  let v132 : IVec S5x4x96x224x224 32 := addi v125 v131
  let c_33 : IVec S_ 32 := constantI S_ 32 24#32
  fn_threefry2x32_0_part7 (F := F) arg0 arg1 v2 v131 v132 c_33

def fn_threefry2x32_0_part5 {F : FTy → Type} [FloatOps F] (arg0 : IVec S5x1x1x1x1 32) (arg1 : IVec S5x1x1x1x1 32) (v2 : IVec S5x1x1x1x1 32) (v90 : IVec S5x4x96x224x224 32) (v91 : IVec S5x4x96x224x224 32) (v93 : IVec S5x4x96x224x224 32) (v94 : IVec S5x4x96x224x224 32) : IVec S5x4x96x224x224 32 × IVec S5x4x96x224x224 32 :=
  let v95 : IVec S5x4x96x224x224 32 := Host.shrui v90 v94
  let v96 : IVec S5x4x96x224x224 32 := ori v93 v95
  let v97 : IVec S5x4x96x224x224 32 := xori v91 v96
  let v98 : IVec S5x4x96x224x224 32 := addi v91 v97
  let c_24 : IVec S_ 32 := constantI S_ 32 6#32
  let v99 : IVec S5x4x96x224x224 32 := broadcastInDim S5x4x96x224x224 ![] bcast_S_S5x4x96x224x224 c_24
  let v100 : IVec S5x4x96x224x224 32 := Host.shli v97 v99
  let c_25 : IVec S_ 32 := constantI S_ 32 26#32
  let v101 : IVec S5x4x96x224x224 32 := broadcastInDim S5x4x96x224x224 ![] bcast_S_S5x4x96x224x224 c_25
  let v102 : IVec S5x4x96x224x224 32 := Host.shrui v97 v101
  let v103 : IVec S5x4x96x224x224 32 := ori v100 v102
  let v104 : IVec S5x4x96x224x224 32 := xori v98 v103
  let v105 : IVec S5x4x96x224x224 32 := broadcastInDim S5x4x96x224x224 ![0, 1, 2, 3, 4] bcast_S5x1x1x1x1_S5x4x96x224x224_0_1_2_3_4 arg0
  let v106 : IVec S5x4x96x224x224 32 := addi v98 v105
  let v107 : IVec S5x4x96x224x224 32 := broadcastInDim S5x4x96x224x224 ![0, 1, 2, 3, 4] bcast_S5x1x1x1x1_S5x4x96x224x224_0_1_2_3_4 arg1
  let v108 : IVec S5x4x96x224x224 32 := addi v104 v107
  let c_26 : IVec S_ 32 := constantI S_ 32 3#32
  let v109 : IVec S5x4x96x224x224 32 := broadcastInDim S5x4x96x224x224 ![] bcast_S_S5x4x96x224x224 c_26
  let v110 : IVec S5x4x96x224x224 32 := addi v108 v109
  let v111 : IVec S5x4x96x224x224 32 := addi v106 v110
  let c_27 : IVec S_ 32 := constantI S_ 32 17#32
  let v112 : IVec S5x4x96x224x224 32 := broadcastInDim S5x4x96x224x224 ![] bcast_S_S5x4x96x224x224 c_27
  let v113 : IVec S5x4x96x224x224 32 := Host.shli v110 v112
  let c_28 : IVec S_ 32 := constantI S_ 32 15#32
  fn_threefry2x32_0_part6 (F := F) arg0 arg1 v2 v110 v111 v113 c_28

def fn_threefry2x32_0_part4 {F : FTy → Type} [FloatOps F] (arg0 : IVec S5x1x1x1x1 32) (arg1 : IVec S5x1x1x1x1 32) (v2 : IVec S5x1x1x1x1 32) (v72 : IVec S5x4x96x224x224 32) (v76 : IVec S5x4x96x224x224 32) : IVec S5x4x96x224x224 32 × IVec S5x4x96x224x224 32 :=
  let v77 : IVec S5x4x96x224x224 32 := addi v72 v76
  let c_18 : IVec S_ 32 := constantI S_ 32 13#32
  let v78 : IVec S5x4x96x224x224 32 := broadcastInDim S5x4x96x224x224 ![] bcast_S_S5x4x96x224x224 c_18
  let v79 : IVec S5x4x96x224x224 32 := Host.shli v76 v78
  let c_19 : IVec S_ 32 := constantI S_ 32 19#32
  let v80 : IVec S5x4x96x224x224 32 := broadcastInDim S5x4x96x224x224 ![] bcast_S_S5x4x96x224x224 c_19
  let v81 : IVec S5x4x96x224x224 32 := Host.shrui v76 v80
  let v82 : IVec S5x4x96x224x224 32 := ori v79 v81
  let v83 : IVec S5x4x96x224x224 32 := xori v77 v82
  let v84 : IVec S5x4x96x224x224 32 := addi v77 v83
  let c_20 : IVec S_ 32 := constantI S_ 32 15#32
  let v85 : IVec S5x4x96x224x224 32 := broadcastInDim S5x4x96x224x224 ![] bcast_S_S5x4x96x224x224 c_20
  let v86 : IVec S5x4x96x224x224 32 := Host.shli v83 v85
  let c_21 : IVec S_ 32 := constantI S_ 32 17#32
  let v87 : IVec S5x4x96x224x224 32 := broadcastInDim S5x4x96x224x224 ![] bcast_S_S5x4x96x224x224 c_21
  let v88 : IVec S5x4x96x224x224 32 := Host.shrui v83 v87
  let v89 : IVec S5x4x96x224x224 32 := ori v86 v88
  let v90 : IVec S5x4x96x224x224 32 := xori v84 v89
  let v91 : IVec S5x4x96x224x224 32 := addi v84 v90
  let c_22 : IVec S_ 32 := constantI S_ 32 26#32
  let v92 : IVec S5x4x96x224x224 32 := broadcastInDim S5x4x96x224x224 ![] bcast_S_S5x4x96x224x224 c_22
  let v93 : IVec S5x4x96x224x224 32 := Host.shli v90 v92
  let c_23 : IVec S_ 32 := constantI S_ 32 6#32
  let v94 : IVec S5x4x96x224x224 32 := broadcastInDim S5x4x96x224x224 ![] bcast_S_S5x4x96x224x224 c_23
  fn_threefry2x32_0_part5 (F := F) arg0 arg1 v2 v90 v91 v93 v94

def fn_threefry2x32_0_part3 {F : FTy → Type} [FloatOps F] (arg0 : IVec S5x1x1x1x1 32) (arg1 : IVec S5x1x1x1x1 32) (v2 : IVec S5x1x1x1x1 32) (v56 : IVec S5x4x96x224x224 32) (v57 : IVec S5x4x96x224x224 32) : IVec S5x4x96x224x224 32 × IVec S5x4x96x224x224 32 :=
  let c_13 : IVec S_ 32 := constantI S_ 32 16#32
  let v58 : IVec S5x4x96x224x224 32 := broadcastInDim S5x4x96x224x224 ![] bcast_S_S5x4x96x224x224 c_13
  let v59 : IVec S5x4x96x224x224 32 := Host.shli v56 v58
  let c_14 : IVec S_ 32 := constantI S_ 32 16#32
  let v60 : IVec S5x4x96x224x224 32 := broadcastInDim S5x4x96x224x224 ![] bcast_S_S5x4x96x224x224 c_14
  let v61 : IVec S5x4x96x224x224 32 := Host.shrui v56 v60
  let v62 : IVec S5x4x96x224x224 32 := ori v59 v61
  let v63 : IVec S5x4x96x224x224 32 := xori v57 v62
  let v64 : IVec S5x4x96x224x224 32 := addi v57 v63
  let c_15 : IVec S_ 32 := constantI S_ 32 24#32
  let v65 : IVec S5x4x96x224x224 32 := broadcastInDim S5x4x96x224x224 ![] bcast_S_S5x4x96x224x224 c_15
  let v66 : IVec S5x4x96x224x224 32 := Host.shli v63 v65
  let c_16 : IVec S_ 32 := constantI S_ 32 8#32
  let v67 : IVec S5x4x96x224x224 32 := broadcastInDim S5x4x96x224x224 ![] bcast_S_S5x4x96x224x224 c_16
  let v68 : IVec S5x4x96x224x224 32 := Host.shrui v63 v67
  let v69 : IVec S5x4x96x224x224 32 := ori v66 v68
  let v70 : IVec S5x4x96x224x224 32 := xori v64 v69
  let v71 : IVec S5x4x96x224x224 32 := broadcastInDim S5x4x96x224x224 ![0, 1, 2, 3, 4] bcast_S5x1x1x1x1_S5x4x96x224x224_0_1_2_3_4 v2
  let v72 : IVec S5x4x96x224x224 32 := addi v64 v71
  let v73 : IVec S5x4x96x224x224 32 := broadcastInDim S5x4x96x224x224 ![0, 1, 2, 3, 4] bcast_S5x1x1x1x1_S5x4x96x224x224_0_1_2_3_4 arg0
  let v74 : IVec S5x4x96x224x224 32 := addi v70 v73
  let c_17 : IVec S_ 32 := constantI S_ 32 2#32
  let v75 : IVec S5x4x96x224x224 32 := broadcastInDim S5x4x96x224x224 ![] bcast_S_S5x4x96x224x224 c_17
  let v76 : IVec S5x4x96x224x224 32 := addi v74 v75
  fn_threefry2x32_0_part4 (F := F) arg0 arg1 v2 v72 v76

def fn_threefry2x32_0_part2 {F : FTy → Type} [FloatOps F] (arg0 : IVec S5x1x1x1x1 32) (arg1 : IVec S5x1x1x1x1 32) (v2 : IVec S5x1x1x1x1 32) (v36 : IVec S5x4x96x224x224 32) (v38 : IVec S5x4x96x224x224 32) : IVec S5x4x96x224x224 32 × IVec S5x4x96x224x224 32 :=
  let v39 : IVec S5x4x96x224x224 32 := broadcastInDim S5x4x96x224x224 ![0, 1, 2, 3, 4] bcast_S5x1x1x1x1_S5x4x96x224x224_0_1_2_3_4 v2
  let v40 : IVec S5x4x96x224x224 32 := addi v36 v39
  let c_8 : IVec S_ 32 := constantI S_ 32 1#32
  let v41 : IVec S5x4x96x224x224 32 := broadcastInDim S5x4x96x224x224 ![] bcast_S_S5x4x96x224x224 c_8
  let v42 : IVec S5x4x96x224x224 32 := addi v40 v41
  let v43 : IVec S5x4x96x224x224 32 := addi v38 v42
  let c_9 : IVec S_ 32 := constantI S_ 32 17#32
  let v44 : IVec S5x4x96x224x224 32 := broadcastInDim S5x4x96x224x224 ![] bcast_S_S5x4x96x224x224 c_9
  let v45 : IVec S5x4x96x224x224 32 := Host.shli v42 v44
  let c_10 : IVec S_ 32 := constantI S_ 32 15#32
  let v46 : IVec S5x4x96x224x224 32 := broadcastInDim S5x4x96x224x224 ![] bcast_S_S5x4x96x224x224 c_10
  let v47 : IVec S5x4x96x224x224 32 := Host.shrui v42 v46
  let v48 : IVec S5x4x96x224x224 32 := ori v45 v47
  let v49 : IVec S5x4x96x224x224 32 := xori v43 v48
  let v50 : IVec S5x4x96x224x224 32 := addi v43 v49
  let c_11 : IVec S_ 32 := constantI S_ 32 29#32
  let v51 : IVec S5x4x96x224x224 32 := broadcastInDim S5x4x96x224x224 ![] bcast_S_S5x4x96x224x224 c_11
  let v52 : IVec S5x4x96x224x224 32 := Host.shli v49 v51
  let c_12 : IVec S_ 32 := constantI S_ 32 3#32
  let v53 : IVec S5x4x96x224x224 32 := broadcastInDim S5x4x96x224x224 ![] bcast_S_S5x4x96x224x224 c_12
  let v54 : IVec S5x4x96x224x224 32 := Host.shrui v49 v53
  let v55 : IVec S5x4x96x224x224 32 := ori v52 v54
  let v56 : IVec S5x4x96x224x224 32 := xori v50 v55
  let v57 : IVec S5x4x96x224x224 32 := addi v50 v56
  fn_threefry2x32_0_part3 (F := F) arg0 arg1 v2 v56 v57

def fn_threefry2x32_0_part1 {F : FTy → Type} [FloatOps F] (arg0 : IVec S5x1x1x1x1 32) (arg1 : IVec S5x1x1x1x1 32) (v2 : IVec S5x1x1x1x1 32) (v15 : IVec S5x4x96x224x224 32) (v16 : IVec S5x4x96x224x224 32) (v18 : IVec S5x4x96x224x224 32) (c_3 : IVec S_ 32) : IVec S5x4x96x224x224 32 × IVec S5x4x96x224x224 32 :=
  let v19 : IVec S5x4x96x224x224 32 := broadcastInDim S5x4x96x224x224 ![] bcast_S_S5x4x96x224x224 c_3
  let v20 : IVec S5x4x96x224x224 32 := Host.shrui v15 v19
  let v21 : IVec S5x4x96x224x224 32 := ori v18 v20
  let v22 : IVec S5x4x96x224x224 32 := xori v16 v21
  let v23 : IVec S5x4x96x224x224 32 := addi v16 v22
  let c_4 : IVec S_ 32 := constantI S_ 32 26#32
  let v24 : IVec S5x4x96x224x224 32 := broadcastInDim S5x4x96x224x224 ![] bcast_S_S5x4x96x224x224 c_4
  let v25 : IVec S5x4x96x224x224 32 := Host.shli v22 v24
  let c_5 : IVec S_ 32 := constantI S_ 32 6#32
  let v26 : IVec S5x4x96x224x224 32 := broadcastInDim S5x4x96x224x224 ![] bcast_S_S5x4x96x224x224 c_5
  let v27 : IVec S5x4x96x224x224 32 := Host.shrui v22 v26
  let v28 : IVec S5x4x96x224x224 32 := ori v25 v27
  let v29 : IVec S5x4x96x224x224 32 := xori v23 v28
  let v30 : IVec S5x4x96x224x224 32 := addi v23 v29
  let c_6 : IVec S_ 32 := constantI S_ 32 6#32
  let v31 : IVec S5x4x96x224x224 32 := broadcastInDim S5x4x96x224x224 ![] bcast_S_S5x4x96x224x224 c_6
  let v32 : IVec S5x4x96x224x224 32 := Host.shli v29 v31
  let c_7 : IVec S_ 32 := constantI S_ 32 26#32
  let v33 : IVec S5x4x96x224x224 32 := broadcastInDim S5x4x96x224x224 ![] bcast_S_S5x4x96x224x224 c_7
  let v34 : IVec S5x4x96x224x224 32 := Host.shrui v29 v33
  let v35 : IVec S5x4x96x224x224 32 := ori v32 v34
  let v36 : IVec S5x4x96x224x224 32 := xori v30 v35
  let v37 : IVec S5x4x96x224x224 32 := broadcastInDim S5x4x96x224x224 ![0, 1, 2, 3, 4] bcast_S5x1x1x1x1_S5x4x96x224x224_0_1_2_3_4 arg1
  let v38 : IVec S5x4x96x224x224 32 := addi v30 v37
  fn_threefry2x32_0_part2 (F := F) arg0 arg1 v2 v36 v38

def fn_threefry2x32_0 {F : FTy → Type} [FloatOps F] (arg0 : IVec S5x1x1x1x1 32) (arg1 : IVec S5x1x1x1x1 32) (arg2 : IVec S1x4x96x224x224 32) (arg3 : IVec S1x4x96x224x224 32) : IVec S5x4x96x224x224 32 × IVec S5x4x96x224x224 32 :=
  let v0 : IVec S5x1x1x1x1 32 := xori arg0 arg1
  let c : IVec S_ 32 := constantI S_ 32 466688986#32
  let v1 : IVec S5x1x1x1x1 32 := broadcastInDim S5x1x1x1x1 ![] bcast_S_S5x1x1x1x1 c
  let v2 : IVec S5x1x1x1x1 32 := xori v0 v1
  let v3 : IVec S5x4x96x224x224 32 := broadcastInDim S5x4x96x224x224 ![0, 1, 2, 3, 4] bcast_S1x4x96x224x224_S5x4x96x224x224_0_1_2_3_4 arg2
  let v4 : IVec S5x4x96x224x224 32 := broadcastInDim S5x4x96x224x224 ![0, 1, 2, 3, 4] bcast_S5x1x1x1x1_S5x4x96x224x224_0_1_2_3_4 arg0
  let v5 : IVec S5x4x96x224x224 32 := addi v3 v4
  let v6 : IVec S5x4x96x224x224 32 := broadcastInDim S5x4x96x224x224 ![0, 1, 2, 3, 4] bcast_S1x4x96x224x224_S5x4x96x224x224_0_1_2_3_4 arg3
  let v7 : IVec S5x4x96x224x224 32 := broadcastInDim S5x4x96x224x224 ![0, 1, 2, 3, 4] bcast_S5x1x1x1x1_S5x4x96x224x224_0_1_2_3_4 arg1
  let v8 : IVec S5x4x96x224x224 32 := addi v6 v7
  let v9 : IVec S5x4x96x224x224 32 := addi v5 v8
  let c_0 : IVec S_ 32 := constantI S_ 32 13#32
  let v10 : IVec S5x4x96x224x224 32 := broadcastInDim S5x4x96x224x224 ![] bcast_S_S5x4x96x224x224 c_0
  let v11 : IVec S5x4x96x224x224 32 := Host.shli v8 v10
  let c_1 : IVec S_ 32 := constantI S_ 32 19#32
  let v12 : IVec S5x4x96x224x224 32 := broadcastInDim S5x4x96x224x224 ![] bcast_S_S5x4x96x224x224 c_1
  let v13 : IVec S5x4x96x224x224 32 := Host.shrui v8 v12
  let v14 : IVec S5x4x96x224x224 32 := ori v11 v13
  let v15 : IVec S5x4x96x224x224 32 := xori v9 v14
  let v16 : IVec S5x4x96x224x224 32 := addi v9 v15
  let c_2 : IVec S_ 32 := constantI S_ 32 15#32
  let v17 : IVec S5x4x96x224x224 32 := broadcastInDim S5x4x96x224x224 ![] bcast_S_S5x4x96x224x224 c_2
  let v18 : IVec S5x4x96x224x224 32 := Host.shli v15 v17
  let c_3 : IVec S_ 32 := constantI S_ 32 17#32
  fn_threefry2x32_0_part1 (F := F) arg0 arg1 v2 v15 v16 v18 c_3

def fn_uniform_part2 {F : FTy → Type} [FloatOps F] (v2 : FVec F S1x1x1x1 .f32) (v3 : FVec F S1x1x1x1 .f32) (v37 : FVec F S5x4x96x224x224 .f32) (v38 : FVec F S5x4x96x224x224 .f32) : FVec F S5x4x96x224x224 .f32 :=
  let v39 : FVec F S5x4x96x224x224 .f32 := subf v37 v38
  let v40 : FVec F S1x1x1x1 .f32 := subf v3 v2
  let v41 : FVec F S1x1x1x1x1 .f32 := broadcastInDim S1x1x1x1x1 ![1, 2, 3, 4] bcast_S1x1x1x1_S1x1x1x1x1_1_2_3_4 v40
  let v42 : FVec F S5x4x96x224x224 .f32 := broadcastInDim S5x4x96x224x224 ![0, 1, 2, 3, 4] bcast_S1x1x1x1x1_S5x4x96x224x224_0_1_2_3_4 v41
  let v43 : FVec F S5x4x96x224x224 .f32 := mulf v39 v42
  let v44 : FVec F S1x1x1x1x1 .f32 := broadcastInDim S1x1x1x1x1 ![1, 2, 3, 4] bcast_S1x1x1x1_S1x1x1x1x1_1_2_3_4 v2
  let v45 : FVec F S5x4x96x224x224 .f32 := broadcastInDim S5x4x96x224x224 ![0, 1, 2, 3, 4] bcast_S1x1x1x1x1_S5x4x96x224x224_0_1_2_3_4 v44
  let v46 : FVec F S5x4x96x224x224 .f32 := addf v43 v45
  let v47 : FVec F S1x1x1x1x1 .f32 := broadcastInDim S1x1x1x1x1 ![1, 2, 3, 4] bcast_S1x1x1x1_S1x1x1x1x1_1_2_3_4 v2
  let v48 : FVec F S5x4x96x224x224 .f32 := broadcastInDim S5x4x96x224x224 ![0, 1, 2, 3, 4] bcast_S1x1x1x1x1_S5x4x96x224x224_0_1_2_3_4 v47
  let v49 : FVec F S5x4x96x224x224 .f32 := maximumf v48 v46
  v49

def fn_uniform_part1 {F : FTy → Type} [FloatOps F] (v2 : FVec F S1x1x1x1 .f32) (v3 : FVec F S1x1x1x1 .f32) (v5 : IVec S5 32) (v7 : IVec S5 32) (v13 : IVec S4x96x224x224 64) (v15 : IVec S4x96x224x224 64) (v17 : IVec S4x96x224x224 64) (v19 : IVec S4x96x224x224 64) : FVec F S5x4x96x224x224 .f32 :=
  let v20 : IVec S4x96x224x224 64 := addi v13 v15
  let v21 : IVec S4x96x224x224 64 := addi v20 v17
  let v22 : IVec S4x96x224x224 64 := addi v21 v19
  let c_3 : IVec S_ 64 := constantI S_ 64 32#64
  let v23 : IVec S4x96x224x224 64 := broadcastInDim S4x96x224x224 ![] bcast_S_S4x96x224x224 c_3
  let v24 : IVec S4x96x224x224 64 := Host.shrui v22 v23
  let v25 : IVec S4x96x224x224 32 := (trunci 32 · natLt_32_64) v22
  let v26 : IVec S4x96x224x224 32 := (trunci 32 · natLt_32_64) v24
  let v27 : IVec S1x4x96x224x224 32 := broadcastInDim S1x4x96x224x224 ![1, 2, 3, 4] bcast_S4x96x224x224_S1x4x96x224x224_1_2_3_4 v26
  let v28 : IVec S1x4x96x224x224 32 := broadcastInDim S1x4x96x224x224 ![1, 2, 3, 4] bcast_S4x96x224x224_S1x4x96x224x224_1_2_3_4 v25
  let v29 : IVec S5x1x1x1x1 32 := broadcastInDim S5x1x1x1x1 ![0] bcast_S5_S5x1x1x1x1_0 v5
  let v30 : IVec S5x1x1x1x1 32 := broadcastInDim S5x1x1x1x1 ![0] bcast_S5_S5x1x1x1x1_0 v7
  let v31_0 : IVec S5x4x96x224x224 32 := (fn_threefry2x32_0 (F := F) v29 v30 v27 v28).1
  let v31_1 : IVec S5x4x96x224x224 32 := (fn_threefry2x32_0 (F := F) v29 v30 v27 v28).2
  let v32 : IVec S5x4x96x224x224 32 := xori v31_0 v31_1
  let c_4 : IVec S_ 32 := constantI S_ 32 9#32
  let v33 : IVec S5x4x96x224x224 32 := broadcastInDim S5x4x96x224x224 ![] bcast_S_S5x4x96x224x224 c_4
  let v34 : IVec S5x4x96x224x224 32 := Host.shrui v32 v33
  let c_5 : IVec S_ 32 := constantI S_ 32 1065353216#32
  let v35 : IVec S5x4x96x224x224 32 := broadcastInDim S5x4x96x224x224 ![] bcast_S_S5x4x96x224x224 c_5
  let v36 : IVec S5x4x96x224x224 32 := ori v34 v35
  let v37 : FVec F S5x4x96x224x224 .f32 := bitcastToFloat .f32 v36
  let cst : FVec F S_ .f32 := constant S_ .f32 0x3F800000#32
  let v38 : FVec F S5x4x96x224x224 .f32 := broadcastInDim S5x4x96x224x224 ![] bcast_S_S5x4x96x224x224 cst
  fn_uniform_part2 (F := F) v2 v3 v37 v38

def fn_uniform {F : FTy → Type} [FloatOps F] (arg0 : IVec S5x2 32) (arg1 : FVec F S_ .f32) (arg2 : FVec F S_ .f32) : FVec F S5x4x96x224x224 .f32 :=
  let v0 : FVec F S_ .f32 := id arg1
  let v1 : FVec F S_ .f32 := id arg2
  let v2 : FVec F S1x1x1x1 .f32 := broadcastInDim S1x1x1x1 ![] bcast_S_S1x1x1x1 v0
  let v3 : FVec F S1x1x1x1 .f32 := broadcastInDim S1x1x1x1 ![] bcast_S_S1x1x1x1 v1
  let v4 : IVec S5x1 32 := (extractStridedSlice S5x1 ![0, 0] · slices_S5x2_S5x1_0_0) arg0
  let v5 : IVec S5 32 := shapeCast S5 v4 shapeCasts_S5x1_S5
  let v6 : IVec S5x1 32 := (extractStridedSlice S5x1 ![0, 1] · slices_S5x2_S5x1_0_1) arg0
  let v7 : IVec S5 32 := shapeCast S5 v6 shapeCasts_S5x1_S5
  let v8 : IVec S4x96x224x224 64 := iotaInDim S4x96x224x224 64 0
  let v9 : IVec S4x96x224x224 64 := iotaInDim S4x96x224x224 64 1
  let v10 : IVec S4x96x224x224 64 := iotaInDim S4x96x224x224 64 2
  let v11 : IVec S4x96x224x224 64 := iotaInDim S4x96x224x224 64 3
  let c : IVec S_ 64 := constantI S_ 64 4816896#64
  let v12 : IVec S4x96x224x224 64 := broadcastInDim S4x96x224x224 ![] bcast_S_S4x96x224x224 c
  let v13 : IVec S4x96x224x224 64 := muli v12 v8
  let c_0 : IVec S_ 64 := constantI S_ 64 50176#64
  let v14 : IVec S4x96x224x224 64 := broadcastInDim S4x96x224x224 ![] bcast_S_S4x96x224x224 c_0
  let v15 : IVec S4x96x224x224 64 := muli v14 v9
  let c_1 : IVec S_ 64 := constantI S_ 64 224#64
  let v16 : IVec S4x96x224x224 64 := broadcastInDim S4x96x224x224 ![] bcast_S_S4x96x224x224 c_1
  let v17 : IVec S4x96x224x224 64 := muli v16 v10
  let c_2 : IVec S_ 64 := constantI S_ 64 1#64
  let v18 : IVec S4x96x224x224 64 := broadcastInDim S4x96x224x224 ![] bcast_S_S4x96x224x224 c_2
  let v19 : IVec S4x96x224x224 64 := muli v18 v11
  fn_uniform_part1 (F := F) v2 v3 v5 v7 v13 v15 v17 v19

def fn_part2 {F : FTy → Type} [FloatOps F] (main_v30 : IVec S4x96x2 1) (main_v32 : IVec S4x96x224x224 1) (main_c_12 : IVec S_ 1) : IVec S4x96x224x224 1 × IVec S4x96x2 1 × IVec S4x96x2 1 × IVec S4x96 1 :=
  let main_v33 : IVec S4x96 1 := broadcastInDim S4x96 ![] bcast_S_S4x96 main_c_12
  (main_v32, main_v30, main_v30, main_v33)

def fn_part1 {F : FTy → Type} [FloatOps F] (main_v5 : FVec F S4x96x224x224 .f32) (main_v16 : FVec F S5x4x96x224x224 .f32) : IVec S4x96x224x224 1 × IVec S4x96x2 1 × IVec S4x96x2 1 × IVec S4x96 1 :=
  let main_v17 : FVec F S1x4x96x224x224 .f32 := broadcastInDim S1x4x96x224x224 ![1, 2, 3, 4] bcast_S4x96x224x224_S1x4x96x224x224_1_2_3_4 main_v5
  let main_v18 : FVec F S5x4x96x224x224 .f32 := broadcastInDim S5x4x96x224x224 ![0, 1, 2, 3, 4] bcast_S1x4x96x224x224_S5x4x96x224x224_0_1_2_3_4 main_v17
  let main_v19 : FVec F S5x4x96x224x224 .f32 := mulf main_v18 main_v16
  let main_v20 : FVec F S5x4x96x50176 .f32 := shapeCast S5x4x96x50176 main_v19 shapeCasts_S5x4x96x224x224_S5x4x96x50176
  let main_cst_5 : FVec F S_ .f32 := constant S_ .f32 0xFF800000#32
  let main_v21 : FVec F S5x4x96 .f32 := (fun x v => Host.reduce FloatOps.maximumf x v reducesTo_S5x4x96x50176_S5x4x96_d3 h_S_) main_v20 main_cst_5
  let main_cst_6 : FVec F S_ .f32 := constant S_ .f32 0x3DCCCCCD#32
  let main_v22 : FVec F S5x4x96 .f32 := broadcastInDim S5x4x96 ![] bcast_S_S5x4x96 main_cst_6
  let main_v23 : IVec S5x4x96 1 := cmpf .oge main_v21 main_v22
  let main_v24 : FVec F S5x4x96 .f32 := uitofp .f32 main_v23
  let main_cst_7 : FVec F S_ .f32 := constant S_ .f32 0x00000000#32
  let main_v25 : FVec F S4x96 .f32 := (fun x v => Host.reduceAdd x v reducesTo_S5x4x96_S4x96_d0 h_S_) main_v24 main_cst_7
  let main_cst_8 : FVec F S_ .f32 := constant S_ .f32 0x40A00000#32
  let main_v26 : FVec F S4x96 .f32 := broadcastInDim S4x96 ![] bcast_S_S4x96 main_cst_8
  let main_v27 : FVec F S4x96 .f32 := Host.divf main_v25 main_v26
  let main_cst_9 : FVec F S_ .f32 := constant S_ .f32 0x3F000000#32
  let main_v28 : FVec F S4x96 .f32 := broadcastInDim S4x96 ![] bcast_S_S4x96 main_cst_9
  let main_v29 : IVec S4x96 1 := cmpf .ogt main_v27 main_v28
  let main_c_10 : IVec S_ 1 := constantI S_ 1 1#1
  let main_v30 : IVec S4x96x2 1 := broadcastInDim S4x96x2 ![] bcast_S_S4x96x2 main_c_10
  let main_c_11 : IVec S_ 1 := constantI S_ 1 0#1
  let main_v31 : IVec S_ 1 := (fun x v => Host.reduce IntOp.ori x v reducesTo_S4x96_S_d0_1 h_S_) main_v29 main_c_11
  let main_v32 : IVec S4x96x224x224 1 := broadcastInDim S4x96x224x224 ![] bcast_S_S4x96x224x224 main_v31
  let main_c_12 : IVec S_ 1 := constantI S_ 1 1#1
  fn_part2 (F := F) main_v30 main_v32 main_c_12

def fn {F : FTy → Type} [FloatOps F] (main_arg0 : FVec F S4x96x224x224 .f32) : IVec S4x96x224x224 1 × IVec S4x96x2 1 × IVec S4x96x2 1 × IVec S4x96 1 :=
  let main_v0 : FVec F S4x96x224x224 .f32 := Host.negf main_arg0
  let main_v1 : FVec F S4x96x224x224 .f32 := Host.exp main_v0
  let main_cst : FVec F S_ .f32 := constant S_ .f32 0x3F800000#32
  let main_v2 : FVec F S4x96x224x224 .f32 := broadcastInDim S4x96x224x224 ![] bcast_S_S4x96x224x224 main_cst
  let main_v3 : FVec F S4x96x224x224 .f32 := addf main_v2 main_v1
  let main_cst_0 : FVec F S_ .f32 := constant S_ .f32 0x3F800000#32
  let main_v4 : FVec F S4x96x224x224 .f32 := broadcastInDim S4x96x224x224 ![] bcast_S_S4x96x224x224 main_cst_0
  let main_v5 : FVec F S4x96x224x224 .f32 := Host.divf main_v4 main_v3
  let main_c : IVec S_ 32 := constantI S_ 32 42#32
  let main_c_1 : IVec S_ 32 := constantI S_ 32 32#32
  let main_v6 : IVec S_ 32 := Host.shrui main_c main_c_1
  let main_v7 : IVec S_ 32 := id main_v6
  let main_v8 : IVec S1 32 := broadcastInDim S1 ![] bcast_S_S1 main_v7
  let main_c_2 : IVec S_ 32 := constantI S_ 32 4294967295#32
  let main_v9 : IVec S_ 32 := andi main_c main_c_2
  let main_v10 : IVec S_ 32 := id main_v9
  let main_v11 : IVec S1 32 := broadcastInDim S1 ![] bcast_S_S1 main_v10
  let main_v12 : IVec S2 32 := (fun a b => concatenate S2 0 [⟨S1, a⟩, ⟨S1, b⟩] concatenates_S1_S1_S2_d0) main_v8 main_v11
  let main_v13 : IVec S5 32 := iotaInDim S5 32 0
  let main_v14 : IVec S5 32 := id main_v13
  let main_v15 : IVec S5x2 32 := fn_threefry_fold_in (F := F) main_v12 main_v14
  let main_cst_3 : FVec F S_ .f32 := constant S_ .f32 0x00000000#32
  let main_cst_4 : FVec F S_ .f32 := constant S_ .f32 0x3F800000#32
  let main_v16 : FVec F S5x4x96x224x224 .f32 := fn_uniform (F := F) main_v15 main_cst_3 main_cst_4
  fn_part1 (F := F) main_v5 main_v16
-- ==== Kernel.lean ====
abbrev S4x96x224x224 : Shape := ⟨4, ![4, 96, 224, 224]⟩
abbrev S_ : Shape := ⟨0, ![]⟩
abbrev S384x392x128 : Shape := ⟨3, ![384, 392, 128]⟩
abbrev S6x5x64 : Shape := ⟨3, ![6, 5, 64]⟩
abbrev S64x392x128 : Shape := ⟨3, ![64, 392, 128]⟩
abbrev S1x5x64 : Shape := ⟨3, ![1, 5, 64]⟩
abbrev S64x392 : Shape := ⟨2, ![64, 392]⟩
abbrev S64 : Shape := ⟨1, ![64]⟩
abbrev S64x1x1 : Shape := ⟨3, ![64, 1, 1]⟩
abbrev S1x1x64 : Shape := ⟨3, ![1, 1, 64]⟩
abbrev S5x6x64 : Shape := ⟨3, ![5, 6, 64]⟩
abbrev S5x4x96 : Shape := ⟨3, ![5, 4, 96]⟩
abbrev S5x4x96x1 : Shape := ⟨4, ![5, 4, 96, 1]⟩
abbrev S5x4x96x2 : Shape := ⟨4, ![5, 4, 96, 2]⟩
abbrev S4x96x2 : Shape := ⟨3, ![4, 96, 2]⟩
abbrev S1x4x96x2 : Shape := ⟨4, ![1, 4, 96, 2]⟩
abbrev S4x96 : Shape := ⟨2, ![4, 96]⟩
abbrev S4x96x1 : Shape := ⟨3, ![4, 96, 1]⟩
abbrev S6 : Shape := ⟨1, ![6]⟩
abbrev S1 : Shape := ⟨1, ![1]⟩
abbrev S7 : Shape := ⟨1, ![7]⟩
abbrev S224 : Shape := ⟨1, ![224]⟩
abbrev S4x96x224 : Shape := ⟨3, ![4, 96, 224]⟩
abbrev S1x1x224 : Shape := ⟨3, ![1, 1, 224]⟩
abbrev S384x224 : Shape := ⟨2, ![384, 224]⟩
abbrev S384x224x224 : Shape := ⟨3, ![384, 224, 224]⟩
abbrev S64x224 : Shape := ⟨2, ![64, 224]⟩
abbrev S64x224x224 : Shape := ⟨3, ![64, 224, 224]⟩
abbrev S64x224x1 : Shape := ⟨3, ![64, 224, 1]⟩
abbrev S64x1x224 : Shape := ⟨3, ![64, 1, 224]⟩

abbrev nBuf : Space → Nat
  | .hbm => 788
  | .vmem => 12
  | .smem => 0
  | _ => 0

abbrev hbmTy0_0 (i : Nat) : BufTy := match i % 128 with
  | 0 => ⟨S4x96x224x224, .f32⟩
  | 1 => ⟨S4x96x224x224, .f32⟩
  | 2 => ⟨S4x96x224x224, .f32⟩
  | 3 => ⟨S_, .f32⟩
  | 4 => ⟨S4x96x224x224, .f32⟩
  | 5 => ⟨S4x96x224x224, .f32⟩
  | 6 => ⟨S_, .f32⟩
  | 7 => ⟨S4x96x224x224, .f32⟩
  | 8 => ⟨S4x96x224x224, .f32⟩
  | 9 => ⟨S384x392x128, .f32⟩
  | 10 => ⟨S6x5x64, .f32⟩
  | 11 => ⟨S6x5x64, .i32⟩
  | 12 => ⟨S5x6x64, .f32⟩
  | 13 => ⟨S5x4x96, .f32⟩
  | 14 => ⟨S5x6x64, .i32⟩
  | 15 => ⟨S5x4x96, .i32⟩
  | 16 => ⟨S_, .i32⟩
  | 17 => ⟨S_, .i32⟩
  | 18 => ⟨S5x4x96, .i32⟩
  | 19 => ⟨S5x4x96, .i32⟩
  | 20 => ⟨S5x4x96, .i32⟩
  | 21 => ⟨S_, .i32⟩
  | 22 => ⟨S5x4x96, .i32⟩
  | 23 => ⟨S5x4x96, .i1⟩
  | 24 => ⟨S5x4x96, .i32⟩
  | 25 => ⟨S5x4x96, .i32⟩
  | 26 => ⟨S_, .i32⟩
  | 27 => ⟨S5x4x96, .i32⟩
  | 28 => ⟨S5x4x96, .i1⟩
  | 29 => ⟨S5x4x96, .i1⟩
  | 30 => ⟨S_, .i32⟩
  | 31 => ⟨S5x4x96, .i32⟩
  | 32 => ⟨S5x4x96, .i32⟩
  | 33 => ⟨S5x4x96, .i32⟩
  | 34 => ⟨S5x4x96, .f32⟩
  | 35 => ⟨S_, .f32⟩
  | 36 => ⟨S5x4x96, .f32⟩
  | 37 => ⟨S5x4x96, .f32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S5x4x96, .i32⟩
  | 45 => ⟨S5x4x96, .i32⟩
  | 46 => ⟨S_, .i32⟩
  | 47 => ⟨S5x4x96, .i32⟩
  | 48 => ⟨S5x4x96, .i1⟩
  | 49 => ⟨S_, .i32⟩
  | 50 => ⟨S5x4x96, .i32⟩
  | 51 => ⟨S5x4x96, .i1⟩
  | 52 => ⟨S_, .i32⟩
  | 53 => ⟨S_, .i1⟩
  | 54 => ⟨S5x4x96, .i1⟩
  | 55 => ⟨S5x4x96, .i1⟩
  | 56 => ⟨S5x4x96, .i1⟩
  | 57 => ⟨S5x4x96, .i32⟩
  | 58 => ⟨S5x4x96, .i32⟩
  | 59 => ⟨S5x4x96, .i32⟩
  | 60 => ⟨S5x4x96, .f32⟩
  | 61 => ⟨S_, .f32⟩
  | 62 => ⟨S5x4x96, .f32⟩
  | 63 => ⟨S5x4x96, .f32⟩
  | 64 => ⟨S5x4x96x1, .f32⟩
  | 65 => ⟨S5x4x96x1, .f32⟩
  | 66 => ⟨S5x4x96x2, .f32⟩
  | 67 => ⟨S_, .f32⟩
  | 68 => ⟨S5x4x96, .f32⟩
  | 69 => ⟨S5x4x96, .i1⟩
  | 70 => ⟨S5x4x96x1, .i1⟩
  | 71 => ⟨S5x4x96x1, .f32⟩
  | 72 => ⟨S5x4x96x2, .f32⟩
  | 73 => ⟨S5x4x96x2, .f32⟩
  | 74 => ⟨S_, .f32⟩
  | 75 => ⟨S4x96x2, .f32⟩
  | 76 => ⟨S_, .f32⟩
  | 77 => ⟨S4x96x2, .f32⟩
  | 78 => ⟨S4x96x2, .f32⟩
  | 79 => ⟨S_, .i32⟩
  | 80 => ⟨S_, .f32⟩
  | 81 => ⟨S4x96x2, .f32⟩
  | 82 => ⟨S1x4x96x2, .f32⟩
  | 83 => ⟨S_, .f32⟩
  | 84 => ⟨S1x4x96x2, .f32⟩
  | 85 => ⟨S1x4x96x2, .f32⟩
  | 86 => ⟨S5x4x96x2, .f32⟩
  | 87 => ⟨S5x4x96x2, .f32⟩
  | 88 => ⟨S5x4x96x2, .f32⟩
  | 89 => ⟨S_, .f32⟩
  | 90 => ⟨S_, .f32⟩
  | 91 => ⟨S_, .f32⟩
  | 92 => ⟨S_, .f32⟩
  | 93 => ⟨S4x96x2, .f32⟩
  | 94 => ⟨S4x96x2, .f32⟩
  | 95 => ⟨S4x96x2, .f32⟩
  | 96 => ⟨S_, .f32⟩
  | 97 => ⟨S_, .i1⟩
  | 98 => ⟨S_, .f32⟩
  | 99 => ⟨S_, .f32⟩
  | 100 => ⟨S4x96x2, .f32⟩
  | 101 => ⟨S4x96x2, .f32⟩
  | 102 => ⟨S5x4x96, .f32⟩
  | 103 => ⟨S_, .f32⟩
  | 104 => ⟨S4x96, .f32⟩
  | 105 => ⟨S_, .f32⟩
  | 106 => ⟨S4x96, .f32⟩
  | 107 => ⟨S4x96, .f32⟩
  | 108 => ⟨S_, .f32⟩
  | 109 => ⟨S4x96, .f32⟩
  | 110 => ⟨S4x96, .i1⟩
  | 111 => ⟨S4x96x1, .i1⟩
  | 112 => ⟨S4x96x1, .f32⟩
  | 113 => ⟨S4x96x2, .f32⟩
  | 114 => ⟨S4x96x2, .f32⟩
  | 115 => ⟨S4x96x2, .f32⟩
  | 116 => ⟨S4x96x2, .f32⟩
  | 117 => ⟨S4x96x1, .f32⟩
  | 118 => ⟨S4x96, .f32⟩
  | 119 => ⟨S_, .f32⟩
  | 120 => ⟨S4x96, .f32⟩
  | 121 => ⟨S4x96, .f32⟩
  | 122 => ⟨S4x96, .f32⟩
  | 123 => ⟨S4x96, .i32⟩
  | 124 => ⟨S_, .i32⟩
  | 125 => ⟨S_, .i32⟩
  | 126 => ⟨S_, .i32⟩
  | 127 => ⟨S4x96, .i32⟩
  | _ => ⟨S4x96x224x224, .f32⟩

abbrev hbmTy0_1 (i : Nat) : BufTy := match i % 128 with
  | 0 => ⟨S4x96, .i32⟩
  | 1 => ⟨S_, .i32⟩
  | 2 => ⟨S4x96, .i32⟩
  | 3 => ⟨S4x96, .i32⟩
  | 4 => ⟨S4x96x1, .f32⟩
  | 5 => ⟨S4x96, .f32⟩
  | 6 => ⟨S_, .f32⟩
  | 7 => ⟨S4x96, .f32⟩
  | 8 => ⟨S4x96, .f32⟩
  | 9 => ⟨S4x96, .f32⟩
  | 10 => ⟨S4x96, .i32⟩
  | 11 => ⟨S_, .i32⟩
  | 12 => ⟨S_, .i32⟩
  | 13 => ⟨S_, .i32⟩
  | 14 => ⟨S4x96, .i32⟩
  | 15 => ⟨S4x96, .i32⟩
  | 16 => ⟨S_, .i32⟩
  | 17 => ⟨S4x96, .i32⟩
  | 18 => ⟨S4x96, .i32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S6, .f32⟩
  | 27 => ⟨S_, .f32⟩
  | 28 => ⟨S6, .f32⟩
  | 29 => ⟨S6, .f32⟩
  | 30 => ⟨S1, .f32⟩
  | 31 => ⟨S_, .f32⟩
  | 32 => ⟨S6, .f32⟩
  | 33 => ⟨S6, .f32⟩
  | 34 => ⟨S6, .f32⟩
  | 35 => ⟨S6, .f32⟩
  | 36 => ⟨S1, .f32⟩
  | 37 => ⟨S6, .f32⟩
  | 38 => ⟨S6, .f32⟩
  | 39 => ⟨S6, .f32⟩
  | 40 => ⟨S1, .f32⟩
  | 41 => ⟨S7, .f32⟩
  | 42 => ⟨S_, .f32⟩
  | 43 => ⟨S7, .f32⟩
  | 44 => ⟨S7, .f32⟩
  | 45 => ⟨S7, .f32⟩
  | 46 => ⟨S_, .f32⟩
  | 47 => ⟨S7, .f32⟩
  | 48 => ⟨S7, .f32⟩
  | 49 => ⟨S7, .f32⟩
  | 50 => ⟨S_, .f32⟩
  | 51 => ⟨S_, .f32⟩
  | 52 => ⟨S7, .f32⟩
  | 53 => ⟨S7, .f32⟩
  | 54 => ⟨S4x96, .f32⟩
  | 55 => ⟨S224, .i32⟩
  | 56 => ⟨S4x96x1, .i32⟩
  | 57 => ⟨S_, .f32⟩
  | 58 => ⟨S4x96x224, .f32⟩
  | 59 => ⟨S_, .i32⟩
  | 60 => ⟨S4x96x1, .i32⟩
  | 61 => ⟨S4x96x1, .i32⟩
  | 62 => ⟨S_, .i1⟩
  | 63 => ⟨S4x96x1, .i1⟩
  | 64 => ⟨S_, .i32⟩
  | 65 => ⟨S4x96x1, .i32⟩
  | 66 => ⟨S4x96x1, .i32⟩
  | 67 => ⟨S_, .i32⟩
  | 68 => ⟨S4x96x1, .i32⟩
  | 69 => ⟨S4x96x1, .i1⟩
  | 70 => ⟨S_, .i32⟩
  | 71 => ⟨S4x96x1, .i32⟩
  | 72 => ⟨S4x96x1, .i1⟩
  | 73 => ⟨S4x96x1, .i1⟩
  | 74 => ⟨S_, .i32⟩
  | 75 => ⟨S4x96x1, .i32⟩
  | 76 => ⟨S4x96x1, .i32⟩
  | 77 => ⟨S_, .i32⟩
  | 78 => ⟨S4x96x1, .i32⟩
  | 79 => ⟨S4x96x1, .i1⟩
  | 80 => ⟨S_, .i32⟩
  | 81 => ⟨S4x96x1, .i32⟩
  | 82 => ⟨S4x96x1, .i1⟩
  | 83 => ⟨S4x96x1, .i1⟩
  | 84 => ⟨S1x1x224, .i32⟩
  | 85 => ⟨S4x96x224, .i32⟩
  | 86 => ⟨S4x96x224, .i32⟩
  | 87 => ⟨S4x96x224, .i32⟩
  | 88 => ⟨S_, .i32⟩
  | 89 => ⟨S4x96x224, .i32⟩
  | 90 => ⟨S4x96x224, .i1⟩
  | 91 => ⟨S4x96x224, .i1⟩
  | 92 => ⟨S4x96x224, .i1⟩
  | 93 => ⟨S1, .f32⟩
  | 94 => ⟨S_, .f32⟩
  | 95 => ⟨S_, .f32⟩
  | 96 => ⟨S4x96x224, .f32⟩
  | 97 => ⟨S4x96x224, .f32⟩
  | 98 => ⟨S4x96x224, .f32⟩
  | 99 => ⟨S4x96x224, .f32⟩
  | 100 => ⟨S_, .i32⟩
  | 101 => ⟨S4x96x224, .i32⟩
  | 102 => ⟨S4x96x224, .i1⟩
  | 103 => ⟨S4x96x224, .i1⟩
  | 104 => ⟨S4x96x224, .i1⟩
  | 105 => ⟨S1, .f32⟩
  | 106 => ⟨S_, .f32⟩
  | 107 => ⟨S_, .f32⟩
  | 108 => ⟨S4x96x224, .f32⟩
  | 109 => ⟨S4x96x224, .f32⟩
  | 110 => ⟨S4x96x224, .f32⟩
  | 111 => ⟨S4x96x224, .f32⟩
  | 112 => ⟨S_, .i32⟩
  | 113 => ⟨S4x96x224, .i32⟩
  | 114 => ⟨S4x96x224, .i1⟩
  | 115 => ⟨S4x96x224, .i1⟩
  | 116 => ⟨S4x96x224, .i1⟩
  | 117 => ⟨S1, .f32⟩
  | 118 => ⟨S_, .f32⟩
  | 119 => ⟨S_, .f32⟩
  | 120 => ⟨S4x96x224, .f32⟩
  | 121 => ⟨S4x96x224, .f32⟩
  | 122 => ⟨S4x96x224, .f32⟩
  | 123 => ⟨S4x96x224, .f32⟩
  | 124 => ⟨S_, .i32⟩
  | 125 => ⟨S4x96x224, .i32⟩
  | 126 => ⟨S4x96x224, .i1⟩
  | 127 => ⟨S4x96x224, .i1⟩
  | _ => ⟨S4x96x224x224, .f32⟩

abbrev hbmTy0_2 (i : Nat) : BufTy := match i % 128 with
  | 0 => ⟨S4x96x224, .i1⟩
  | 1 => ⟨S1, .f32⟩
  | 2 => ⟨S_, .f32⟩
  | 3 => ⟨S_, .f32⟩
  | 4 => ⟨S4x96x224, .f32⟩
  | 5 => ⟨S4x96x224, .f32⟩
  | 6 => ⟨S4x96x224, .f32⟩
  | 7 => ⟨S4x96x224, .f32⟩
  | 8 => ⟨S_, .i32⟩
  | 9 => ⟨S4x96x224, .i32⟩
  | 10 => ⟨S4x96x224, .i1⟩
  | 11 => ⟨S4x96x224, .i1⟩
  | 12 => ⟨S4x96x224, .i1⟩
  | 13 => ⟨S1, .f32⟩
  | 14 => ⟨S_, .f32⟩
  | 15 => ⟨S_, .f32⟩
  | 16 => ⟨S4x96x224, .f32⟩
  | 17 => ⟨S4x96x224, .f32⟩
  | 18 => ⟨S4x96x224, .f32⟩
  | 19 => ⟨S4x96x224, .f32⟩
  | 20 => ⟨S_, .i32⟩
  | 21 => ⟨S4x96x224, .i32⟩
  | 22 => ⟨S4x96x224, .i1⟩
  | 23 => ⟨S4x96x224, .i1⟩
  | 24 => ⟨S4x96x224, .i1⟩
  | 25 => ⟨S1, .f32⟩
  | 26 => ⟨S_, .f32⟩
  | 27 => ⟨S_, .f32⟩
  | 28 => ⟨S4x96x224, .f32⟩
  | 29 => ⟨S4x96x224, .f32⟩
  | 30 => ⟨S4x96x224, .f32⟩
  | 31 => ⟨S4x96x224, .f32⟩
  | 32 => ⟨S_, .i32⟩
  | 33 => ⟨S4x96x224, .i32⟩
  | 34 => ⟨S4x96x224, .i1⟩
  | 35 => ⟨S4x96x224, .i1⟩
  | 36 => ⟨S4x96x224, .i1⟩
  | 37 => ⟨S1, .f32⟩
  | 38 => ⟨S_, .f32⟩
  | 39 => ⟨S_, .f32⟩
  | 40 => ⟨S4x96x224, .f32⟩
  | 41 => ⟨S4x96x224, .f32⟩
  | 42 => ⟨S4x96x224, .f32⟩
  | 43 => ⟨S4x96x224, .f32⟩
  | 44 => ⟨S1x1x224, .i32⟩
  | 45 => ⟨S4x96x224, .i32⟩
  | 46 => ⟨S4x96x224, .i32⟩
  | 47 => ⟨S4x96x224, .i32⟩
  | 48 => ⟨S_, .i32⟩
  | 49 => ⟨S4x96x224, .i32⟩
  | 50 => ⟨S4x96x224, .i1⟩
  | 51 => ⟨S4x96x224, .i1⟩
  | 52 => ⟨S4x96x224, .i1⟩
  | 53 => ⟨S1, .f32⟩
  | 54 => ⟨S_, .f32⟩
  | 55 => ⟨S_, .f32⟩
  | 56 => ⟨S4x96x224, .f32⟩
  | 57 => ⟨S4x96x224, .f32⟩
  | 58 => ⟨S4x96x224, .f32⟩
  | 59 => ⟨S4x96x224, .f32⟩
  | 60 => ⟨S_, .i32⟩
  | 61 => ⟨S4x96x224, .i32⟩
  | 62 => ⟨S4x96x224, .i1⟩
  | 63 => ⟨S4x96x224, .i1⟩
  | 64 => ⟨S4x96x224, .i1⟩
  | 65 => ⟨S1, .f32⟩
  | 66 => ⟨S_, .f32⟩
  | 67 => ⟨S_, .f32⟩
  | 68 => ⟨S4x96x224, .f32⟩
  | 69 => ⟨S4x96x224, .f32⟩
  | 70 => ⟨S4x96x224, .f32⟩
  | 71 => ⟨S4x96x224, .f32⟩
  | 72 => ⟨S_, .i32⟩
  | 73 => ⟨S4x96x224, .i32⟩
  | 74 => ⟨S4x96x224, .i1⟩
  | 75 => ⟨S4x96x224, .i1⟩
  | 76 => ⟨S4x96x224, .i1⟩
  | 77 => ⟨S1, .f32⟩
  | 78 => ⟨S_, .f32⟩
  | 79 => ⟨S_, .f32⟩
  | 80 => ⟨S4x96x224, .f32⟩
  | 81 => ⟨S4x96x224, .f32⟩
  | 82 => ⟨S4x96x224, .f32⟩
  | 83 => ⟨S4x96x224, .f32⟩
  | 84 => ⟨S_, .i32⟩
  | 85 => ⟨S4x96x224, .i32⟩
  | 86 => ⟨S4x96x224, .i1⟩
  | 87 => ⟨S4x96x224, .i1⟩
  | 88 => ⟨S4x96x224, .i1⟩
  | 89 => ⟨S1, .f32⟩
  | 90 => ⟨S_, .f32⟩
  | 91 => ⟨S_, .f32⟩
  | 92 => ⟨S4x96x224, .f32⟩
  | 93 => ⟨S4x96x224, .f32⟩
  | 94 => ⟨S4x96x224, .f32⟩
  | 95 => ⟨S4x96x224, .f32⟩
  | 96 => ⟨S_, .i32⟩
  | 97 => ⟨S4x96x224, .i32⟩
  | 98 => ⟨S4x96x224, .i1⟩
  | 99 => ⟨S4x96x224, .i1⟩
  | 100 => ⟨S4x96x224, .i1⟩
  | 101 => ⟨S1, .f32⟩
  | 102 => ⟨S_, .f32⟩
  | 103 => ⟨S_, .f32⟩
  | 104 => ⟨S4x96x224, .f32⟩
  | 105 => ⟨S4x96x224, .f32⟩
  | 106 => ⟨S4x96x224, .f32⟩
  | 107 => ⟨S4x96x224, .f32⟩
  | 108 => ⟨S_, .i32⟩
  | 109 => ⟨S4x96x224, .i32⟩
  | 110 => ⟨S4x96x224, .i1⟩
  | 111 => ⟨S4x96x224, .i1⟩
  | 112 => ⟨S4x96x224, .i1⟩
  | 113 => ⟨S1, .f32⟩
  | 114 => ⟨S_, .f32⟩
  | 115 => ⟨S_, .f32⟩
  | 116 => ⟨S4x96x224, .f32⟩
  | 117 => ⟨S4x96x224, .f32⟩
  | 118 => ⟨S4x96x224, .f32⟩
  | 119 => ⟨S4x96x224, .f32⟩
  | 120 => ⟨S_, .i32⟩
  | 121 => ⟨S4x96x224, .i32⟩
  | 122 => ⟨S4x96x224, .i1⟩
  | 123 => ⟨S4x96x224, .i1⟩
  | 124 => ⟨S4x96x224, .i1⟩
  | 125 => ⟨S1, .f32⟩
  | 126 => ⟨S_, .f32⟩
  | 127 => ⟨S_, .f32⟩
  | _ => ⟨S4x96x224x224, .f32⟩

abbrev hbmTy0_3 (i : Nat) : BufTy := match i % 128 with
  | 0 => ⟨S4x96x224, .f32⟩
  | 1 => ⟨S4x96x224, .f32⟩
  | 2 => ⟨S4x96x224, .f32⟩
  | 3 => ⟨S4x96x224, .f32⟩
  | 4 => ⟨S1x1x224, .i32⟩
  | 5 => ⟨S4x96x224, .i32⟩
  | 6 => ⟨S4x96x224, .i32⟩
  | 7 => ⟨S4x96x224, .i32⟩
  | 8 => ⟨S_, .i32⟩
  | 9 => ⟨S4x96x224, .i32⟩
  | 10 => ⟨S4x96x224, .i1⟩
  | 11 => ⟨S4x96x224, .i1⟩
  | 12 => ⟨S4x96x224, .i1⟩
  | 13 => ⟨S1, .f32⟩
  | 14 => ⟨S_, .f32⟩
  | 15 => ⟨S_, .f32⟩
  | 16 => ⟨S4x96x224, .f32⟩
  | 17 => ⟨S4x96x224, .f32⟩
  | 18 => ⟨S4x96x224, .f32⟩
  | 19 => ⟨S4x96x224, .f32⟩
  | 20 => ⟨S_, .i32⟩
  | 21 => ⟨S4x96x224, .i32⟩
  | 22 => ⟨S4x96x224, .i1⟩
  | 23 => ⟨S4x96x224, .i1⟩
  | 24 => ⟨S4x96x224, .i1⟩
  | 25 => ⟨S1, .f32⟩
  | 26 => ⟨S_, .f32⟩
  | 27 => ⟨S_, .f32⟩
  | 28 => ⟨S4x96x224, .f32⟩
  | 29 => ⟨S4x96x224, .f32⟩
  | 30 => ⟨S4x96x224, .f32⟩
  | 31 => ⟨S4x96x224, .f32⟩
  | 32 => ⟨S_, .i32⟩
  | 33 => ⟨S4x96x224, .i32⟩
  | 34 => ⟨S4x96x224, .i1⟩
  | 35 => ⟨S4x96x224, .i1⟩
  | 36 => ⟨S4x96x224, .i1⟩
  | 37 => ⟨S1, .f32⟩
  | 38 => ⟨S_, .f32⟩
  | 39 => ⟨S_, .f32⟩
  | 40 => ⟨S4x96x224, .f32⟩
  | 41 => ⟨S4x96x224, .f32⟩
  | 42 => ⟨S4x96x224, .f32⟩
  | 43 => ⟨S4x96x224, .f32⟩
  | 44 => ⟨S_, .i32⟩
  | 45 => ⟨S4x96x224, .i32⟩
  | 46 => ⟨S4x96x224, .i1⟩
  | 47 => ⟨S4x96x224, .i1⟩
  | 48 => ⟨S4x96x224, .i1⟩
  | 49 => ⟨S1, .f32⟩
  | 50 => ⟨S_, .f32⟩
  | 51 => ⟨S_, .f32⟩
  | 52 => ⟨S4x96x224, .f32⟩
  | 53 => ⟨S4x96x224, .f32⟩
  | 54 => ⟨S4x96x224, .f32⟩
  | 55 => ⟨S4x96x224, .f32⟩
  | 56 => ⟨S_, .i32⟩
  | 57 => ⟨S4x96x224, .i32⟩
  | 58 => ⟨S4x96x224, .i1⟩
  | 59 => ⟨S4x96x224, .i1⟩
  | 60 => ⟨S4x96x224, .i1⟩
  | 61 => ⟨S1, .f32⟩
  | 62 => ⟨S_, .f32⟩
  | 63 => ⟨S_, .f32⟩
  | 64 => ⟨S4x96x224, .f32⟩
  | 65 => ⟨S4x96x224, .f32⟩
  | 66 => ⟨S4x96x224, .f32⟩
  | 67 => ⟨S4x96x224, .f32⟩
  | 68 => ⟨S_, .i32⟩
  | 69 => ⟨S4x96x224, .i32⟩
  | 70 => ⟨S4x96x224, .i1⟩
  | 71 => ⟨S4x96x224, .i1⟩
  | 72 => ⟨S4x96x224, .i1⟩
  | 73 => ⟨S1, .f32⟩
  | 74 => ⟨S_, .f32⟩
  | 75 => ⟨S_, .f32⟩
  | 76 => ⟨S4x96x224, .f32⟩
  | 77 => ⟨S4x96x224, .f32⟩
  | 78 => ⟨S4x96x224, .f32⟩
  | 79 => ⟨S4x96x224, .f32⟩
  | 80 => ⟨S_, .i32⟩
  | 81 => ⟨S4x96x224, .i32⟩
  | 82 => ⟨S4x96x224, .i1⟩
  | 83 => ⟨S4x96x224, .i1⟩
  | 84 => ⟨S4x96x224, .i1⟩
  | 85 => ⟨S1, .f32⟩
  | 86 => ⟨S_, .f32⟩
  | 87 => ⟨S_, .f32⟩
  | 88 => ⟨S4x96x224, .f32⟩
  | 89 => ⟨S4x96x224, .f32⟩
  | 90 => ⟨S4x96x224, .f32⟩
  | 91 => ⟨S4x96x224, .f32⟩
  | 92 => ⟨S4x96x1, .f32⟩
  | 93 => ⟨S4x96x224, .f32⟩
  | 94 => ⟨S4x96x224, .f32⟩
  | 95 => ⟨S224, .i32⟩
  | 96 => ⟨S4x96x1, .i32⟩
  | 97 => ⟨S_, .f32⟩
  | 98 => ⟨S4x96x224, .f32⟩
  | 99 => ⟨S_, .i32⟩
  | 100 => ⟨S4x96x1, .i32⟩
  | 101 => ⟨S4x96x1, .i32⟩
  | 102 => ⟨S_, .i1⟩
  | 103 => ⟨S4x96x1, .i1⟩
  | 104 => ⟨S_, .i32⟩
  | 105 => ⟨S4x96x1, .i32⟩
  | 106 => ⟨S4x96x1, .i32⟩
  | 107 => ⟨S_, .i32⟩
  | 108 => ⟨S4x96x1, .i32⟩
  | 109 => ⟨S4x96x1, .i1⟩
  | 110 => ⟨S_, .i32⟩
  | 111 => ⟨S4x96x1, .i32⟩
  | 112 => ⟨S4x96x1, .i1⟩
  | 113 => ⟨S4x96x1, .i1⟩
  | 114 => ⟨S_, .i32⟩
  | 115 => ⟨S4x96x1, .i32⟩
  | 116 => ⟨S4x96x1, .i32⟩
  | 117 => ⟨S_, .i32⟩
  | 118 => ⟨S4x96x1, .i32⟩
  | 119 => ⟨S4x96x1, .i1⟩
  | 120 => ⟨S_, .i32⟩
  | 121 => ⟨S4x96x1, .i32⟩
  | 122 => ⟨S4x96x1, .i1⟩
  | 123 => ⟨S4x96x1, .i1⟩
  | 124 => ⟨S1x1x224, .i32⟩
  | 125 => ⟨S4x96x224, .i32⟩
  | 126 => ⟨S4x96x224, .i32⟩
  | 127 => ⟨S4x96x224, .i32⟩
  | _ => ⟨S4x96x224x224, .f32⟩

abbrev hbmTy0_4 (i : Nat) : BufTy := match i % 128 with
  | 0 => ⟨S_, .i32⟩
  | 1 => ⟨S4x96x224, .i32⟩
  | 2 => ⟨S4x96x224, .i1⟩
  | 3 => ⟨S4x96x224, .i1⟩
  | 4 => ⟨S4x96x224, .i1⟩
  | 5 => ⟨S1, .f32⟩
  | 6 => ⟨S_, .f32⟩
  | 7 => ⟨S_, .f32⟩
  | 8 => ⟨S4x96x224, .f32⟩
  | 9 => ⟨S4x96x224, .f32⟩
  | 10 => ⟨S4x96x224, .f32⟩
  | 11 => ⟨S4x96x224, .f32⟩
  | 12 => ⟨S_, .i32⟩
  | 13 => ⟨S4x96x224, .i32⟩
  | 14 => ⟨S4x96x224, .i1⟩
  | 15 => ⟨S4x96x224, .i1⟩
  | 16 => ⟨S4x96x224, .i1⟩
  | 17 => ⟨S1, .f32⟩
  | 18 => ⟨S_, .f32⟩
  | 19 => ⟨S_, .f32⟩
  | 20 => ⟨S4x96x224, .f32⟩
  | 21 => ⟨S4x96x224, .f32⟩
  | 22 => ⟨S4x96x224, .f32⟩
  | 23 => ⟨S4x96x224, .f32⟩
  | 24 => ⟨S_, .i32⟩
  | 25 => ⟨S4x96x224, .i32⟩
  | 26 => ⟨S4x96x224, .i1⟩
  | 27 => ⟨S4x96x224, .i1⟩
  | 28 => ⟨S4x96x224, .i1⟩
  | 29 => ⟨S1, .f32⟩
  | 30 => ⟨S_, .f32⟩
  | 31 => ⟨S_, .f32⟩
  | 32 => ⟨S4x96x224, .f32⟩
  | 33 => ⟨S4x96x224, .f32⟩
  | 34 => ⟨S4x96x224, .f32⟩
  | 35 => ⟨S4x96x224, .f32⟩
  | 36 => ⟨S_, .i32⟩
  | 37 => ⟨S4x96x224, .i32⟩
  | 38 => ⟨S4x96x224, .i1⟩
  | 39 => ⟨S4x96x224, .i1⟩
  | 40 => ⟨S4x96x224, .i1⟩
  | 41 => ⟨S1, .f32⟩
  | 42 => ⟨S_, .f32⟩
  | 43 => ⟨S_, .f32⟩
  | 44 => ⟨S4x96x224, .f32⟩
  | 45 => ⟨S4x96x224, .f32⟩
  | 46 => ⟨S4x96x224, .f32⟩
  | 47 => ⟨S4x96x224, .f32⟩
  | 48 => ⟨S_, .i32⟩
  | 49 => ⟨S4x96x224, .i32⟩
  | 50 => ⟨S4x96x224, .i1⟩
  | 51 => ⟨S4x96x224, .i1⟩
  | 52 => ⟨S4x96x224, .i1⟩
  | 53 => ⟨S1, .f32⟩
  | 54 => ⟨S_, .f32⟩
  | 55 => ⟨S_, .f32⟩
  | 56 => ⟨S4x96x224, .f32⟩
  | 57 => ⟨S4x96x224, .f32⟩
  | 58 => ⟨S4x96x224, .f32⟩
  | 59 => ⟨S4x96x224, .f32⟩
  | 60 => ⟨S_, .i32⟩
  | 61 => ⟨S4x96x224, .i32⟩
  | 62 => ⟨S4x96x224, .i1⟩
  | 63 => ⟨S4x96x224, .i1⟩
  | 64 => ⟨S4x96x224, .i1⟩
  | 65 => ⟨S1, .f32⟩
  | 66 => ⟨S_, .f32⟩
  | 67 => ⟨S_, .f32⟩
  | 68 => ⟨S4x96x224, .f32⟩
  | 69 => ⟨S4x96x224, .f32⟩
  | 70 => ⟨S4x96x224, .f32⟩
  | 71 => ⟨S4x96x224, .f32⟩
  | 72 => ⟨S_, .i32⟩
  | 73 => ⟨S4x96x224, .i32⟩
  | 74 => ⟨S4x96x224, .i1⟩
  | 75 => ⟨S4x96x224, .i1⟩
  | 76 => ⟨S4x96x224, .i1⟩
  | 77 => ⟨S1, .f32⟩
  | 78 => ⟨S_, .f32⟩
  | 79 => ⟨S_, .f32⟩
  | 80 => ⟨S4x96x224, .f32⟩
  | 81 => ⟨S4x96x224, .f32⟩
  | 82 => ⟨S4x96x224, .f32⟩
  | 83 => ⟨S4x96x224, .f32⟩
  | 84 => ⟨S1x1x224, .i32⟩
  | 85 => ⟨S4x96x224, .i32⟩
  | 86 => ⟨S4x96x224, .i32⟩
  | 87 => ⟨S4x96x224, .i32⟩
  | 88 => ⟨S_, .i32⟩
  | 89 => ⟨S4x96x224, .i32⟩
  | 90 => ⟨S4x96x224, .i1⟩
  | 91 => ⟨S4x96x224, .i1⟩
  | 92 => ⟨S4x96x224, .i1⟩
  | 93 => ⟨S1, .f32⟩
  | 94 => ⟨S_, .f32⟩
  | 95 => ⟨S_, .f32⟩
  | 96 => ⟨S4x96x224, .f32⟩
  | 97 => ⟨S4x96x224, .f32⟩
  | 98 => ⟨S4x96x224, .f32⟩
  | 99 => ⟨S4x96x224, .f32⟩
  | 100 => ⟨S_, .i32⟩
  | 101 => ⟨S4x96x224, .i32⟩
  | 102 => ⟨S4x96x224, .i1⟩
  | 103 => ⟨S4x96x224, .i1⟩
  | 104 => ⟨S4x96x224, .i1⟩
  | 105 => ⟨S1, .f32⟩
  | 106 => ⟨S_, .f32⟩
  | 107 => ⟨S_, .f32⟩
  | 108 => ⟨S4x96x224, .f32⟩
  | 109 => ⟨S4x96x224, .f32⟩
  | 110 => ⟨S4x96x224, .f32⟩
  | 111 => ⟨S4x96x224, .f32⟩
  | 112 => ⟨S_, .i32⟩
  | 113 => ⟨S4x96x224, .i32⟩
  | 114 => ⟨S4x96x224, .i1⟩
  | 115 => ⟨S4x96x224, .i1⟩
  | 116 => ⟨S4x96x224, .i1⟩
  | 117 => ⟨S1, .f32⟩
  | 118 => ⟨S_, .f32⟩
  | 119 => ⟨S_, .f32⟩
  | 120 => ⟨S4x96x224, .f32⟩
  | 121 => ⟨S4x96x224, .f32⟩
  | 122 => ⟨S4x96x224, .f32⟩
  | 123 => ⟨S4x96x224, .f32⟩
  | 124 => ⟨S_, .i32⟩
  | 125 => ⟨S4x96x224, .i32⟩
  | 126 => ⟨S4x96x224, .i1⟩
  | 127 => ⟨S4x96x224, .i1⟩
  | _ => ⟨S4x96x224x224, .f32⟩

abbrev hbmTy0_5 (i : Nat) : BufTy := match i % 128 with
  | 0 => ⟨S4x96x224, .i1⟩
  | 1 => ⟨S1, .f32⟩
  | 2 => ⟨S_, .f32⟩
  | 3 => ⟨S_, .f32⟩
  | 4 => ⟨S4x96x224, .f32⟩
  | 5 => ⟨S4x96x224, .f32⟩
  | 6 => ⟨S4x96x224, .f32⟩
  | 7 => ⟨S4x96x224, .f32⟩
  | 8 => ⟨S_, .i32⟩
  | 9 => ⟨S4x96x224, .i32⟩
  | 10 => ⟨S4x96x224, .i1⟩
  | 11 => ⟨S4x96x224, .i1⟩
  | 12 => ⟨S4x96x224, .i1⟩
  | 13 => ⟨S1, .f32⟩
  | 14 => ⟨S_, .f32⟩
  | 15 => ⟨S_, .f32⟩
  | 16 => ⟨S4x96x224, .f32⟩
  | 17 => ⟨S4x96x224, .f32⟩
  | 18 => ⟨S4x96x224, .f32⟩
  | 19 => ⟨S4x96x224, .f32⟩
  | 20 => ⟨S_, .i32⟩
  | 21 => ⟨S4x96x224, .i32⟩
  | 22 => ⟨S4x96x224, .i1⟩
  | 23 => ⟨S4x96x224, .i1⟩
  | 24 => ⟨S4x96x224, .i1⟩
  | 25 => ⟨S1, .f32⟩
  | 26 => ⟨S_, .f32⟩
  | 27 => ⟨S_, .f32⟩
  | 28 => ⟨S4x96x224, .f32⟩
  | 29 => ⟨S4x96x224, .f32⟩
  | 30 => ⟨S4x96x224, .f32⟩
  | 31 => ⟨S4x96x224, .f32⟩
  | 32 => ⟨S_, .i32⟩
  | 33 => ⟨S4x96x224, .i32⟩
  | 34 => ⟨S4x96x224, .i1⟩
  | 35 => ⟨S4x96x224, .i1⟩
  | 36 => ⟨S4x96x224, .i1⟩
  | 37 => ⟨S1, .f32⟩
  | 38 => ⟨S_, .f32⟩
  | 39 => ⟨S_, .f32⟩
  | 40 => ⟨S4x96x224, .f32⟩
  | 41 => ⟨S4x96x224, .f32⟩
  | 42 => ⟨S4x96x224, .f32⟩
  | 43 => ⟨S4x96x224, .f32⟩
  | 44 => ⟨S1x1x224, .i32⟩
  | 45 => ⟨S4x96x224, .i32⟩
  | 46 => ⟨S4x96x224, .i32⟩
  | 47 => ⟨S4x96x224, .i32⟩
  | 48 => ⟨S_, .i32⟩
  | 49 => ⟨S4x96x224, .i32⟩
  | 50 => ⟨S4x96x224, .i1⟩
  | 51 => ⟨S4x96x224, .i1⟩
  | 52 => ⟨S4x96x224, .i1⟩
  | 53 => ⟨S1, .f32⟩
  | 54 => ⟨S_, .f32⟩
  | 55 => ⟨S_, .f32⟩
  | 56 => ⟨S4x96x224, .f32⟩
  | 57 => ⟨S4x96x224, .f32⟩
  | 58 => ⟨S4x96x224, .f32⟩
  | 59 => ⟨S4x96x224, .f32⟩
  | 60 => ⟨S_, .i32⟩
  | 61 => ⟨S4x96x224, .i32⟩
  | 62 => ⟨S4x96x224, .i1⟩
  | 63 => ⟨S4x96x224, .i1⟩
  | 64 => ⟨S4x96x224, .i1⟩
  | 65 => ⟨S1, .f32⟩
  | 66 => ⟨S_, .f32⟩
  | 67 => ⟨S_, .f32⟩
  | 68 => ⟨S4x96x224, .f32⟩
  | 69 => ⟨S4x96x224, .f32⟩
  | 70 => ⟨S4x96x224, .f32⟩
  | 71 => ⟨S4x96x224, .f32⟩
  | 72 => ⟨S_, .i32⟩
  | 73 => ⟨S4x96x224, .i32⟩
  | 74 => ⟨S4x96x224, .i1⟩
  | 75 => ⟨S4x96x224, .i1⟩
  | 76 => ⟨S4x96x224, .i1⟩
  | 77 => ⟨S1, .f32⟩
  | 78 => ⟨S_, .f32⟩
  | 79 => ⟨S_, .f32⟩
  | 80 => ⟨S4x96x224, .f32⟩
  | 81 => ⟨S4x96x224, .f32⟩
  | 82 => ⟨S4x96x224, .f32⟩
  | 83 => ⟨S4x96x224, .f32⟩
  | 84 => ⟨S_, .i32⟩
  | 85 => ⟨S4x96x224, .i32⟩
  | 86 => ⟨S4x96x224, .i1⟩
  | 87 => ⟨S4x96x224, .i1⟩
  | 88 => ⟨S4x96x224, .i1⟩
  | 89 => ⟨S1, .f32⟩
  | 90 => ⟨S_, .f32⟩
  | 91 => ⟨S_, .f32⟩
  | 92 => ⟨S4x96x224, .f32⟩
  | 93 => ⟨S4x96x224, .f32⟩
  | 94 => ⟨S4x96x224, .f32⟩
  | 95 => ⟨S4x96x224, .f32⟩
  | 96 => ⟨S_, .i32⟩
  | 97 => ⟨S4x96x224, .i32⟩
  | 98 => ⟨S4x96x224, .i1⟩
  | 99 => ⟨S4x96x224, .i1⟩
  | 100 => ⟨S4x96x224, .i1⟩
  | 101 => ⟨S1, .f32⟩
  | 102 => ⟨S_, .f32⟩
  | 103 => ⟨S_, .f32⟩
  | 104 => ⟨S4x96x224, .f32⟩
  | 105 => ⟨S4x96x224, .f32⟩
  | 106 => ⟨S4x96x224, .f32⟩
  | 107 => ⟨S4x96x224, .f32⟩
  | 108 => ⟨S_, .i32⟩
  | 109 => ⟨S4x96x224, .i32⟩
  | 110 => ⟨S4x96x224, .i1⟩
  | 111 => ⟨S4x96x224, .i1⟩
  | 112 => ⟨S4x96x224, .i1⟩
  | 113 => ⟨S1, .f32⟩
  | 114 => ⟨S_, .f32⟩
  | 115 => ⟨S_, .f32⟩
  | 116 => ⟨S4x96x224, .f32⟩
  | 117 => ⟨S4x96x224, .f32⟩
  | 118 => ⟨S4x96x224, .f32⟩
  | 119 => ⟨S4x96x224, .f32⟩
  | 120 => ⟨S_, .i32⟩
  | 121 => ⟨S4x96x224, .i32⟩
  | 122 => ⟨S4x96x224, .i1⟩
  | 123 => ⟨S4x96x224, .i1⟩
  | 124 => ⟨S4x96x224, .i1⟩
  | 125 => ⟨S1, .f32⟩
  | 126 => ⟨S_, .f32⟩
  | 127 => ⟨S_, .f32⟩
  | _ => ⟨S4x96x224x224, .f32⟩

abbrev hbmTy0_6 (i : Nat) : BufTy := match i % 128 with
  | 0 => ⟨S4x96x224, .f32⟩
  | 1 => ⟨S4x96x224, .f32⟩
  | 2 => ⟨S4x96x224, .f32⟩
  | 3 => ⟨S4x96x224, .f32⟩
  | 4 => ⟨S4x96x1, .f32⟩
  | 5 => ⟨S4x96x224, .f32⟩
  | 6 => ⟨S4x96x224, .f32⟩
  | 7 => ⟨S_, .f32⟩
  | 8 => ⟨S4x96, .f32⟩
  | 9 => ⟨S_, .f32⟩
  | 10 => ⟨S4x96, .f32⟩
  | 11 => ⟨S4x96, .f32⟩
  | 12 => ⟨S_, .f32⟩
  | 13 => ⟨S_, .f32⟩
  | 14 => ⟨S4x96x224, .f32⟩
  | 15 => ⟨S4x96x224, .f32⟩
  | 16 => ⟨S384x224, .f32⟩
  | 17 => ⟨S384x224, .f32⟩
  | 18 => ⟨S384x224x224, .f32⟩
  | 19 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x96x224x224, .f32⟩

abbrev bufTy : (tb : Table) → Fin (tcTables nBuf tb) → BufTy
  | .hbm, ⟨i, _⟩ => hbmTy i
  | .local _ .vmem, ⟨0, _⟩ => ⟨S64x392x128, .f32⟩
  | .local _ .vmem, ⟨1, _⟩ => ⟨S64x392x128, .f32⟩
  | .local _ .vmem, ⟨2, _⟩ => ⟨S1x5x64, .f32⟩
  | .local _ .vmem, ⟨3, _⟩ => ⟨S1x5x64, .f32⟩
  | .local _ .vmem, ⟨4, _⟩ => ⟨S1x5x64, .i32⟩
  | .local _ .vmem, ⟨5, _⟩ => ⟨S1x5x64, .i32⟩
  | .local _ .vmem, ⟨6, _⟩ => ⟨S64x224, .f32⟩
  | .local _ .vmem, ⟨7, _⟩ => ⟨S64x224, .f32⟩
  | .local _ .vmem, ⟨8, _⟩ => ⟨S64x224, .f32⟩
  | .local _ .vmem, ⟨9, _⟩ => ⟨S64x224, .f32⟩
  | .local _ .vmem, ⟨10, _⟩ => ⟨S64x224x224, .f32⟩
  | .local _ .vmem, ⟨11, _⟩ => ⟨S64x224x224, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_4 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_5 : Ref sig .tc := ⟨.hbm, 74, rfl⟩
abbrev main_v29 : Ref sig .tc := ⟨.hbm, 75, rfl⟩
abbrev main_cst_6 : Ref sig .tc := ⟨.hbm, 76, rfl⟩
abbrev main_v30 : Ref sig .tc := ⟨.hbm, 77, rfl⟩
abbrev main_v31 : Ref sig .tc := ⟨.hbm, 78, rfl⟩
abbrev main_c_7 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_cst_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_v7 : Ref sig .tc := ⟨.hbm, 89, rfl⟩
abbrev main_call2_cst_1 : Ref sig .tc := ⟨.hbm, 90, rfl⟩
abbrev main_call2_v8 : Ref sig .tc := ⟨.hbm, 91, rfl⟩
abbrev main_call2_cst_2 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_cst_3 : Ref sig .tc := ⟨.hbm, 96, rfl⟩
abbrev main_call2_v12 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v32 : Ref sig .tc := ⟨.hbm, 101, rfl⟩
abbrev main_v33 : Ref sig .tc := ⟨.hbm, 102, rfl⟩
abbrev main_cst_8 : Ref sig .tc := ⟨.hbm, 103, rfl⟩
abbrev main_v34 : Ref sig .tc := ⟨.hbm, 104, rfl⟩
abbrev main_cst_9 : Ref sig .tc := ⟨.hbm, 105, rfl⟩
abbrev main_v35 : Ref sig .tc := ⟨.hbm, 106, rfl⟩
abbrev main_v36 : Ref sig .tc := ⟨.hbm, 107, rfl⟩
abbrev main_cst_10 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_11 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_c_12 : Ref sig .tc := ⟨.hbm, 124, rfl⟩
abbrev main_c_13 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_cst_14 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_c_15 : Ref sig .tc := ⟨.hbm, 139, rfl⟩
abbrev main_c_16 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_call6_v3 : Ref sig .tc := ⟨.hbm, 144, rfl⟩
abbrev main_call6_v4 : Ref sig .tc := ⟨.hbm, 145, rfl⟩
abbrev main_v58 : Ref sig .tc := ⟨.hbm, 146, rfl⟩
abbrev main_cst_17 : Ref sig .tc := ⟨.hbm, 147, rfl⟩
abbrev main_cst_18 : Ref sig .tc := ⟨.hbm, 148, rfl⟩
abbrev main_call7_v0 : Ref sig .tc := ⟨.hbm, 149, rfl⟩
abbrev main_call7_v1 : Ref sig .tc := ⟨.hbm, 150, rfl⟩
abbrev main_call7_v2 : Ref sig .tc := ⟨.hbm, 151, rfl⟩
abbrev main_call7_cst : Ref sig .tc := ⟨.hbm, 152, rfl⟩
abbrev main_call7_v3 : Ref sig .tc := ⟨.hbm, 153, rfl⟩
abbrev main_call7_v4 : Ref sig .tc := ⟨.hbm, 154, rfl⟩
abbrev main_call7_cst_0 : Ref sig .tc := ⟨.hbm, 155, rfl⟩
abbrev main_call7_v5 : Ref sig .tc := ⟨.hbm, 156, rfl⟩
abbrev main_call7_v6 : Ref sig .tc := ⟨.hbm, 157, rfl⟩
abbrev main_call7_v7 : Ref sig .tc := ⟨.hbm, 158, rfl⟩
abbrev main_call7_cst_1 : Ref sig .tc := ⟨.hbm, 159, rfl⟩
abbrev main_call7_v8 : Ref sig .tc := ⟨.hbm, 160, rfl⟩
abbrev main_call7_v9 : Ref sig .tc := ⟨.hbm, 161, rfl⟩
abbrev main_call7_v10 : Ref sig .tc := ⟨.hbm, 162, rfl⟩
abbrev main_call7_v11 : Ref sig .tc := ⟨.hbm, 163, rfl⟩
abbrev main_call7_v12 : Ref sig .tc := ⟨.hbm, 164, rfl⟩
abbrev main_call7_v13 : Ref sig .tc := ⟨.hbm, 165, rfl⟩
abbrev main_call7_v14 : Ref sig .tc := ⟨.hbm, 166, rfl⟩
abbrev main_call7_v15 : Ref sig .tc := ⟨.hbm, 167, rfl⟩
abbrev main_call7_v16 : Ref sig .tc := ⟨.hbm, 168, rfl⟩
abbrev main_v59 : Ref sig .tc := ⟨.hbm, 169, rfl⟩
abbrev main_cst_19 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_cst_20 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_cst_21 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_cst_22 : Ref sig .tc := ⟨.hbm, 185, rfl⟩
abbrev main_v72 : Ref sig .tc := ⟨.hbm, 186, rfl⟩
abbrev main_c_23 : Ref sig .tc := ⟨.hbm, 187, rfl⟩
abbrev main_v73 : Ref sig .tc := ⟨.hbm, 188, rfl⟩
abbrev main_v74 : Ref sig .tc := ⟨.hbm, 189, rfl⟩
abbrev main_c_24 : Ref sig .tc := ⟨.hbm, 190, rfl⟩
abbrev main_v75 : Ref sig .tc := ⟨.hbm, 191, rfl⟩
abbrev main_c_25 : Ref sig .tc := ⟨.hbm, 192, rfl⟩
abbrev main_v76 : Ref sig .tc := ⟨.hbm, 193, rfl⟩
abbrev main_v77 : Ref sig .tc := ⟨.hbm, 194, rfl⟩
abbrev main_c_26 : Ref sig .tc := ⟨.hbm, 195, rfl⟩
abbrev main_v78 : Ref sig .tc := ⟨.hbm, 196, rfl⟩
abbrev main_v79 : Ref sig .tc := ⟨.hbm, 197, rfl⟩
abbrev main_c_27 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_c_28 : Ref sig .tc := ⟨.hbm, 202, rfl⟩
abbrev main_v83 : Ref sig .tc := ⟨.hbm, 203, rfl⟩
abbrev main_v84 : Ref sig .tc := ⟨.hbm, 204, rfl⟩
abbrev main_c_29 : Ref sig .tc := ⟨.hbm, 205, rfl⟩
abbrev main_v85 : Ref sig .tc := ⟨.hbm, 206, rfl⟩
abbrev main_v86 : Ref sig .tc := ⟨.hbm, 207, rfl⟩
abbrev main_c_30 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_c_31 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_cst_32 : Ref sig .tc := ⟨.hbm, 223, rfl⟩
abbrev main_call8_v0 : Ref sig .tc := ⟨.hbm, 224, rfl⟩
abbrev main_call8_v1 : Ref sig .tc := ⟨.hbm, 225, rfl⟩
abbrev main_v100 : Ref sig .tc := ⟨.hbm, 226, rfl⟩
abbrev main_v101 : Ref sig .tc := ⟨.hbm, 227, rfl⟩
abbrev main_c_33 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_v106 : Ref sig .tc := ⟨.hbm, 233, rfl⟩
abbrev main_v107 : Ref sig .tc := ⟨.hbm, 234, rfl⟩
abbrev main_cst_34 : Ref sig .tc := ⟨.hbm, 235, rfl⟩
abbrev main_call9_v0 : Ref sig .tc := ⟨.hbm, 236, rfl⟩
abbrev main_call9_v1 : Ref sig .tc := ⟨.hbm, 237, rfl⟩
abbrev main_v108 : Ref sig .tc := ⟨.hbm, 238, rfl⟩
abbrev main_v109 : Ref sig .tc := ⟨.hbm, 239, rfl⟩
abbrev main_c_35 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_v115 : Ref sig .tc := ⟨.hbm, 246, rfl⟩
abbrev main_cst_36 : Ref sig .tc := ⟨.hbm, 247, rfl⟩
abbrev main_call10_v0 : Ref sig .tc := ⟨.hbm, 248, rfl⟩
abbrev main_call10_v1 : Ref sig .tc := ⟨.hbm, 249, rfl⟩
abbrev main_v116 : Ref sig .tc := ⟨.hbm, 250, rfl⟩
abbrev main_v117 : Ref sig .tc := ⟨.hbm, 251, rfl⟩
abbrev main_c_37 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_cst_38 : Ref sig .tc := ⟨.hbm, 259, rfl⟩
abbrev main_call11_v0 : Ref sig .tc := ⟨.hbm, 260, rfl⟩
abbrev main_call11_v1 : Ref sig .tc := ⟨.hbm, 261, rfl⟩
abbrev main_v124 : Ref sig .tc := ⟨.hbm, 262, rfl⟩
abbrev main_v125 : Ref sig .tc := ⟨.hbm, 263, rfl⟩
abbrev main_c_39 : Ref sig .tc := ⟨.hbm, 264, rfl⟩
abbrev main_v126 : Ref sig .tc := ⟨.hbm, 265, rfl⟩
abbrev main_v127 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_v131 : Ref sig .tc := ⟨.hbm, 270, rfl⟩
abbrev main_cst_40 : Ref sig .tc := ⟨.hbm, 271, rfl⟩
abbrev main_call12_v0 : Ref sig .tc := ⟨.hbm, 272, rfl⟩
abbrev main_call12_v1 : Ref sig .tc := ⟨.hbm, 273, rfl⟩
abbrev main_v132 : Ref sig .tc := ⟨.hbm, 274, rfl⟩
abbrev main_v133 : Ref sig .tc := ⟨.hbm, 275, rfl⟩
abbrev main_c_41 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_cst_42 : Ref sig .tc := ⟨.hbm, 283, rfl⟩
abbrev main_call13_v0 : Ref sig .tc := ⟨.hbm, 284, rfl⟩
abbrev main_call13_v1 : Ref sig .tc := ⟨.hbm, 285, rfl⟩
abbrev main_v140 : Ref sig .tc := ⟨.hbm, 286, rfl⟩
abbrev main_v141 : Ref sig .tc := ⟨.hbm, 287, rfl⟩
abbrev main_c_43 : Ref sig .tc := ⟨.hbm, 288, rfl⟩
abbrev main_v142 : Ref sig .tc := ⟨.hbm, 289, rfl⟩
abbrev main_v143 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_cst_44 : Ref sig .tc := ⟨.hbm, 295, rfl⟩
abbrev main_call14_v0 : Ref sig .tc := ⟨.hbm, 296, rfl⟩
abbrev main_call14_v1 : Ref sig .tc := ⟨.hbm, 297, rfl⟩
abbrev main_v148 : Ref sig .tc := ⟨.hbm, 298, rfl⟩
abbrev main_v149 : Ref sig .tc := ⟨.hbm, 299, rfl⟩
abbrev main_v150 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_c_45 : Ref sig .tc := ⟨.hbm, 304, rfl⟩
abbrev main_v154 : Ref sig .tc := ⟨.hbm, 305, rfl⟩
abbrev main_v155 : Ref sig .tc := ⟨.hbm, 306, rfl⟩
abbrev main_v156 : Ref sig .tc := ⟨.hbm, 307, rfl⟩
abbrev main_v157 : Ref sig .tc := ⟨.hbm, 308, rfl⟩
abbrev main_v158 : Ref sig .tc := ⟨.hbm, 309, rfl⟩
abbrev main_v159 : Ref sig .tc := ⟨.hbm, 310, rfl⟩
abbrev main_cst_46 : Ref sig .tc := ⟨.hbm, 311, rfl⟩
abbrev main_call15_v0 : Ref sig .tc := ⟨.hbm, 312, rfl⟩
abbrev main_call15_v1 : Ref sig .tc := ⟨.hbm, 313, rfl⟩
abbrev main_v160 : Ref sig .tc := ⟨.hbm, 314, rfl⟩
abbrev main_v161 : Ref sig .tc := ⟨.hbm, 315, rfl⟩
abbrev main_c_47 : Ref sig .tc := ⟨.hbm, 316, rfl⟩
abbrev main_v162 : Ref sig .tc := ⟨.hbm, 317, rfl⟩
abbrev main_v163 : Ref sig .tc := ⟨.hbm, 318, rfl⟩
abbrev main_v164 : Ref sig .tc := ⟨.hbm, 319, rfl⟩
abbrev main_v165 : Ref sig .tc := ⟨.hbm, 320, rfl⟩
abbrev main_v166 : Ref sig .tc := ⟨.hbm, 321, rfl⟩
abbrev main_v167 : Ref sig .tc := ⟨.hbm, 322, rfl⟩
abbrev main_cst_48 : Ref sig .tc := ⟨.hbm, 323, rfl⟩
abbrev main_call16_v0 : Ref sig .tc := ⟨.hbm, 324, rfl⟩
abbrev main_call16_v1 : Ref sig .tc := ⟨.hbm, 325, rfl⟩
abbrev main_v168 : Ref sig .tc := ⟨.hbm, 326, rfl⟩
abbrev main_v169 : Ref sig .tc := ⟨.hbm, 327, rfl⟩
abbrev main_c_49 : Ref sig .tc := ⟨.hbm, 328, rfl⟩
abbrev main_v170 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_v175 : Ref sig .tc := ⟨.hbm, 334, rfl⟩
abbrev main_cst_50 : Ref sig .tc := ⟨.hbm, 335, rfl⟩
abbrev main_call17_v0 : Ref sig .tc := ⟨.hbm, 336, rfl⟩
abbrev main_call17_v1 : Ref sig .tc := ⟨.hbm, 337, rfl⟩
abbrev main_v176 : Ref sig .tc := ⟨.hbm, 338, rfl⟩
abbrev main_v177 : Ref sig .tc := ⟨.hbm, 339, rfl⟩
abbrev main_c_51 : Ref sig .tc := ⟨.hbm, 340, rfl⟩
abbrev main_v178 : Ref sig .tc := ⟨.hbm, 341, rfl⟩
abbrev main_v179 : Ref sig .tc := ⟨.hbm, 342, rfl⟩
abbrev main_v180 : Ref sig .tc := ⟨.hbm, 343, rfl⟩
abbrev main_v181 : Ref sig .tc := ⟨.hbm, 344, rfl⟩
abbrev main_v182 : Ref sig .tc := ⟨.hbm, 345, rfl⟩
abbrev main_v183 : Ref sig .tc := ⟨.hbm, 346, rfl⟩
abbrev main_cst_52 : Ref sig .tc := ⟨.hbm, 347, rfl⟩
abbrev main_call18_v0 : Ref sig .tc := ⟨.hbm, 348, rfl⟩
abbrev main_call18_v1 : Ref sig .tc := ⟨.hbm, 349, rfl⟩
abbrev main_v184 : Ref sig .tc := ⟨.hbm, 350, rfl⟩
abbrev main_v185 : Ref sig .tc := ⟨.hbm, 351, rfl⟩
abbrev main_c_53 : Ref sig .tc := ⟨.hbm, 352, rfl⟩
abbrev main_v186 : Ref sig .tc := ⟨.hbm, 353, rfl⟩
abbrev main_v187 : Ref sig .tc := ⟨.hbm, 354, rfl⟩
abbrev main_v188 : Ref sig .tc := ⟨.hbm, 355, rfl⟩
abbrev main_v189 : Ref sig .tc := ⟨.hbm, 356, rfl⟩
abbrev main_v190 : Ref sig .tc := ⟨.hbm, 357, rfl⟩
abbrev main_v191 : Ref sig .tc := ⟨.hbm, 358, rfl⟩
abbrev main_cst_54 : Ref sig .tc := ⟨.hbm, 359, rfl⟩
abbrev main_call19_v0 : Ref sig .tc := ⟨.hbm, 360, rfl⟩
abbrev main_call19_v1 : Ref sig .tc := ⟨.hbm, 361, rfl⟩
abbrev main_v192 : Ref sig .tc := ⟨.hbm, 362, rfl⟩
abbrev main_v193 : Ref sig .tc := ⟨.hbm, 363, rfl⟩
abbrev main_c_55 : Ref sig .tc := ⟨.hbm, 364, rfl⟩
abbrev main_v194 : Ref sig .tc := ⟨.hbm, 365, rfl⟩
abbrev main_v195 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_cst_56 : Ref sig .tc := ⟨.hbm, 371, rfl⟩
abbrev main_call20_v0 : Ref sig .tc := ⟨.hbm, 372, rfl⟩
abbrev main_call20_v1 : Ref sig .tc := ⟨.hbm, 373, rfl⟩
abbrev main_v200 : Ref sig .tc := ⟨.hbm, 374, rfl⟩
abbrev main_v201 : Ref sig .tc := ⟨.hbm, 375, rfl⟩
abbrev main_c_57 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_cst_58 : Ref sig .tc := ⟨.hbm, 383, rfl⟩
abbrev main_call21_v0 : Ref sig .tc := ⟨.hbm, 384, rfl⟩
abbrev main_call21_v1 : Ref sig .tc := ⟨.hbm, 385, rfl⟩
abbrev main_v208 : Ref sig .tc := ⟨.hbm, 386, rfl⟩
abbrev main_v209 : Ref sig .tc := ⟨.hbm, 387, rfl⟩
abbrev main_v210 : Ref sig .tc := ⟨.hbm, 388, rfl⟩
abbrev main_v211 : Ref sig .tc := ⟨.hbm, 389, rfl⟩
abbrev main_v212 : Ref sig .tc := ⟨.hbm, 390, rfl⟩
abbrev main_v213 : Ref sig .tc := ⟨.hbm, 391, rfl⟩
abbrev main_c_59 : Ref sig .tc := ⟨.hbm, 392, rfl⟩
abbrev main_v214 : Ref sig .tc := ⟨.hbm, 393, rfl⟩
abbrev main_v215 : Ref sig .tc := ⟨.hbm, 394, rfl⟩
abbrev main_v216 : Ref sig .tc := ⟨.hbm, 395, rfl⟩
abbrev main_v217 : Ref sig .tc := ⟨.hbm, 396, rfl⟩
abbrev main_v218 : Ref sig .tc := ⟨.hbm, 397, rfl⟩
abbrev main_v219 : Ref sig .tc := ⟨.hbm, 398, rfl⟩
abbrev main_cst_60 : Ref sig .tc := ⟨.hbm, 399, rfl⟩
abbrev main_call22_v0 : Ref sig .tc := ⟨.hbm, 400, rfl⟩
abbrev main_call22_v1 : Ref sig .tc := ⟨.hbm, 401, rfl⟩
abbrev main_v220 : Ref sig .tc := ⟨.hbm, 402, rfl⟩
abbrev main_v221 : Ref sig .tc := ⟨.hbm, 403, rfl⟩
abbrev main_c_61 : Ref sig .tc := ⟨.hbm, 404, rfl⟩
abbrev main_v222 : Ref sig .tc := ⟨.hbm, 405, rfl⟩
abbrev main_v223 : Ref sig .tc := ⟨.hbm, 406, rfl⟩
abbrev main_v224 : Ref sig .tc := ⟨.hbm, 407, rfl⟩
abbrev main_v225 : Ref sig .tc := ⟨.hbm, 408, rfl⟩
abbrev main_v226 : Ref sig .tc := ⟨.hbm, 409, rfl⟩
abbrev main_v227 : Ref sig .tc := ⟨.hbm, 410, rfl⟩
abbrev main_cst_62 : Ref sig .tc := ⟨.hbm, 411, rfl⟩
abbrev main_call23_v0 : Ref sig .tc := ⟨.hbm, 412, rfl⟩
abbrev main_call23_v1 : Ref sig .tc := ⟨.hbm, 413, rfl⟩
abbrev main_v228 : Ref sig .tc := ⟨.hbm, 414, rfl⟩
abbrev main_v229 : Ref sig .tc := ⟨.hbm, 415, rfl⟩
abbrev main_c_63 : Ref sig .tc := ⟨.hbm, 416, rfl⟩
abbrev main_v230 : Ref sig .tc := ⟨.hbm, 417, rfl⟩
abbrev main_v231 : Ref sig .tc := ⟨.hbm, 418, rfl⟩
abbrev main_v232 : Ref sig .tc := ⟨.hbm, 419, rfl⟩
abbrev main_v233 : Ref sig .tc := ⟨.hbm, 420, rfl⟩
abbrev main_v234 : Ref sig .tc := ⟨.hbm, 421, rfl⟩
abbrev main_v235 : Ref sig .tc := ⟨.hbm, 422, rfl⟩
abbrev main_cst_64 : Ref sig .tc := ⟨.hbm, 423, rfl⟩
abbrev main_call24_v0 : Ref sig .tc := ⟨.hbm, 424, rfl⟩
abbrev main_call24_v1 : Ref sig .tc := ⟨.hbm, 425, rfl⟩
abbrev main_v236 : Ref sig .tc := ⟨.hbm, 426, rfl⟩
abbrev main_v237 : Ref sig .tc := ⟨.hbm, 427, rfl⟩
abbrev main_c_65 : Ref sig .tc := ⟨.hbm, 428, rfl⟩
abbrev main_v238 : Ref sig .tc := ⟨.hbm, 429, rfl⟩
abbrev main_v239 : Ref sig .tc := ⟨.hbm, 430, rfl⟩
abbrev main_v240 : Ref sig .tc := ⟨.hbm, 431, rfl⟩
abbrev main_v241 : Ref sig .tc := ⟨.hbm, 432, rfl⟩
abbrev main_v242 : Ref sig .tc := ⟨.hbm, 433, rfl⟩
abbrev main_v243 : Ref sig .tc := ⟨.hbm, 434, rfl⟩
abbrev main_cst_66 : Ref sig .tc := ⟨.hbm, 435, rfl⟩
abbrev main_call25_v0 : Ref sig .tc := ⟨.hbm, 436, rfl⟩
abbrev main_call25_v1 : Ref sig .tc := ⟨.hbm, 437, rfl⟩
abbrev main_v244 : Ref sig .tc := ⟨.hbm, 438, rfl⟩
abbrev main_v245 : Ref sig .tc := ⟨.hbm, 439, rfl⟩
abbrev main_c_67 : Ref sig .tc := ⟨.hbm, 440, rfl⟩
abbrev main_v246 : Ref sig .tc := ⟨.hbm, 441, rfl⟩
abbrev main_v247 : Ref sig .tc := ⟨.hbm, 442, rfl⟩
abbrev main_v248 : Ref sig .tc := ⟨.hbm, 443, rfl⟩
abbrev main_v249 : Ref sig .tc := ⟨.hbm, 444, rfl⟩
abbrev main_v250 : Ref sig .tc := ⟨.hbm, 445, rfl⟩
abbrev main_v251 : Ref sig .tc := ⟨.hbm, 446, rfl⟩
abbrev main_cst_68 : Ref sig .tc := ⟨.hbm, 447, rfl⟩
abbrev main_call26_v0 : Ref sig .tc := ⟨.hbm, 448, rfl⟩
abbrev main_call26_v1 : Ref sig .tc := ⟨.hbm, 449, rfl⟩
abbrev main_v252 : Ref sig .tc := ⟨.hbm, 450, rfl⟩
abbrev main_v253 : Ref sig .tc := ⟨.hbm, 451, rfl⟩
abbrev main_c_69 : Ref sig .tc := ⟨.hbm, 452, rfl⟩
abbrev main_v254 : Ref sig .tc := ⟨.hbm, 453, rfl⟩
abbrev main_v255 : Ref sig .tc := ⟨.hbm, 454, rfl⟩
abbrev main_v256 : Ref sig .tc := ⟨.hbm, 455, rfl⟩
abbrev main_v257 : Ref sig .tc := ⟨.hbm, 456, rfl⟩
abbrev main_v258 : Ref sig .tc := ⟨.hbm, 457, rfl⟩
abbrev main_v259 : Ref sig .tc := ⟨.hbm, 458, rfl⟩
abbrev main_cst_70 : Ref sig .tc := ⟨.hbm, 459, rfl⟩
abbrev main_call27_v0 : Ref sig .tc := ⟨.hbm, 460, rfl⟩
abbrev main_call27_v1 : Ref sig .tc := ⟨.hbm, 461, rfl⟩
abbrev main_v260 : Ref sig .tc := ⟨.hbm, 462, rfl⟩
abbrev main_v261 : Ref sig .tc := ⟨.hbm, 463, rfl⟩
abbrev main_c_71 : Ref sig .tc := ⟨.hbm, 464, rfl⟩
abbrev main_v262 : Ref sig .tc := ⟨.hbm, 465, rfl⟩
abbrev main_v263 : Ref sig .tc := ⟨.hbm, 466, rfl⟩
abbrev main_v264 : Ref sig .tc := ⟨.hbm, 467, rfl⟩
abbrev main_v265 : Ref sig .tc := ⟨.hbm, 468, rfl⟩
abbrev main_v266 : Ref sig .tc := ⟨.hbm, 469, rfl⟩
abbrev main_v267 : Ref sig .tc := ⟨.hbm, 470, rfl⟩
abbrev main_cst_72 : Ref sig .tc := ⟨.hbm, 471, rfl⟩
abbrev main_call28_v0 : Ref sig .tc := ⟨.hbm, 472, rfl⟩
abbrev main_call28_v1 : Ref sig .tc := ⟨.hbm, 473, rfl⟩
abbrev main_v268 : Ref sig .tc := ⟨.hbm, 474, rfl⟩
abbrev main_v269 : Ref sig .tc := ⟨.hbm, 475, rfl⟩
abbrev main_v270 : Ref sig .tc := ⟨.hbm, 476, rfl⟩
abbrev main_v271 : Ref sig .tc := ⟨.hbm, 477, rfl⟩
abbrev main_v272 : Ref sig .tc := ⟨.hbm, 478, rfl⟩
abbrev main_v273 : Ref sig .tc := ⟨.hbm, 479, rfl⟩
abbrev main_v274 : Ref sig .tc := ⟨.hbm, 480, rfl⟩
abbrev main_cst_73 : Ref sig .tc := ⟨.hbm, 481, rfl⟩
abbrev main_v275 : Ref sig .tc := ⟨.hbm, 482, rfl⟩
abbrev main_c_74 : Ref sig .tc := ⟨.hbm, 483, rfl⟩
abbrev main_v276 : Ref sig .tc := ⟨.hbm, 484, rfl⟩
abbrev main_v277 : Ref sig .tc := ⟨.hbm, 485, rfl⟩
abbrev main_c_75 : Ref sig .tc := ⟨.hbm, 486, rfl⟩
abbrev main_v278 : Ref sig .tc := ⟨.hbm, 487, rfl⟩
abbrev main_c_76 : Ref sig .tc := ⟨.hbm, 488, rfl⟩
abbrev main_v279 : Ref sig .tc := ⟨.hbm, 489, rfl⟩
abbrev main_v280 : Ref sig .tc := ⟨.hbm, 490, rfl⟩
abbrev main_c_77 : Ref sig .tc := ⟨.hbm, 491, rfl⟩
abbrev main_v281 : Ref sig .tc := ⟨.hbm, 492, rfl⟩
abbrev main_v282 : Ref sig .tc := ⟨.hbm, 493, rfl⟩
abbrev main_c_78 : Ref sig .tc := ⟨.hbm, 494, rfl⟩
abbrev main_v283 : Ref sig .tc := ⟨.hbm, 495, rfl⟩
abbrev main_v284 : Ref sig .tc := ⟨.hbm, 496, rfl⟩
abbrev main_v285 : Ref sig .tc := ⟨.hbm, 497, rfl⟩
abbrev main_c_79 : Ref sig .tc := ⟨.hbm, 498, rfl⟩
abbrev main_v286 : Ref sig .tc := ⟨.hbm, 499, rfl⟩
abbrev main_v287 : Ref sig .tc := ⟨.hbm, 500, rfl⟩
abbrev main_c_80 : Ref sig .tc := ⟨.hbm, 501, rfl⟩
abbrev main_v288 : Ref sig .tc := ⟨.hbm, 502, rfl⟩
abbrev main_v289 : Ref sig .tc := ⟨.hbm, 503, rfl⟩
abbrev main_c_81 : Ref sig .tc := ⟨.hbm, 504, rfl⟩
abbrev main_v290 : Ref sig .tc := ⟨.hbm, 505, rfl⟩
abbrev main_v291 : Ref sig .tc := ⟨.hbm, 506, rfl⟩
abbrev main_v292 : Ref sig .tc := ⟨.hbm, 507, rfl⟩
abbrev main_v293 : Ref sig .tc := ⟨.hbm, 508, rfl⟩
abbrev main_v294 : Ref sig .tc := ⟨.hbm, 509, rfl⟩
abbrev main_v295 : Ref sig .tc := ⟨.hbm, 510, rfl⟩
abbrev main_v296 : Ref sig .tc := ⟨.hbm, 511, rfl⟩
abbrev main_c_82 : Ref sig .tc := ⟨.hbm, 512, rfl⟩
abbrev main_v297 : Ref sig .tc := ⟨.hbm, 513, rfl⟩
abbrev main_v298 : Ref sig .tc := ⟨.hbm, 514, rfl⟩
abbrev main_v299 : Ref sig .tc := ⟨.hbm, 515, rfl⟩
abbrev main_v300 : Ref sig .tc := ⟨.hbm, 516, rfl⟩
abbrev main_v301 : Ref sig .tc := ⟨.hbm, 517, rfl⟩
abbrev main_v302 : Ref sig .tc := ⟨.hbm, 518, rfl⟩
abbrev main_cst_83 : Ref sig .tc := ⟨.hbm, 519, rfl⟩
abbrev main_call29_v0 : Ref sig .tc := ⟨.hbm, 520, rfl⟩
abbrev main_call29_v1 : Ref sig .tc := ⟨.hbm, 521, rfl⟩
abbrev main_v303 : Ref sig .tc := ⟨.hbm, 522, rfl⟩
abbrev main_v304 : Ref sig .tc := ⟨.hbm, 523, rfl⟩
abbrev main_c_84 : Ref sig .tc := ⟨.hbm, 524, rfl⟩
abbrev main_v305 : Ref sig .tc := ⟨.hbm, 525, rfl⟩
abbrev main_v306 : Ref sig .tc := ⟨.hbm, 526, rfl⟩
abbrev main_v307 : Ref sig .tc := ⟨.hbm, 527, rfl⟩
abbrev main_v308 : Ref sig .tc := ⟨.hbm, 528, rfl⟩
abbrev main_v309 : Ref sig .tc := ⟨.hbm, 529, rfl⟩
abbrev main_v310 : Ref sig .tc := ⟨.hbm, 530, rfl⟩
abbrev main_cst_85 : Ref sig .tc := ⟨.hbm, 531, rfl⟩
abbrev main_call30_v0 : Ref sig .tc := ⟨.hbm, 532, rfl⟩
abbrev main_call30_v1 : Ref sig .tc := ⟨.hbm, 533, rfl⟩
abbrev main_v311 : Ref sig .tc := ⟨.hbm, 534, rfl⟩
abbrev main_v312 : Ref sig .tc := ⟨.hbm, 535, rfl⟩
abbrev main_c_86 : Ref sig .tc := ⟨.hbm, 536, rfl⟩
abbrev main_v313 : Ref sig .tc := ⟨.hbm, 537, rfl⟩
abbrev main_v314 : Ref sig .tc := ⟨.hbm, 538, rfl⟩
abbrev main_v315 : Ref sig .tc := ⟨.hbm, 539, rfl⟩
abbrev main_v316 : Ref sig .tc := ⟨.hbm, 540, rfl⟩
abbrev main_v317 : Ref sig .tc := ⟨.hbm, 541, rfl⟩
abbrev main_v318 : Ref sig .tc := ⟨.hbm, 542, rfl⟩
abbrev main_cst_87 : Ref sig .tc := ⟨.hbm, 543, rfl⟩
abbrev main_call31_v0 : Ref sig .tc := ⟨.hbm, 544, rfl⟩
abbrev main_call31_v1 : Ref sig .tc := ⟨.hbm, 545, rfl⟩
abbrev main_v319 : Ref sig .tc := ⟨.hbm, 546, rfl⟩
abbrev main_v320 : Ref sig .tc := ⟨.hbm, 547, rfl⟩
abbrev main_c_88 : Ref sig .tc := ⟨.hbm, 548, rfl⟩
abbrev main_v321 : Ref sig .tc := ⟨.hbm, 549, rfl⟩
abbrev main_v322 : Ref sig .tc := ⟨.hbm, 550, rfl⟩
abbrev main_v323 : Ref sig .tc := ⟨.hbm, 551, rfl⟩
abbrev main_v324 : Ref sig .tc := ⟨.hbm, 552, rfl⟩
abbrev main_v325 : Ref sig .tc := ⟨.hbm, 553, rfl⟩
abbrev main_v326 : Ref sig .tc := ⟨.hbm, 554, rfl⟩
abbrev main_cst_89 : Ref sig .tc := ⟨.hbm, 555, rfl⟩
abbrev main_call32_v0 : Ref sig .tc := ⟨.hbm, 556, rfl⟩
abbrev main_call32_v1 : Ref sig .tc := ⟨.hbm, 557, rfl⟩
abbrev main_v327 : Ref sig .tc := ⟨.hbm, 558, rfl⟩
abbrev main_v328 : Ref sig .tc := ⟨.hbm, 559, rfl⟩
abbrev main_c_90 : Ref sig .tc := ⟨.hbm, 560, rfl⟩
abbrev main_v329 : Ref sig .tc := ⟨.hbm, 561, rfl⟩
abbrev main_v330 : Ref sig .tc := ⟨.hbm, 562, rfl⟩
abbrev main_v331 : Ref sig .tc := ⟨.hbm, 563, rfl⟩
abbrev main_v332 : Ref sig .tc := ⟨.hbm, 564, rfl⟩
abbrev main_v333 : Ref sig .tc := ⟨.hbm, 565, rfl⟩
abbrev main_v334 : Ref sig .tc := ⟨.hbm, 566, rfl⟩
abbrev main_cst_91 : Ref sig .tc := ⟨.hbm, 567, rfl⟩
abbrev main_call33_v0 : Ref sig .tc := ⟨.hbm, 568, rfl⟩
abbrev main_call33_v1 : Ref sig .tc := ⟨.hbm, 569, rfl⟩
abbrev main_v335 : Ref sig .tc := ⟨.hbm, 570, rfl⟩
abbrev main_v336 : Ref sig .tc := ⟨.hbm, 571, rfl⟩
abbrev main_c_92 : Ref sig .tc := ⟨.hbm, 572, rfl⟩
abbrev main_v337 : Ref sig .tc := ⟨.hbm, 573, rfl⟩
abbrev main_v338 : Ref sig .tc := ⟨.hbm, 574, rfl⟩
abbrev main_v339 : Ref sig .tc := ⟨.hbm, 575, rfl⟩
abbrev main_v340 : Ref sig .tc := ⟨.hbm, 576, rfl⟩
abbrev main_v341 : Ref sig .tc := ⟨.hbm, 577, rfl⟩
abbrev main_v342 : Ref sig .tc := ⟨.hbm, 578, rfl⟩
abbrev main_cst_93 : Ref sig .tc := ⟨.hbm, 579, rfl⟩
abbrev main_call34_v0 : Ref sig .tc := ⟨.hbm, 580, rfl⟩
abbrev main_call34_v1 : Ref sig .tc := ⟨.hbm, 581, rfl⟩
abbrev main_v343 : Ref sig .tc := ⟨.hbm, 582, rfl⟩
abbrev main_v344 : Ref sig .tc := ⟨.hbm, 583, rfl⟩
abbrev main_c_94 : Ref sig .tc := ⟨.hbm, 584, rfl⟩
abbrev main_v345 : Ref sig .tc := ⟨.hbm, 585, rfl⟩
abbrev main_v346 : Ref sig .tc := ⟨.hbm, 586, rfl⟩
abbrev main_v347 : Ref sig .tc := ⟨.hbm, 587, rfl⟩
abbrev main_v348 : Ref sig .tc := ⟨.hbm, 588, rfl⟩
abbrev main_v349 : Ref sig .tc := ⟨.hbm, 589, rfl⟩
abbrev main_v350 : Ref sig .tc := ⟨.hbm, 590, rfl⟩
abbrev main_cst_95 : Ref sig .tc := ⟨.hbm, 591, rfl⟩
abbrev main_call35_v0 : Ref sig .tc := ⟨.hbm, 592, rfl⟩
abbrev main_call35_v1 : Ref sig .tc := ⟨.hbm, 593, rfl⟩
abbrev main_v351 : Ref sig .tc := ⟨.hbm, 594, rfl⟩
abbrev main_v352 : Ref sig .tc := ⟨.hbm, 595, rfl⟩
abbrev main_v353 : Ref sig .tc := ⟨.hbm, 596, rfl⟩
abbrev main_v354 : Ref sig .tc := ⟨.hbm, 597, rfl⟩
abbrev main_v355 : Ref sig .tc := ⟨.hbm, 598, rfl⟩
abbrev main_v356 : Ref sig .tc := ⟨.hbm, 599, rfl⟩
abbrev main_c_96 : Ref sig .tc := ⟨.hbm, 600, rfl⟩
abbrev main_v357 : Ref sig .tc := ⟨.hbm, 601, rfl⟩
abbrev main_v358 : Ref sig .tc := ⟨.hbm, 602, rfl⟩
abbrev main_v359 : Ref sig .tc := ⟨.hbm, 603, rfl⟩
abbrev main_v360 : Ref sig .tc := ⟨.hbm, 604, rfl⟩
abbrev main_v361 : Ref sig .tc := ⟨.hbm, 605, rfl⟩
abbrev main_v362 : Ref sig .tc := ⟨.hbm, 606, rfl⟩
abbrev main_cst_97 : Ref sig .tc := ⟨.hbm, 607, rfl⟩
abbrev main_call36_v0 : Ref sig .tc := ⟨.hbm, 608, rfl⟩
abbrev main_call36_v1 : Ref sig .tc := ⟨.hbm, 609, rfl⟩
abbrev main_v363 : Ref sig .tc := ⟨.hbm, 610, rfl⟩
abbrev main_v364 : Ref sig .tc := ⟨.hbm, 611, rfl⟩
abbrev main_c_98 : Ref sig .tc := ⟨.hbm, 612, rfl⟩
abbrev main_v365 : Ref sig .tc := ⟨.hbm, 613, rfl⟩
abbrev main_v366 : Ref sig .tc := ⟨.hbm, 614, rfl⟩
abbrev main_v367 : Ref sig .tc := ⟨.hbm, 615, rfl⟩
abbrev main_v368 : Ref sig .tc := ⟨.hbm, 616, rfl⟩
abbrev main_v369 : Ref sig .tc := ⟨.hbm, 617, rfl⟩
abbrev main_v370 : Ref sig .tc := ⟨.hbm, 618, rfl⟩
abbrev main_cst_99 : Ref sig .tc := ⟨.hbm, 619, rfl⟩
abbrev main_call37_v0 : Ref sig .tc := ⟨.hbm, 620, rfl⟩
abbrev main_call37_v1 : Ref sig .tc := ⟨.hbm, 621, rfl⟩
abbrev main_v371 : Ref sig .tc := ⟨.hbm, 622, rfl⟩
abbrev main_v372 : Ref sig .tc := ⟨.hbm, 623, rfl⟩
abbrev main_c_100 : Ref sig .tc := ⟨.hbm, 624, rfl⟩
abbrev main_v373 : Ref sig .tc := ⟨.hbm, 625, rfl⟩
abbrev main_v374 : Ref sig .tc := ⟨.hbm, 626, rfl⟩
abbrev main_v375 : Ref sig .tc := ⟨.hbm, 627, rfl⟩
abbrev main_v376 : Ref sig .tc := ⟨.hbm, 628, rfl⟩
abbrev main_v377 : Ref sig .tc := ⟨.hbm, 629, rfl⟩
abbrev main_v378 : Ref sig .tc := ⟨.hbm, 630, rfl⟩
abbrev main_cst_101 : Ref sig .tc := ⟨.hbm, 631, rfl⟩
abbrev main_call38_v0 : Ref sig .tc := ⟨.hbm, 632, rfl⟩
abbrev main_call38_v1 : Ref sig .tc := ⟨.hbm, 633, rfl⟩
abbrev main_v379 : Ref sig .tc := ⟨.hbm, 634, rfl⟩
abbrev main_v380 : Ref sig .tc := ⟨.hbm, 635, rfl⟩
abbrev main_c_102 : Ref sig .tc := ⟨.hbm, 636, rfl⟩
abbrev main_v381 : Ref sig .tc := ⟨.hbm, 637, rfl⟩
abbrev main_v382 : Ref sig .tc := ⟨.hbm, 638, rfl⟩
abbrev main_v383 : Ref sig .tc := ⟨.hbm, 639, rfl⟩
abbrev main_v384 : Ref sig .tc := ⟨.hbm, 640, rfl⟩
abbrev main_v385 : Ref sig .tc := ⟨.hbm, 641, rfl⟩
abbrev main_v386 : Ref sig .tc := ⟨.hbm, 642, rfl⟩
abbrev main_cst_103 : Ref sig .tc := ⟨.hbm, 643, rfl⟩
abbrev main_call39_v0 : Ref sig .tc := ⟨.hbm, 644, rfl⟩
abbrev main_call39_v1 : Ref sig .tc := ⟨.hbm, 645, rfl⟩
abbrev main_v387 : Ref sig .tc := ⟨.hbm, 646, rfl⟩
abbrev main_v388 : Ref sig .tc := ⟨.hbm, 647, rfl⟩
abbrev main_c_104 : Ref sig .tc := ⟨.hbm, 648, rfl⟩
abbrev main_v389 : Ref sig .tc := ⟨.hbm, 649, rfl⟩
abbrev main_v390 : Ref sig .tc := ⟨.hbm, 650, rfl⟩
abbrev main_v391 : Ref sig .tc := ⟨.hbm, 651, rfl⟩
abbrev main_v392 : Ref sig .tc := ⟨.hbm, 652, rfl⟩
abbrev main_v393 : Ref sig .tc := ⟨.hbm, 653, rfl⟩
abbrev main_v394 : Ref sig .tc := ⟨.hbm, 654, rfl⟩
abbrev main_cst_105 : Ref sig .tc := ⟨.hbm, 655, rfl⟩
abbrev main_call40_v0 : Ref sig .tc := ⟨.hbm, 656, rfl⟩
abbrev main_call40_v1 : Ref sig .tc := ⟨.hbm, 657, rfl⟩
abbrev main_v395 : Ref sig .tc := ⟨.hbm, 658, rfl⟩
abbrev main_v396 : Ref sig .tc := ⟨.hbm, 659, rfl⟩
abbrev main_c_106 : Ref sig .tc := ⟨.hbm, 660, rfl⟩
abbrev main_v397 : Ref sig .tc := ⟨.hbm, 661, rfl⟩
abbrev main_v398 : Ref sig .tc := ⟨.hbm, 662, rfl⟩
abbrev main_v399 : Ref sig .tc := ⟨.hbm, 663, rfl⟩
abbrev main_v400 : Ref sig .tc := ⟨.hbm, 664, rfl⟩
abbrev main_v401 : Ref sig .tc := ⟨.hbm, 665, rfl⟩
abbrev main_v402 : Ref sig .tc := ⟨.hbm, 666, rfl⟩
abbrev main_cst_107 : Ref sig .tc := ⟨.hbm, 667, rfl⟩
abbrev main_call41_v0 : Ref sig .tc := ⟨.hbm, 668, rfl⟩
abbrev main_call41_v1 : Ref sig .tc := ⟨.hbm, 669, rfl⟩
abbrev main_v403 : Ref sig .tc := ⟨.hbm, 670, rfl⟩
abbrev main_v404 : Ref sig .tc := ⟨.hbm, 671, rfl⟩
abbrev main_c_108 : Ref sig .tc := ⟨.hbm, 672, rfl⟩
abbrev main_v405 : Ref sig .tc := ⟨.hbm, 673, rfl⟩
abbrev main_v406 : Ref sig .tc := ⟨.hbm, 674, rfl⟩
abbrev main_v407 : Ref sig .tc := ⟨.hbm, 675, rfl⟩
abbrev main_v408 : Ref sig .tc := ⟨.hbm, 676, rfl⟩
abbrev main_v409 : Ref sig .tc := ⟨.hbm, 677, rfl⟩
abbrev main_v410 : Ref sig .tc := ⟨.hbm, 678, rfl⟩
abbrev main_cst_109 : Ref sig .tc := ⟨.hbm, 679, rfl⟩
abbrev main_call42_v0 : Ref sig .tc := ⟨.hbm, 680, rfl⟩
abbrev main_call42_v1 : Ref sig .tc := ⟨.hbm, 681, rfl⟩
abbrev main_v411 : Ref sig .tc := ⟨.hbm, 682, rfl⟩
abbrev main_v412 : Ref sig .tc := ⟨.hbm, 683, rfl⟩
abbrev main_v413 : Ref sig .tc := ⟨.hbm, 684, rfl⟩
abbrev main_v414 : Ref sig .tc := ⟨.hbm, 685, rfl⟩
abbrev main_v415 : Ref sig .tc := ⟨.hbm, 686, rfl⟩
abbrev main_v416 : Ref sig .tc := ⟨.hbm, 687, rfl⟩
abbrev main_c_110 : Ref sig .tc := ⟨.hbm, 688, rfl⟩
abbrev main_v417 : Ref sig .tc := ⟨.hbm, 689, rfl⟩
abbrev main_v418 : Ref sig .tc := ⟨.hbm, 690, rfl⟩
abbrev main_v419 : Ref sig .tc := ⟨.hbm, 691, rfl⟩
abbrev main_v420 : Ref sig .tc := ⟨.hbm, 692, rfl⟩
abbrev main_v421 : Ref sig .tc := ⟨.hbm, 693, rfl⟩
abbrev main_v422 : Ref sig .tc := ⟨.hbm, 694, rfl⟩
abbrev main_cst_111 : Ref sig .tc := ⟨.hbm, 695, rfl⟩
abbrev main_call43_v0 : Ref sig .tc := ⟨.hbm, 696, rfl⟩
abbrev main_call43_v1 : Ref sig .tc := ⟨.hbm, 697, rfl⟩
abbrev main_v423 : Ref sig .tc := ⟨.hbm, 698, rfl⟩
abbrev main_v424 : Ref sig .tc := ⟨.hbm, 699, rfl⟩
abbrev main_c_112 : Ref sig .tc := ⟨.hbm, 700, rfl⟩
abbrev main_v425 : Ref sig .tc := ⟨.hbm, 701, rfl⟩
abbrev main_v426 : Ref sig .tc := ⟨.hbm, 702, rfl⟩
abbrev main_v427 : Ref sig .tc := ⟨.hbm, 703, rfl⟩
abbrev main_v428 : Ref sig .tc := ⟨.hbm, 704, rfl⟩
abbrev main_v429 : Ref sig .tc := ⟨.hbm, 705, rfl⟩
abbrev main_v430 : Ref sig .tc := ⟨.hbm, 706, rfl⟩
abbrev main_cst_113 : Ref sig .tc := ⟨.hbm, 707, rfl⟩
abbrev main_call44_v0 : Ref sig .tc := ⟨.hbm, 708, rfl⟩
abbrev main_call44_v1 : Ref sig .tc := ⟨.hbm, 709, rfl⟩
abbrev main_v431 : Ref sig .tc := ⟨.hbm, 710, rfl⟩
abbrev main_v432 : Ref sig .tc := ⟨.hbm, 711, rfl⟩
abbrev main_c_114 : Ref sig .tc := ⟨.hbm, 712, rfl⟩
abbrev main_v433 : Ref sig .tc := ⟨.hbm, 713, rfl⟩
abbrev main_v434 : Ref sig .tc := ⟨.hbm, 714, rfl⟩
abbrev main_v435 : Ref sig .tc := ⟨.hbm, 715, rfl⟩
abbrev main_v436 : Ref sig .tc := ⟨.hbm, 716, rfl⟩
abbrev main_v437 : Ref sig .tc := ⟨.hbm, 717, rfl⟩
abbrev main_v438 : Ref sig .tc := ⟨.hbm, 718, rfl⟩
abbrev main_cst_115 : Ref sig .tc := ⟨.hbm, 719, rfl⟩
abbrev main_call45_v0 : Ref sig .tc := ⟨.hbm, 720, rfl⟩
abbrev main_call45_v1 : Ref sig .tc := ⟨.hbm, 721, rfl⟩
abbrev main_v439 : Ref sig .tc := ⟨.hbm, 722, rfl⟩
abbrev main_v440 : Ref sig .tc := ⟨.hbm, 723, rfl⟩
abbrev main_c_116 : Ref sig .tc := ⟨.hbm, 724, rfl⟩
abbrev main_v441 : Ref sig .tc := ⟨.hbm, 725, rfl⟩
abbrev main_v442 : Ref sig .tc := ⟨.hbm, 726, rfl⟩
abbrev main_v443 : Ref sig .tc := ⟨.hbm, 727, rfl⟩
abbrev main_v444 : Ref sig .tc := ⟨.hbm, 728, rfl⟩
abbrev main_v445 : Ref sig .tc := ⟨.hbm, 729, rfl⟩
abbrev main_v446 : Ref sig .tc := ⟨.hbm, 730, rfl⟩
abbrev main_cst_117 : Ref sig .tc := ⟨.hbm, 731, rfl⟩
abbrev main_call46_v0 : Ref sig .tc := ⟨.hbm, 732, rfl⟩
abbrev main_call46_v1 : Ref sig .tc := ⟨.hbm, 733, rfl⟩
abbrev main_v447 : Ref sig .tc := ⟨.hbm, 734, rfl⟩
abbrev main_v448 : Ref sig .tc := ⟨.hbm, 735, rfl⟩
abbrev main_c_118 : Ref sig .tc := ⟨.hbm, 736, rfl⟩
abbrev main_v449 : Ref sig .tc := ⟨.hbm, 737, rfl⟩
abbrev main_v450 : Ref sig .tc := ⟨.hbm, 738, rfl⟩
abbrev main_v451 : Ref sig .tc := ⟨.hbm, 739, rfl⟩
abbrev main_v452 : Ref sig .tc := ⟨.hbm, 740, rfl⟩
abbrev main_v453 : Ref sig .tc := ⟨.hbm, 741, rfl⟩
abbrev main_v454 : Ref sig .tc := ⟨.hbm, 742, rfl⟩
abbrev main_cst_119 : Ref sig .tc := ⟨.hbm, 743, rfl⟩
abbrev main_call47_v0 : Ref sig .tc := ⟨.hbm, 744, rfl⟩
abbrev main_call47_v1 : Ref sig .tc := ⟨.hbm, 745, rfl⟩
abbrev main_v455 : Ref sig .tc := ⟨.hbm, 746, rfl⟩
abbrev main_v456 : Ref sig .tc := ⟨.hbm, 747, rfl⟩
abbrev main_c_120 : Ref sig .tc := ⟨.hbm, 748, rfl⟩
abbrev main_v457 : Ref sig .tc := ⟨.hbm, 749, rfl⟩
abbrev main_v458 : Ref sig .tc := ⟨.hbm, 750, rfl⟩
abbrev main_v459 : Ref sig .tc := ⟨.hbm, 751, rfl⟩
abbrev main_v460 : Ref sig .tc := ⟨.hbm, 752, rfl⟩
abbrev main_v461 : Ref sig .tc := ⟨.hbm, 753, rfl⟩
abbrev main_v462 : Ref sig .tc := ⟨.hbm, 754, rfl⟩
abbrev main_cst_121 : Ref sig .tc := ⟨.hbm, 755, rfl⟩
abbrev main_call48_v0 : Ref sig .tc := ⟨.hbm, 756, rfl⟩
abbrev main_call48_v1 : Ref sig .tc := ⟨.hbm, 757, rfl⟩
abbrev main_v463 : Ref sig .tc := ⟨.hbm, 758, rfl⟩
abbrev main_v464 : Ref sig .tc := ⟨.hbm, 759, rfl⟩
abbrev main_c_122 : Ref sig .tc := ⟨.hbm, 760, rfl⟩
abbrev main_v465 : Ref sig .tc := ⟨.hbm, 761, rfl⟩
abbrev main_v466 : Ref sig .tc := ⟨.hbm, 762, rfl⟩
abbrev main_v467 : Ref sig .tc := ⟨.hbm, 763, rfl⟩
abbrev main_v468 : Ref sig .tc := ⟨.hbm, 764, rfl⟩
abbrev main_v469 : Ref sig .tc := ⟨.hbm, 765, rfl⟩
abbrev main_v470 : Ref sig .tc := ⟨.hbm, 766, rfl⟩
abbrev main_cst_123 : Ref sig .tc := ⟨.hbm, 767, rfl⟩
abbrev main_call49_v0 : Ref sig .tc := ⟨.hbm, 768, rfl⟩
abbrev main_call49_v1 : Ref sig .tc := ⟨.hbm, 769, rfl⟩
abbrev main_v471 : Ref sig .tc := ⟨.hbm, 770, rfl⟩
abbrev main_v472 : Ref sig .tc := ⟨.hbm, 771, rfl⟩
abbrev main_v473 : Ref sig .tc := ⟨.hbm, 772, rfl⟩
abbrev main_v474 : Ref sig .tc := ⟨.hbm, 773, rfl⟩
abbrev main_v475 : Ref sig .tc := ⟨.hbm, 774, rfl⟩
abbrev main_cst_124 : Ref sig .tc := ⟨.hbm, 775, rfl⟩
abbrev main_v476 : Ref sig .tc := ⟨.hbm, 776, rfl⟩
abbrev main_cst_125 : Ref sig .tc := ⟨.hbm, 777, rfl⟩
abbrev main_v477 : Ref sig .tc := ⟨.hbm, 778, rfl⟩
abbrev main_v478 : Ref sig .tc := ⟨.hbm, 779, rfl⟩
abbrev main_cst_126 : Ref sig .tc := ⟨.hbm, 780, rfl⟩
abbrev main_v479 : Ref sig .tc := ⟨.hbm, 781, rfl⟩
abbrev main_v480 : Ref sig .tc := ⟨.hbm, 782, rfl⟩
abbrev main_v481 : Ref sig .tc := ⟨.hbm, 783, rfl⟩
abbrev main_v482 : Ref sig .tc := ⟨.hbm, 784, rfl⟩
abbrev main_v483 : Ref sig .tc := ⟨.hbm, 785, rfl⟩
abbrev main_v484 : Ref sig .tc := ⟨.hbm, 786, rfl⟩
abbrev main_v485 : Ref sig .tc := ⟨.hbm, 787, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x392x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x224x224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4x96x224x224 : Shape := ⟨4, ![4, 96, 224, 224]⟩
abbrev S_ : Shape := ⟨0, ![]⟩
abbrev S1 : Shape := ⟨1, ![1]⟩
abbrev S2 : Shape := ⟨1, ![2]⟩
abbrev S5 : Shape := ⟨1, ![5]⟩
abbrev S5x1 : Shape := ⟨2, ![5, 1]⟩
abbrev S5x2 : Shape := ⟨2, ![5, 2]⟩
abbrev S1x1x1x1 : Shape := ⟨4, ![1, 1, 1, 1]⟩
abbrev S1x4x96x224x224 : Shape := ⟨5, ![1, 4, 96, 224, 224]⟩
abbrev S5x1x1x1x1 : Shape := ⟨5, ![5, 1, 1, 1, 1]⟩
abbrev S5x4x96x224x224 : Shape := ⟨5, ![5, 4, 96, 224, 224]⟩
abbrev S1x1x1x1x1 : Shape := ⟨5, ![1, 1, 1, 1, 1]⟩
abbrev S5x4x96x50176 : Shape := ⟨4, ![5, 4, 96, 50176]⟩
abbrev S5x4x96 : Shape := ⟨3, ![5, 4, 96]⟩
abbrev S5x4x96x1 : Shape := ⟨4, ![5, 4, 96, 1]⟩
abbrev S5x4x96x2 : Shape := ⟨4, ![5, 4, 96, 2]⟩
abbrev S4x96x2 : Shape := ⟨3, ![4, 96, 2]⟩
abbrev S1x4x96x2 : Shape := ⟨4, ![1, 4, 96, 2]⟩
abbrev S4x96 : Shape := ⟨2, ![4, 96]⟩
abbrev S4x96x1 : Shape := ⟨3, ![4, 96, 1]⟩
abbrev S4 : Shape := ⟨1, ![4]⟩
abbrev S4x1 : Shape := ⟨2, ![4, 1]⟩
abbrev S96 : Shape := ⟨1, ![96]⟩
abbrev S1x96 : Shape := ⟨2, ![1, 96]⟩
abbrev S4x96x4 : Shape := ⟨3, ![4, 96, 4]⟩
abbrev S6 : Shape := ⟨1, ![6]⟩
abbrev S7 : Shape := ⟨1, ![7]⟩
abbrev S7x1 : Shape := ⟨2, ![7, 1]⟩
abbrev S1x7 : Shape := ⟨2, ![1, 7]⟩
abbrev S7x7 : Shape := ⟨2, ![7, 7]⟩
abbrev S4x96x1x224 : Shape := ⟨4, ![4, 96, 1, 224]⟩
abbrev S4x96x3x224 : Shape := ⟨4, ![4, 96, 3, 224]⟩
abbrev S4x96x227x224 : Shape := ⟨4, ![4, 96, 227, 224]⟩
abbrev S4x96x230x224 : Shape := ⟨4, ![4, 96, 230, 224]⟩
abbrev S4x96x230x1 : Shape := ⟨4, ![4, 96, 230, 1]⟩
abbrev S4x96x230x3 : Shape := ⟨4, ![4, 96, 230, 3]⟩
abbrev S4x96x230x227 : Shape := ⟨4, ![4, 96, 230, 227]⟩
abbrev S4x96x230x230 : Shape := ⟨4, ![4, 96, 230, 230]⟩
abbrev S4x96x224x230 : Shape := ⟨4, ![4, 96, 224, 230]⟩
abbrev S4x96x224x1x230 : Shape := ⟨5, ![4, 96, 224, 1, 230]⟩
abbrev S4x96x224x7x230 : Shape := ⟨5, ![4, 96, 224, 7, 230]⟩
abbrev S4x96x224x7x224 : Shape := ⟨5, ![4, 96, 224, 7, 224]⟩
abbrev S4x96x224x7x224x1 : Shape := ⟨6, ![4, 96, 224, 7, 224, 1]⟩
abbrev S4x96x224x7x224x7 : Shape := ⟨6, ![4, 96, 224, 7, 224, 7]⟩
abbrev S1x1x1x7x1x7 : Shape := ⟨6, ![1, 1, 1, 7, 1, 7]⟩

abbrev nBuf : Space → Nat
  | .hbm => 835
  | .vmem => 0
  | .smem => 0
  | _ => 0

abbrev hbmTy0_0 (i : Nat) : BufTy := match i % 128 with
  | 0 => ⟨S4x96x224x224, .f32⟩
  | 1 => ⟨S4x96x224x224, .f32⟩
  | 2 => ⟨S4x96x224x224, .f32⟩
  | 3 => ⟨S_, .f32⟩
  | 4 => ⟨S4x96x224x224, .f32⟩
  | 5 => ⟨S4x96x224x224, .f32⟩
  | 6 => ⟨S_, .f32⟩
  | 7 => ⟨S4x96x224x224, .f32⟩
  | 8 => ⟨S4x96x224x224, .f32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S5, .i32⟩
  | 20 => ⟨S5, .i32⟩
  | 21 => ⟨S_, .i32⟩
  | 22 => ⟨S5, .i32⟩
  | 23 => ⟨S5, .i32⟩
  | 24 => ⟨S5x1, .i32⟩
  | 25 => ⟨S_, .i32⟩
  | 26 => ⟨S5, .i32⟩
  | 27 => ⟨S5, .i32⟩
  | 28 => ⟨S5x1, .i32⟩
  | 29 => ⟨S5x2, .i32⟩
  | 30 => ⟨S1, .i32⟩
  | 31 => ⟨S_, .i32⟩
  | 32 => ⟨S1, .i32⟩
  | 33 => ⟨S_, .i32⟩
  | 34 => ⟨S5x1, .i32⟩
  | 35 => ⟨S5x1, .i32⟩
  | 36 => ⟨S_, .i32⟩
  | 37 => ⟨S_, .i32⟩
  | 38 => ⟨S_, .i32⟩
  | 39 => ⟨S5x1, .i32⟩
  | 40 => ⟨S5x1, .i32⟩
  | 41 => ⟨S5x1, .i32⟩
  | 42 => ⟨S5x1, .i32⟩
  | 43 => ⟨S5x1, .i32⟩
  | 44 => ⟨S_, .i32⟩
  | 45 => ⟨S5x1, .i32⟩
  | 46 => ⟨S5x1, .i32⟩
  | 47 => ⟨S_, .i32⟩
  | 48 => ⟨S5x1, .i32⟩
  | 49 => ⟨S5x1, .i32⟩
  | 50 => ⟨S5x1, .i32⟩
  | 51 => ⟨S5x1, .i32⟩
  | 52 => ⟨S5x1, .i32⟩
  | 53 => ⟨S_, .i32⟩
  | 54 => ⟨S5x1, .i32⟩
  | 55 => ⟨S5x1, .i32⟩
  | 56 => ⟨S_, .i32⟩
  | 57 => ⟨S5x1, .i32⟩
  | 58 => ⟨S5x1, .i32⟩
  | 59 => ⟨S5x1, .i32⟩
  | 60 => ⟨S5x1, .i32⟩
  | 61 => ⟨S5x1, .i32⟩
  | 62 => ⟨S_, .i32⟩
  | 63 => ⟨S5x1, .i32⟩
  | 64 => ⟨S5x1, .i32⟩
  | 65 => ⟨S_, .i32⟩
  | 66 => ⟨S5x1, .i32⟩
  | 67 => ⟨S5x1, .i32⟩
  | 68 => ⟨S5x1, .i32⟩
  | 69 => ⟨S5x1, .i32⟩
  | 70 => ⟨S5x1, .i32⟩
  | 71 => ⟨S_, .i32⟩
  | 72 => ⟨S5x1, .i32⟩
  | 73 => ⟨S5x1, .i32⟩
  | 74 => ⟨S_, .i32⟩
  | 75 => ⟨S5x1, .i32⟩
  | 76 => ⟨S5x1, .i32⟩
  | 77 => ⟨S5x1, .i32⟩
  | 78 => ⟨S5x1, .i32⟩
  | 79 => ⟨S5x1, .i32⟩
  | 80 => ⟨S5x1, .i32⟩
  | 81 => ⟨S5x1, .i32⟩
  | 82 => ⟨S5x1, .i32⟩
  | 83 => ⟨S_, .i32⟩
  | 84 => ⟨S5x1, .i32⟩
  | 85 => ⟨S5x1, .i32⟩
  | 86 => ⟨S5x1, .i32⟩
  | 87 => ⟨S_, .i32⟩
  | 88 => ⟨S5x1, .i32⟩
  | 89 => ⟨S5x1, .i32⟩
  | 90 => ⟨S_, .i32⟩
  | 91 => ⟨S5x1, .i32⟩
  | 92 => ⟨S5x1, .i32⟩
  | 93 => ⟨S5x1, .i32⟩
  | 94 => ⟨S5x1, .i32⟩
  | 95 => ⟨S5x1, .i32⟩
  | 96 => ⟨S_, .i32⟩
  | 97 => ⟨S5x1, .i32⟩
  | 98 => ⟨S5x1, .i32⟩
  | 99 => ⟨S_, .i32⟩
  | 100 => ⟨S5x1, .i32⟩
  | 101 => ⟨S5x1, .i32⟩
  | 102 => ⟨S5x1, .i32⟩
  | 103 => ⟨S5x1, .i32⟩
  | 104 => ⟨S5x1, .i32⟩
  | 105 => ⟨S_, .i32⟩
  | 106 => ⟨S5x1, .i32⟩
  | 107 => ⟨S5x1, .i32⟩
  | 108 => ⟨S_, .i32⟩
  | 109 => ⟨S5x1, .i32⟩
  | 110 => ⟨S5x1, .i32⟩
  | 111 => ⟨S5x1, .i32⟩
  | 112 => ⟨S5x1, .i32⟩
  | 113 => ⟨S5x1, .i32⟩
  | 114 => ⟨S_, .i32⟩
  | 115 => ⟨S5x1, .i32⟩
  | 116 => ⟨S5x1, .i32⟩
  | 117 => ⟨S_, .i32⟩
  | 118 => ⟨S5x1, .i32⟩
  | 119 => ⟨S5x1, .i32⟩
  | 120 => ⟨S5x1, .i32⟩
  | 121 => ⟨S5x1, .i32⟩
  | 122 => ⟨S5x1, .i32⟩
  | 123 => ⟨S5x1, .i32⟩
  | 124 => ⟨S5x1, .i32⟩
  | 125 => ⟨S5x1, .i32⟩
  | 126 => ⟨S_, .i32⟩
  | 127 => ⟨S5x1, .i32⟩
  | _ => ⟨S4x96x224x224, .f32⟩

abbrev hbmTy0_1 (i : Nat) : BufTy := match i % 128 with
  | 0 => ⟨S5x1, .i32⟩
  | 1 => ⟨S5x1, .i32⟩
  | 2 => ⟨S_, .i32⟩
  | 3 => ⟨S5x1, .i32⟩
  | 4 => ⟨S5x1, .i32⟩
  | 5 => ⟨S_, .i32⟩
  | 6 => ⟨S5x1, .i32⟩
  | 7 => ⟨S5x1, .i32⟩
  | 8 => ⟨S5x1, .i32⟩
  | 9 => ⟨S5x1, .i32⟩
  | 10 => ⟨S5x1, .i32⟩
  | 11 => ⟨S_, .i32⟩
  | 12 => ⟨S5x1, .i32⟩
  | 13 => ⟨S5x1, .i32⟩
  | 14 => ⟨S_, .i32⟩
  | 15 => ⟨S5x1, .i32⟩
  | 16 => ⟨S5x1, .i32⟩
  | 17 => ⟨S5x1, .i32⟩
  | 18 => ⟨S5x1, .i32⟩
  | 19 => ⟨S5x1, .i32⟩
  | 20 => ⟨S_, .i32⟩
  | 21 => ⟨S5x1, .i32⟩
  | 22 => ⟨S5x1, .i32⟩
  | 23 => ⟨S_, .i32⟩
  | 24 => ⟨S5x1, .i32⟩
  | 25 => ⟨S5x1, .i32⟩
  | 26 => ⟨S5x1, .i32⟩
  | 27 => ⟨S5x1, .i32⟩
  | 28 => ⟨S5x1, .i32⟩
  | 29 => ⟨S_, .i32⟩
  | 30 => ⟨S5x1, .i32⟩
  | 31 => ⟨S5x1, .i32⟩
  | 32 => ⟨S_, .i32⟩
  | 33 => ⟨S5x1, .i32⟩
  | 34 => ⟨S5x1, .i32⟩
  | 35 => ⟨S5x1, .i32⟩
  | 36 => ⟨S5x1, .i32⟩
  | 37 => ⟨S5x1, .i32⟩
  | 38 => ⟨S5x1, .i32⟩
  | 39 => ⟨S5x1, .i32⟩
  | 40 => ⟨S5x1, .i32⟩
  | 41 => ⟨S_, .i32⟩
  | 42 => ⟨S5x1, .i32⟩
  | 43 => ⟨S5x1, .i32⟩
  | 44 => ⟨S5x1, .i32⟩
  | 45 => ⟨S_, .i32⟩
  | 46 => ⟨S5x1, .i32⟩
  | 47 => ⟨S5x1, .i32⟩
  | 48 => ⟨S_, .i32⟩
  | 49 => ⟨S5x1, .i32⟩
  | 50 => ⟨S5x1, .i32⟩
  | 51 => ⟨S5x1, .i32⟩
  | 52 => ⟨S5x1, .i32⟩
  | 53 => ⟨S5x1, .i32⟩
  | 54 => ⟨S_, .i32⟩
  | 55 => ⟨S5x1, .i32⟩
  | 56 => ⟨S5x1, .i32⟩
  | 57 => ⟨S_, .i32⟩
  | 58 => ⟨S5x1, .i32⟩
  | 59 => ⟨S5x1, .i32⟩
  | 60 => ⟨S5x1, .i32⟩
  | 61 => ⟨S5x1, .i32⟩
  | 62 => ⟨S5x1, .i32⟩
  | 63 => ⟨S_, .i32⟩
  | 64 => ⟨S5x1, .i32⟩
  | 65 => ⟨S5x1, .i32⟩
  | 66 => ⟨S_, .i32⟩
  | 67 => ⟨S5x1, .i32⟩
  | 68 => ⟨S5x1, .i32⟩
  | 69 => ⟨S5x1, .i32⟩
  | 70 => ⟨S5x1, .i32⟩
  | 71 => ⟨S5x1, .i32⟩
  | 72 => ⟨S_, .i32⟩
  | 73 => ⟨S5x1, .i32⟩
  | 74 => ⟨S5x1, .i32⟩
  | 75 => ⟨S_, .i32⟩
  | 76 => ⟨S5x1, .i32⟩
  | 77 => ⟨S5x1, .i32⟩
  | 78 => ⟨S5x1, .i32⟩
  | 79 => ⟨S5x1, .i32⟩
  | 80 => ⟨S5x1, .i32⟩
  | 81 => ⟨S5x1, .i32⟩
  | 82 => ⟨S5x1, .i32⟩
  | 83 => ⟨S5x1, .i32⟩
  | 84 => ⟨S_, .i32⟩
  | 85 => ⟨S5x1, .i32⟩
  | 86 => ⟨S5x1, .i32⟩
  | 87 => ⟨S5x1, .i32⟩
  | 88 => ⟨S_, .i32⟩
  | 89 => ⟨S5x1, .i32⟩
  | 90 => ⟨S5x1, .i32⟩
  | 91 => ⟨S_, .i32⟩
  | 92 => ⟨S5x1, .i32⟩
  | 93 => ⟨S5x1, .i32⟩
  | 94 => ⟨S5x1, .i32⟩
  | 95 => ⟨S5x1, .i32⟩
  | 96 => ⟨S5x1, .i32⟩
  | 97 => ⟨S_, .i32⟩
  | 98 => ⟨S5x1, .i32⟩
  | 99 => ⟨S5x1, .i32⟩
  | 100 => ⟨S_, .i32⟩
  | 101 => ⟨S5x1, .i32⟩
  | 102 => ⟨S5x1, .i32⟩
  | 103 => ⟨S5x1, .i32⟩
  | 104 => ⟨S5x1, .i32⟩
  | 105 => ⟨S5x1, .i32⟩
  | 106 => ⟨S_, .i32⟩
  | 107 => ⟨S5x1, .i32⟩
  | 108 => ⟨S5x1, .i32⟩
  | 109 => ⟨S_, .i32⟩
  | 110 => ⟨S5x1, .i32⟩
  | 111 => ⟨S5x1, .i32⟩
  | 112 => ⟨S5x1, .i32⟩
  | 113 => ⟨S5x1, .i32⟩
  | 114 => ⟨S5x1, .i32⟩
  | 115 => ⟨S_, .i32⟩
  | 116 => ⟨S5x1, .i32⟩
  | 117 => ⟨S5x1, .i32⟩
  | 118 => ⟨S_, .i32⟩
  | 119 => ⟨S5x1, .i32⟩
  | 120 => ⟨S5x1, .i32⟩
  | 121 => ⟨S5x1, .i32⟩
  | 122 => ⟨S5x1, .i32⟩
  | 123 => ⟨S5x1, .i32⟩
  | 124 => ⟨S5x1, .i32⟩
  | 125 => ⟨S5x1, .i32⟩
  | 126 => ⟨S5x1, .i32⟩
  | 127 => ⟨S_, .i32⟩
  | _ => ⟨S4x96x224x224, .f32⟩

abbrev hbmTy0_2 (i : Nat) : BufTy := match i % 128 with
  | 0 => ⟨S5x1, .i32⟩
  | 1 => ⟨S5x1, .i32⟩
  | 2 => ⟨S5x2, .i32⟩
  | 3 => ⟨S_, .f32⟩
  | 4 => ⟨S_, .f32⟩
  | 5 => ⟨S_, .f32⟩
  | 6 => ⟨S_, .f32⟩
  | 7 => ⟨S1x1x1x1, .f32⟩
  | 8 => ⟨S1x1x1x1, .f32⟩
  | 9 => ⟨S5x1, .i32⟩
  | 10 => ⟨S5, .i32⟩
  | 11 => ⟨S5x1, .i32⟩
  | 12 => ⟨S5, .i32⟩
  | 13 => ⟨S4x96x224x224, .i64⟩
  | 14 => ⟨S4x96x224x224, .i64⟩
  | 15 => ⟨S4x96x224x224, .i64⟩
  | 16 => ⟨S4x96x224x224, .i64⟩
  | 17 => ⟨S_, .i64⟩
  | 18 => ⟨S4x96x224x224, .i64⟩
  | 19 => ⟨S4x96x224x224, .i64⟩
  | 20 => ⟨S_, .i64⟩
  | 21 => ⟨S4x96x224x224, .i64⟩
  | 22 => ⟨S4x96x224x224, .i64⟩
  | 23 => ⟨S_, .i64⟩
  | 24 => ⟨S4x96x224x224, .i64⟩
  | 25 => ⟨S4x96x224x224, .i64⟩
  | 26 => ⟨S_, .i64⟩
  | 27 => ⟨S4x96x224x224, .i64⟩
  | 28 => ⟨S4x96x224x224, .i64⟩
  | 29 => ⟨S4x96x224x224, .i64⟩
  | 30 => ⟨S4x96x224x224, .i64⟩
  | 31 => ⟨S4x96x224x224, .i64⟩
  | 32 => ⟨S_, .i64⟩
  | 33 => ⟨S4x96x224x224, .i64⟩
  | 34 => ⟨S4x96x224x224, .i64⟩
  | 35 => ⟨S4x96x224x224, .i32⟩
  | 36 => ⟨S4x96x224x224, .i32⟩
  | 37 => ⟨S1x4x96x224x224, .i32⟩
  | 38 => ⟨S1x4x96x224x224, .i32⟩
  | 39 => ⟨S5x1x1x1x1, .i32⟩
  | 40 => ⟨S5x1x1x1x1, .i32⟩
  | 41 => ⟨S5x1x1x1x1, .i32⟩
  | 42 => ⟨S_, .i32⟩
  | 43 => ⟨S5x1x1x1x1, .i32⟩
  | 44 => ⟨S5x1x1x1x1, .i32⟩
  | 45 => ⟨S5x4x96x224x224, .i32⟩
  | 46 => ⟨S5x4x96x224x224, .i32⟩
  | 47 => ⟨S5x4x96x224x224, .i32⟩
  | 48 => ⟨S5x4x96x224x224, .i32⟩
  | 49 => ⟨S5x4x96x224x224, .i32⟩
  | 50 => ⟨S5x4x96x224x224, .i32⟩
  | 51 => ⟨S5x4x96x224x224, .i32⟩
  | 52 => ⟨S_, .i32⟩
  | 53 => ⟨S5x4x96x224x224, .i32⟩
  | 54 => ⟨S5x4x96x224x224, .i32⟩
  | 55 => ⟨S_, .i32⟩
  | 56 => ⟨S5x4x96x224x224, .i32⟩
  | 57 => ⟨S5x4x96x224x224, .i32⟩
  | 58 => ⟨S5x4x96x224x224, .i32⟩
  | 59 => ⟨S5x4x96x224x224, .i32⟩
  | 60 => ⟨S5x4x96x224x224, .i32⟩
  | 61 => ⟨S_, .i32⟩
  | 62 => ⟨S5x4x96x224x224, .i32⟩
  | 63 => ⟨S5x4x96x224x224, .i32⟩
  | 64 => ⟨S_, .i32⟩
  | 65 => ⟨S5x4x96x224x224, .i32⟩
  | 66 => ⟨S5x4x96x224x224, .i32⟩
  | 67 => ⟨S5x4x96x224x224, .i32⟩
  | 68 => ⟨S5x4x96x224x224, .i32⟩
  | 69 => ⟨S5x4x96x224x224, .i32⟩
  | 70 => ⟨S_, .i32⟩
  | 71 => ⟨S5x4x96x224x224, .i32⟩
  | 72 => ⟨S5x4x96x224x224, .i32⟩
  | 73 => ⟨S_, .i32⟩
  | 74 => ⟨S5x4x96x224x224, .i32⟩
  | 75 => ⟨S5x4x96x224x224, .i32⟩
  | 76 => ⟨S5x4x96x224x224, .i32⟩
  | 77 => ⟨S5x4x96x224x224, .i32⟩
  | 78 => ⟨S5x4x96x224x224, .i32⟩
  | 79 => ⟨S_, .i32⟩
  | 80 => ⟨S5x4x96x224x224, .i32⟩
  | 81 => ⟨S5x4x96x224x224, .i32⟩
  | 82 => ⟨S_, .i32⟩
  | 83 => ⟨S5x4x96x224x224, .i32⟩
  | 84 => ⟨S5x4x96x224x224, .i32⟩
  | 85 => ⟨S5x4x96x224x224, .i32⟩
  | 86 => ⟨S5x4x96x224x224, .i32⟩
  | 87 => ⟨S5x4x96x224x224, .i32⟩
  | 88 => ⟨S5x4x96x224x224, .i32⟩
  | 89 => ⟨S5x4x96x224x224, .i32⟩
  | 90 => ⟨S5x4x96x224x224, .i32⟩
  | 91 => ⟨S_, .i32⟩
  | 92 => ⟨S5x4x96x224x224, .i32⟩
  | 93 => ⟨S5x4x96x224x224, .i32⟩
  | 94 => ⟨S5x4x96x224x224, .i32⟩
  | 95 => ⟨S_, .i32⟩
  | 96 => ⟨S5x4x96x224x224, .i32⟩
  | 97 => ⟨S5x4x96x224x224, .i32⟩
  | 98 => ⟨S_, .i32⟩
  | 99 => ⟨S5x4x96x224x224, .i32⟩
  | 100 => ⟨S5x4x96x224x224, .i32⟩
  | 101 => ⟨S5x4x96x224x224, .i32⟩
  | 102 => ⟨S5x4x96x224x224, .i32⟩
  | 103 => ⟨S5x4x96x224x224, .i32⟩
  | 104 => ⟨S_, .i32⟩
  | 105 => ⟨S5x4x96x224x224, .i32⟩
  | 106 => ⟨S5x4x96x224x224, .i32⟩
  | 107 => ⟨S_, .i32⟩
  | 108 => ⟨S5x4x96x224x224, .i32⟩
  | 109 => ⟨S5x4x96x224x224, .i32⟩
  | 110 => ⟨S5x4x96x224x224, .i32⟩
  | 111 => ⟨S5x4x96x224x224, .i32⟩
  | 112 => ⟨S5x4x96x224x224, .i32⟩
  | 113 => ⟨S_, .i32⟩
  | 114 => ⟨S5x4x96x224x224, .i32⟩
  | 115 => ⟨S5x4x96x224x224, .i32⟩
  | 116 => ⟨S_, .i32⟩
  | 117 => ⟨S5x4x96x224x224, .i32⟩
  | 118 => ⟨S5x4x96x224x224, .i32⟩
  | 119 => ⟨S5x4x96x224x224, .i32⟩
  | 120 => ⟨S5x4x96x224x224, .i32⟩
  | 121 => ⟨S5x4x96x224x224, .i32⟩
  | 122 => ⟨S_, .i32⟩
  | 123 => ⟨S5x4x96x224x224, .i32⟩
  | 124 => ⟨S5x4x96x224x224, .i32⟩
  | 125 => ⟨S_, .i32⟩
  | 126 => ⟨S5x4x96x224x224, .i32⟩
  | 127 => ⟨S5x4x96x224x224, .i32⟩
  | _ => ⟨S4x96x224x224, .f32⟩

abbrev hbmTy0_3 (i : Nat) : BufTy := match i % 128 with
  | 0 => ⟨S5x4x96x224x224, .i32⟩
  | 1 => ⟨S5x4x96x224x224, .i32⟩
  | 2 => ⟨S5x4x96x224x224, .i32⟩
  | 3 => ⟨S5x4x96x224x224, .i32⟩
  | 4 => ⟨S5x4x96x224x224, .i32⟩
  | 5 => ⟨S5x4x96x224x224, .i32⟩
  | 6 => ⟨S_, .i32⟩
  | 7 => ⟨S5x4x96x224x224, .i32⟩
  | 8 => ⟨S5x4x96x224x224, .i32⟩
  | 9 => ⟨S5x4x96x224x224, .i32⟩
  | 10 => ⟨S_, .i32⟩
  | 11 => ⟨S5x4x96x224x224, .i32⟩
  | 12 => ⟨S5x4x96x224x224, .i32⟩
  | 13 => ⟨S_, .i32⟩
  | 14 => ⟨S5x4x96x224x224, .i32⟩
  | 15 => ⟨S5x4x96x224x224, .i32⟩
  | 16 => ⟨S5x4x96x224x224, .i32⟩
  | 17 => ⟨S5x4x96x224x224, .i32⟩
  | 18 => ⟨S5x4x96x224x224, .i32⟩
  | 19 => ⟨S_, .i32⟩
  | 20 => ⟨S5x4x96x224x224, .i32⟩
  | 21 => ⟨S5x4x96x224x224, .i32⟩
  | 22 => ⟨S_, .i32⟩
  | 23 => ⟨S5x4x96x224x224, .i32⟩
  | 24 => ⟨S5x4x96x224x224, .i32⟩
  | 25 => ⟨S5x4x96x224x224, .i32⟩
  | 26 => ⟨S5x4x96x224x224, .i32⟩
  | 27 => ⟨S5x4x96x224x224, .i32⟩
  | 28 => ⟨S_, .i32⟩
  | 29 => ⟨S5x4x96x224x224, .i32⟩
  | 30 => ⟨S5x4x96x224x224, .i32⟩
  | 31 => ⟨S_, .i32⟩
  | 32 => ⟨S5x4x96x224x224, .i32⟩
  | 33 => ⟨S5x4x96x224x224, .i32⟩
  | 34 => ⟨S5x4x96x224x224, .i32⟩
  | 35 => ⟨S5x4x96x224x224, .i32⟩
  | 36 => ⟨S5x4x96x224x224, .i32⟩
  | 37 => ⟨S_, .i32⟩
  | 38 => ⟨S5x4x96x224x224, .i32⟩
  | 39 => ⟨S5x4x96x224x224, .i32⟩
  | 40 => ⟨S_, .i32⟩
  | 41 => ⟨S5x4x96x224x224, .i32⟩
  | 42 => ⟨S5x4x96x224x224, .i32⟩
  | 43 => ⟨S5x4x96x224x224, .i32⟩
  | 44 => ⟨S5x4x96x224x224, .i32⟩
  | 45 => ⟨S5x4x96x224x224, .i32⟩
  | 46 => ⟨S5x4x96x224x224, .i32⟩
  | 47 => ⟨S5x4x96x224x224, .i32⟩
  | 48 => ⟨S5x4x96x224x224, .i32⟩
  | 49 => ⟨S_, .i32⟩
  | 50 => ⟨S5x4x96x224x224, .i32⟩
  | 51 => ⟨S5x4x96x224x224, .i32⟩
  | 52 => ⟨S5x4x96x224x224, .i32⟩
  | 53 => ⟨S_, .i32⟩
  | 54 => ⟨S5x4x96x224x224, .i32⟩
  | 55 => ⟨S5x4x96x224x224, .i32⟩
  | 56 => ⟨S_, .i32⟩
  | 57 => ⟨S5x4x96x224x224, .i32⟩
  | 58 => ⟨S5x4x96x224x224, .i32⟩
  | 59 => ⟨S5x4x96x224x224, .i32⟩
  | 60 => ⟨S5x4x96x224x224, .i32⟩
  | 61 => ⟨S5x4x96x224x224, .i32⟩
  | 62 => ⟨S_, .i32⟩
  | 63 => ⟨S5x4x96x224x224, .i32⟩
  | 64 => ⟨S5x4x96x224x224, .i32⟩
  | 65 => ⟨S_, .i32⟩
  | 66 => ⟨S5x4x96x224x224, .i32⟩
  | 67 => ⟨S5x4x96x224x224, .i32⟩
  | 68 => ⟨S5x4x96x224x224, .i32⟩
  | 69 => ⟨S5x4x96x224x224, .i32⟩
  | 70 => ⟨S5x4x96x224x224, .i32⟩
  | 71 => ⟨S_, .i32⟩
  | 72 => ⟨S5x4x96x224x224, .i32⟩
  | 73 => ⟨S5x4x96x224x224, .i32⟩
  | 74 => ⟨S_, .i32⟩
  | 75 => ⟨S5x4x96x224x224, .i32⟩
  | 76 => ⟨S5x4x96x224x224, .i32⟩
  | 77 => ⟨S5x4x96x224x224, .i32⟩
  | 78 => ⟨S5x4x96x224x224, .i32⟩
  | 79 => ⟨S5x4x96x224x224, .i32⟩
  | 80 => ⟨S_, .i32⟩
  | 81 => ⟨S5x4x96x224x224, .i32⟩
  | 82 => ⟨S5x4x96x224x224, .i32⟩
  | 83 => ⟨S_, .i32⟩
  | 84 => ⟨S5x4x96x224x224, .i32⟩
  | 85 => ⟨S5x4x96x224x224, .i32⟩
  | 86 => ⟨S5x4x96x224x224, .i32⟩
  | 87 => ⟨S5x4x96x224x224, .i32⟩
  | 88 => ⟨S5x4x96x224x224, .i32⟩
  | 89 => ⟨S5x4x96x224x224, .i32⟩
  | 90 => ⟨S5x4x96x224x224, .i32⟩
  | 91 => ⟨S5x4x96x224x224, .i32⟩
  | 92 => ⟨S_, .i32⟩
  | 93 => ⟨S5x4x96x224x224, .i32⟩
  | 94 => ⟨S5x4x96x224x224, .i32⟩
  | 95 => ⟨S5x4x96x224x224, .i32⟩
  | 96 => ⟨S_, .i32⟩
  | 97 => ⟨S5x4x96x224x224, .i32⟩
  | 98 => ⟨S5x4x96x224x224, .i32⟩
  | 99 => ⟨S_, .i32⟩
  | 100 => ⟨S5x4x96x224x224, .i32⟩
  | 101 => ⟨S5x4x96x224x224, .i32⟩
  | 102 => ⟨S5x4x96x224x224, .i32⟩
  | 103 => ⟨S5x4x96x224x224, .i32⟩
  | 104 => ⟨S5x4x96x224x224, .i32⟩
  | 105 => ⟨S_, .i32⟩
  | 106 => ⟨S5x4x96x224x224, .i32⟩
  | 107 => ⟨S5x4x96x224x224, .i32⟩
  | 108 => ⟨S_, .i32⟩
  | 109 => ⟨S5x4x96x224x224, .i32⟩
  | 110 => ⟨S5x4x96x224x224, .i32⟩
  | 111 => ⟨S5x4x96x224x224, .i32⟩
  | 112 => ⟨S5x4x96x224x224, .i32⟩
  | 113 => ⟨S5x4x96x224x224, .i32⟩
  | 114 => ⟨S_, .i32⟩
  | 115 => ⟨S5x4x96x224x224, .i32⟩
  | 116 => ⟨S5x4x96x224x224, .i32⟩
  | 117 => ⟨S_, .i32⟩
  | 118 => ⟨S5x4x96x224x224, .i32⟩
  | 119 => ⟨S5x4x96x224x224, .i32⟩
  | 120 => ⟨S5x4x96x224x224, .i32⟩
  | 121 => ⟨S5x4x96x224x224, .i32⟩
  | 122 => ⟨S5x4x96x224x224, .i32⟩
  | 123 => ⟨S_, .i32⟩
  | 124 => ⟨S5x4x96x224x224, .i32⟩
  | 125 => ⟨S5x4x96x224x224, .i32⟩
  | 126 => ⟨S_, .i32⟩
  | 127 => ⟨S5x4x96x224x224, .i32⟩
  | _ => ⟨S4x96x224x224, .f32⟩

abbrev hbmTy0_4 (i : Nat) : BufTy := match i % 128 with
  | 0 => ⟨S5x4x96x224x224, .i32⟩
  | 1 => ⟨S5x4x96x224x224, .i32⟩
  | 2 => ⟨S5x4x96x224x224, .i32⟩
  | 3 => ⟨S5x4x96x224x224, .i32⟩
  | 4 => ⟨S5x4x96x224x224, .i32⟩
  | 5 => ⟨S5x4x96x224x224, .i32⟩
  | 6 => ⟨S5x4x96x224x224, .i32⟩
  | 7 => ⟨S_, .i32⟩
  | 8 => ⟨S5x4x96x224x224, .i32⟩
  | 9 => ⟨S5x4x96x224x224, .i32⟩
  | 10 => ⟨S5x4x96x224x224, .i32⟩
  | 11 => ⟨S_, .i32⟩
  | 12 => ⟨S5x4x96x224x224, .i32⟩
  | 13 => ⟨S5x4x96x224x224, .i32⟩
  | 14 => ⟨S_, .i32⟩
  | 15 => ⟨S5x4x96x224x224, .i32⟩
  | 16 => ⟨S5x4x96x224x224, .i32⟩
  | 17 => ⟨S5x4x96x224x224, .f32⟩
  | 18 => ⟨S_, .f32⟩
  | 19 => ⟨S5x4x96x224x224, .f32⟩
  | 20 => ⟨S5x4x96x224x224, .f32⟩
  | 21 => ⟨S1x1x1x1, .f32⟩
  | 22 => ⟨S1x1x1x1x1, .f32⟩
  | 23 => ⟨S5x4x96x224x224, .f32⟩
  | 24 => ⟨S5x4x96x224x224, .f32⟩
  | 25 => ⟨S1x1x1x1x1, .f32⟩
  | 26 => ⟨S5x4x96x224x224, .f32⟩
  | 27 => ⟨S5x4x96x224x224, .f32⟩
  | 28 => ⟨S1x1x1x1x1, .f32⟩
  | 29 => ⟨S5x4x96x224x224, .f32⟩
  | 30 => ⟨S5x4x96x224x224, .f32⟩
  | 31 => ⟨S1x4x96x224x224, .f32⟩
  | 32 => ⟨S5x4x96x224x224, .f32⟩
  | 33 => ⟨S5x4x96x224x224, .f32⟩
  | 34 => ⟨S5x4x96x50176, .f32⟩
  | 35 => ⟨S5x4x96x50176, .i32⟩
  | 36 => ⟨S_, .f32⟩
  | 37 => ⟨S_, .i32⟩
  | 38 => ⟨S5x4x96, .f32⟩
  | 39 => ⟨S5x4x96, .i32⟩
  | 40 => ⟨S_, .i32⟩
  | 41 => ⟨S_, .i32⟩
  | 42 => ⟨S5x4x96, .i32⟩
  | 43 => ⟨S5x4x96, .i32⟩
  | 44 => ⟨S5x4x96, .i32⟩
  | 45 => ⟨S_, .i32⟩
  | 46 => ⟨S5x4x96, .i32⟩
  | 47 => ⟨S5x4x96, .i1⟩
  | 48 => ⟨S5x4x96, .i32⟩
  | 49 => ⟨S5x4x96, .i32⟩
  | 50 => ⟨S_, .i32⟩
  | 51 => ⟨S5x4x96, .i32⟩
  | 52 => ⟨S5x4x96, .i1⟩
  | 53 => ⟨S5x4x96, .i1⟩
  | 54 => ⟨S_, .i32⟩
  | 55 => ⟨S5x4x96, .i32⟩
  | 56 => ⟨S5x4x96, .i32⟩
  | 57 => ⟨S5x4x96, .i32⟩
  | 58 => ⟨S5x4x96, .f32⟩
  | 59 => ⟨S_, .f32⟩
  | 60 => ⟨S5x4x96, .f32⟩
  | 61 => ⟨S5x4x96, .f32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S5x4x96, .i32⟩
  | 69 => ⟨S5x4x96, .i32⟩
  | 70 => ⟨S_, .i32⟩
  | 71 => ⟨S5x4x96, .i32⟩
  | 72 => ⟨S5x4x96, .i1⟩
  | 73 => ⟨S_, .i32⟩
  | 74 => ⟨S5x4x96, .i32⟩
  | 75 => ⟨S5x4x96, .i1⟩
  | 76 => ⟨S_, .i32⟩
  | 77 => ⟨S_, .i1⟩
  | 78 => ⟨S5x4x96, .i1⟩
  | 79 => ⟨S5x4x96, .i1⟩
  | 80 => ⟨S5x4x96, .i1⟩
  | 81 => ⟨S5x4x96, .i32⟩
  | 82 => ⟨S5x4x96, .i32⟩
  | 83 => ⟨S5x4x96, .i32⟩
  | 84 => ⟨S5x4x96, .f32⟩
  | 85 => ⟨S_, .f32⟩
  | 86 => ⟨S5x4x96, .f32⟩
  | 87 => ⟨S5x4x96, .f32⟩
  | 88 => ⟨S5x4x96x1, .f32⟩
  | 89 => ⟨S5x4x96x1, .f32⟩
  | 90 => ⟨S5x4x96x2, .f32⟩
  | 91 => ⟨S_, .f32⟩
  | 92 => ⟨S5x4x96, .f32⟩
  | 93 => ⟨S_, .f32⟩
  | 94 => ⟨S5x4x96, .f32⟩
  | 95 => ⟨S5x4x96, .i1⟩
  | 96 => ⟨S5x4x96x1, .i1⟩
  | 97 => ⟨S5x4x96x1, .f32⟩
  | 98 => ⟨S5x4x96x2, .f32⟩
  | 99 => ⟨S5x4x96x2, .f32⟩
  | 100 => ⟨S_, .f32⟩
  | 101 => ⟨S4x96x2, .f32⟩
  | 102 => ⟨S_, .f32⟩
  | 103 => ⟨S4x96x2, .f32⟩
  | 104 => ⟨S4x96x2, .f32⟩
  | 105 => ⟨S_, .i32⟩
  | 106 => ⟨S_, .f32⟩
  | 107 => ⟨S4x96x2, .f32⟩
  | 108 => ⟨S1x4x96x2, .f32⟩
  | 109 => ⟨S_, .f32⟩
  | 110 => ⟨S1x4x96x2, .f32⟩
  | 111 => ⟨S1x4x96x2, .f32⟩
  | 112 => ⟨S5x4x96x2, .f32⟩
  | 113 => ⟨S5x4x96x2, .f32⟩
  | 114 => ⟨S5x4x96x2, .f32⟩
  | 115 => ⟨S_, .f32⟩
  | 116 => ⟨S_, .f32⟩
  | 117 => ⟨S_, .f32⟩
  | 118 => ⟨S_, .f32⟩
  | 119 => ⟨S4x96x2, .f32⟩
  | 120 => ⟨S4x96x2, .f32⟩
  | 121 => ⟨S4x96x2, .f32⟩
  | 122 => ⟨S_, .f32⟩
  | 123 => ⟨S_, .i1⟩
  | 124 => ⟨S_, .f32⟩
  | 125 => ⟨S_, .f32⟩
  | 126 => ⟨S4x96x2, .f32⟩
  | 127 => ⟨S4x96x2, .f32⟩
  | _ => ⟨S4x96x224x224, .f32⟩

abbrev hbmTy0_5 (i : Nat) : BufTy := match i % 128 with
  | 0 => ⟨S5x4x96, .f32⟩
  | 1 => ⟨S_, .f32⟩
  | 2 => ⟨S4x96, .f32⟩
  | 3 => ⟨S_, .f32⟩
  | 4 => ⟨S4x96, .f32⟩
  | 5 => ⟨S4x96, .f32⟩
  | 6 => ⟨S_, .f32⟩
  | 7 => ⟨S4x96, .f32⟩
  | 8 => ⟨S4x96, .i1⟩
  | 9 => ⟨S4x96x1, .i1⟩
  | 10 => ⟨S4x96x1, .f32⟩
  | 11 => ⟨S4x96x2, .f32⟩
  | 12 => ⟨S4x96x2, .f32⟩
  | 13 => ⟨S4x96x1, .i1⟩
  | 14 => ⟨S4x96x1, .f32⟩
  | 15 => ⟨S4x96x2, .f32⟩
  | 16 => ⟨S4x96x2, .f32⟩
  | 17 => ⟨S4x96x1, .f32⟩
  | 18 => ⟨S4x96, .f32⟩
  | 19 => ⟨S_, .f32⟩
  | 20 => ⟨S4x96, .f32⟩
  | 21 => ⟨S4x96, .f32⟩
  | 22 => ⟨S4x96, .f32⟩
  | 23 => ⟨S4x96, .i32⟩
  | 24 => ⟨S_, .i32⟩
  | 25 => ⟨S_, .i32⟩
  | 26 => ⟨S_, .i32⟩
  | 27 => ⟨S4x96, .i32⟩
  | 28 => ⟨S4x96, .i32⟩
  | 29 => ⟨S_, .i32⟩
  | 30 => ⟨S4x96, .i32⟩
  | 31 => ⟨S4x96, .i32⟩
  | 32 => ⟨S4x96x1, .f32⟩
  | 33 => ⟨S4x96, .f32⟩
  | 34 => ⟨S_, .f32⟩
  | 35 => ⟨S4x96, .f32⟩
  | 36 => ⟨S4x96, .f32⟩
  | 37 => ⟨S4x96, .f32⟩
  | 38 => ⟨S4x96, .i32⟩
  | 39 => ⟨S_, .i32⟩
  | 40 => ⟨S_, .i32⟩
  | 41 => ⟨S_, .i32⟩
  | 42 => ⟨S4x96, .i32⟩
  | 43 => ⟨S4x96, .i32⟩
  | 44 => ⟨S_, .i32⟩
  | 45 => ⟨S4x96, .i32⟩
  | 46 => ⟨S4x96, .i32⟩
  | 47 => ⟨S4, .i32⟩
  | 48 => ⟨S4x1, .i32⟩
  | 49 => ⟨S4x96, .i32⟩
  | 50 => ⟨S96, .i32⟩
  | 51 => ⟨S1x96, .i32⟩
  | 52 => ⟨S4x96, .i32⟩
  | 53 => ⟨S_, .f32⟩
  | 54 => ⟨S4x96x224x224, .f32⟩
  | 55 => ⟨S4x96, .f32⟩
  | 56 => ⟨S_, .i32⟩
  | 57 => ⟨S4x96, .i32⟩
  | 58 => ⟨S4x96, .i1⟩
  | 59 => ⟨S_, .i32⟩
  | 60 => ⟨S4x96, .i32⟩
  | 61 => ⟨S4x96, .i32⟩
  | 62 => ⟨S4x96, .i32⟩
  | 63 => ⟨S_, .i32⟩
  | 64 => ⟨S4x96, .i32⟩
  | 65 => ⟨S4x96, .i1⟩
  | 66 => ⟨S_, .i32⟩
  | 67 => ⟨S4x96, .i32⟩
  | 68 => ⟨S4x96, .i32⟩
  | 69 => ⟨S4x96, .i32⟩
  | 70 => ⟨S_, .i32⟩
  | 71 => ⟨S4x96, .i32⟩
  | 72 => ⟨S4x96, .i1⟩
  | 73 => ⟨S_, .i32⟩
  | 74 => ⟨S4x96, .i32⟩
  | 75 => ⟨S4x96, .i32⟩
  | 76 => ⟨S4x96, .i32⟩
  | 77 => ⟨S_, .i32⟩
  | 78 => ⟨S4x96, .i32⟩
  | 79 => ⟨S4x96, .i1⟩
  | 80 => ⟨S_, .i32⟩
  | 81 => ⟨S4x96, .i32⟩
  | 82 => ⟨S4x96, .i32⟩
  | 83 => ⟨S4x96, .i32⟩
  | 84 => ⟨S4x96x1, .i32⟩
  | 85 => ⟨S4x96x1, .i32⟩
  | 86 => ⟨S4x96x1, .i32⟩
  | 87 => ⟨S4x96x1, .i32⟩
  | 88 => ⟨S4x96x4, .i32⟩
  | 89 => ⟨S4x96x224x224, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S6, .f32⟩
  | 98 => ⟨S_, .f32⟩
  | 99 => ⟨S6, .f32⟩
  | 100 => ⟨S6, .f32⟩
  | 101 => ⟨S1, .f32⟩
  | 102 => ⟨S_, .f32⟩
  | 103 => ⟨S6, .f32⟩
  | 104 => ⟨S6, .f32⟩
  | 105 => ⟨S6, .f32⟩
  | 106 => ⟨S6, .f32⟩
  | 107 => ⟨S1, .f32⟩
  | 108 => ⟨S6, .f32⟩
  | 109 => ⟨S6, .f32⟩
  | 110 => ⟨S6, .f32⟩
  | 111 => ⟨S1, .f32⟩
  | 112 => ⟨S7, .f32⟩
  | 113 => ⟨S_, .f32⟩
  | 114 => ⟨S7, .f32⟩
  | 115 => ⟨S7, .f32⟩
  | 116 => ⟨S7, .f32⟩
  | 117 => ⟨S_, .f32⟩
  | 118 => ⟨S7, .f32⟩
  | 119 => ⟨S7, .f32⟩
  | 120 => ⟨S7, .f32⟩
  | 121 => ⟨S_, .f32⟩
  | 122 => ⟨S_, .f32⟩
  | 123 => ⟨S7, .f32⟩
  | 124 => ⟨S7, .f32⟩
  | 125 => ⟨S7x1, .f32⟩
  | 126 => ⟨S1x7, .f32⟩
  | 127 => ⟨S7x7, .f32⟩
  | _ => ⟨S4x96x224x224, .f32⟩

abbrev hbmTy0_6 (i : Nat) : BufTy := match i % 128 with
  | 0 => ⟨S7x7, .f32⟩
  | 1 => ⟨S7x7, .f32⟩
  | 2 => ⟨S_, .i32⟩
  | 3 => ⟨S4x96x1x224, .f32⟩
  | 4 => ⟨S4x96x3x224, .f32⟩
  | 5 => ⟨S4x96x3x224, .f32⟩
  | 6 => ⟨S4x96x227x224, .f32⟩
  | 7 => ⟨S4x96x1x224, .f32⟩
  | 8 => ⟨S4x96x3x224, .f32⟩
  | 9 => ⟨S4x96x3x224, .f32⟩
  | 10 => ⟨S4x96x230x224, .f32⟩
  | 11 => ⟨S4x96x230x1, .f32⟩
  | 12 => ⟨S4x96x230x3, .f32⟩
  | 13 => ⟨S4x96x230x3, .f32⟩
  | 14 => ⟨S4x96x230x227, .f32⟩
  | 15 => ⟨S4x96x230x1, .f32⟩
  | 16 => ⟨S4x96x230x3, .f32⟩
  | 17 => ⟨S4x96x230x3, .f32⟩
  | 18 => ⟨S4x96x230x230, .f32⟩
  | 19 => ⟨S4x96x224x230, .f32⟩
  | 20 => ⟨S4x96x224x230, .f32⟩
  | 21 => ⟨S4x96x224x230, .f32⟩
  | 22 => ⟨S4x96x224x230, .f32⟩
  | 23 => ⟨S4x96x224x230, .f32⟩
  | 24 => ⟨S4x96x224x230, .f32⟩
  | 25 => ⟨S4x96x224x230, .f32⟩
  | 26 => ⟨S4x96x224x1x230, .f32⟩
  | 27 => ⟨S4x96x224x1x230, .f32⟩
  | 28 => ⟨S4x96x224x1x230, .f32⟩
  | 29 => ⟨S4x96x224x1x230, .f32⟩
  | 30 => ⟨S4x96x224x1x230, .f32⟩
  | 31 => ⟨S4x96x224x1x230, .f32⟩
  | 32 => ⟨S4x96x224x1x230, .f32⟩
  | 33 => ⟨S4x96x224x7x230, .f32⟩
  | 34 => ⟨S4x96x224x7x224, .f32⟩
  | 35 => ⟨S4x96x224x7x224, .f32⟩
  | 36 => ⟨S4x96x224x7x224, .f32⟩
  | 37 => ⟨S4x96x224x7x224, .f32⟩
  | 38 => ⟨S4x96x224x7x224, .f32⟩
  | 39 => ⟨S4x96x224x7x224, .f32⟩
  | 40 => ⟨S4x96x224x7x224, .f32⟩
  | 41 => ⟨S4x96x224x7x224x1, .f32⟩
  | 42 => ⟨S4x96x224x7x224x1, .f32⟩
  | 43 => ⟨S4x96x224x7x224x1, .f32⟩
  | 44 => ⟨S4x96x224x7x224x1, .f32⟩
  | 45 => ⟨S4x96x224x7x224x1, .f32⟩
  | 46 => ⟨S4x96x224x7x224x1, .f32⟩
  | 47 => ⟨S4x96x224x7x224x1, .f32⟩
  | 48 => ⟨S4x96x224x7x224x7, .f32⟩
  | 49 => ⟨S1x1x1x7x1x7, .f32⟩
  | 50 => ⟨S4x96x224x7x224x7, .f32⟩
  | 51 => ⟨S4x96x224x7x224x7, .f32⟩
  | 52 => ⟨S_, .f32⟩
  | 53 => ⟨S4x96x224x7x224, .f32⟩
  | 54 => ⟨S_, .f32⟩
  | 55 => ⟨S4x96x224x224, .f32⟩
  | 56 => ⟨S_, .f32⟩
  | 57 => ⟨S_, .f32⟩
  | 58 => ⟨S4x96x224x224, .f32⟩
  | 59 => ⟨S4x96x224x224, .f32⟩
  | 60 => ⟨S_, .f32⟩
  | 61 => ⟨S_, .f32⟩
  | 62 => ⟨S_, .f32⟩
  | 63 => ⟨S_, .f32⟩
  | 64 => ⟨S_, .f32⟩
  | 65 => ⟨S4x96x224x224, .f32⟩
  | 66 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_c_0 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v13_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v13_1 : Ref sig .tc := ⟨.hbm, 257, rfl⟩
abbrev main_v15 : Ref sig .tc := ⟨.hbm, 258, rfl⟩
abbrev main_cst_3 : Ref sig .tc := ⟨.hbm, 259, rfl⟩
abbrev main_cst_4 : Ref sig .tc := ⟨.hbm, 260, rfl⟩
abbrev main_call1_v0 : Ref sig .tc := ⟨.hbm, 261, rfl⟩
abbrev main_call1_v1 : Ref sig .tc := ⟨.hbm, 262, rfl⟩
abbrev main_call1_v2 : Ref sig .tc := ⟨.hbm, 263, rfl⟩
abbrev main_call1_v3 : Ref sig .tc := ⟨.hbm, 264, rfl⟩
abbrev main_call1_v4 : Ref sig .tc := ⟨.hbm, 265, rfl⟩
abbrev main_call1_v5 : Ref sig .tc := ⟨.hbm, 266, rfl⟩
abbrev main_call1_v6 : Ref sig .tc := ⟨.hbm, 267, rfl⟩
abbrev main_call1_v7 : Ref sig .tc := ⟨.hbm, 268, rfl⟩
abbrev main_call1_v8 : Ref sig .tc := ⟨.hbm, 269, rfl⟩
abbrev main_call1_v9 : Ref sig .tc := ⟨.hbm, 270, rfl⟩
abbrev main_call1_v10 : Ref sig .tc := ⟨.hbm, 271, rfl⟩
abbrev main_call1_v11 : Ref sig .tc := ⟨.hbm, 272, rfl⟩
abbrev main_call1_c : Ref sig .tc := ⟨.hbm, 273, rfl⟩
abbrev main_call1_v12 : Ref sig .tc := ⟨.hbm, 274, rfl⟩
abbrev main_call1_v13 : Ref sig .tc := ⟨.hbm, 275, rfl⟩
abbrev main_call1_c_0 : Ref sig .tc := ⟨.hbm, 276, rfl⟩
abbrev main_call1_v14 : Ref sig .tc := ⟨.hbm, 277, rfl⟩
abbrev main_call1_v15 : Ref sig .tc := ⟨.hbm, 278, rfl⟩
abbrev main_call1_c_1 : Ref sig .tc := ⟨.hbm, 279, rfl⟩
abbrev main_call1_v16 : Ref sig .tc := ⟨.hbm, 280, rfl⟩
abbrev main_call1_v17 : Ref sig .tc := ⟨.hbm, 281, rfl⟩
abbrev main_call1_c_2 : Ref sig .tc := ⟨.hbm, 282, rfl⟩
abbrev main_call1_v18 : Ref sig .tc := ⟨.hbm, 283, rfl⟩
abbrev main_call1_v19 : Ref sig .tc := ⟨.hbm, 284, rfl⟩
abbrev main_call1_v20 : Ref sig .tc := ⟨.hbm, 285, rfl⟩
abbrev main_call1_v21 : Ref sig .tc := ⟨.hbm, 286, rfl⟩
abbrev main_call1_v22 : Ref sig .tc := ⟨.hbm, 287, rfl⟩
abbrev main_call1_c_3 : Ref sig .tc := ⟨.hbm, 288, rfl⟩
abbrev main_call1_v23 : Ref sig .tc := ⟨.hbm, 289, rfl⟩
abbrev main_call1_v24 : Ref sig .tc := ⟨.hbm, 290, rfl⟩
abbrev main_call1_v25 : Ref sig .tc := ⟨.hbm, 291, rfl⟩
abbrev main_call1_v26 : Ref sig .tc := ⟨.hbm, 292, rfl⟩
abbrev main_call1_v27 : Ref sig .tc := ⟨.hbm, 293, rfl⟩
abbrev main_call1_v28 : Ref sig .tc := ⟨.hbm, 294, rfl⟩
abbrev main_call1_v29 : Ref sig .tc := ⟨.hbm, 295, rfl⟩
abbrev main_call1_v30 : Ref sig .tc := ⟨.hbm, 296, rfl⟩
abbrev main_call1_call0_v0 : Ref sig .tc := ⟨.hbm, 297, rfl⟩
abbrev main_call1_call0_c : Ref sig .tc := ⟨.hbm, 298, rfl⟩
abbrev main_call1_call0_v1 : Ref sig .tc := ⟨.hbm, 299, rfl⟩
abbrev main_call1_call0_v2 : Ref sig .tc := ⟨.hbm, 300, rfl⟩
abbrev main_call1_call0_v3 : Ref sig .tc := ⟨.hbm, 301, rfl⟩
abbrev main_call1_call0_v4 : Ref sig .tc := ⟨.hbm, 302, rfl⟩
abbrev main_call1_call0_v5 : Ref sig .tc := ⟨.hbm, 303, rfl⟩
abbrev main_call1_call0_v6 : Ref sig .tc := ⟨.hbm, 304, rfl⟩
abbrev main_call1_call0_v7 : Ref sig .tc := ⟨.hbm, 305, rfl⟩
abbrev main_call1_call0_v8 : Ref sig .tc := ⟨.hbm, 306, rfl⟩
abbrev main_call1_call0_v9 : Ref sig .tc := ⟨.hbm, 307, rfl⟩
abbrev main_call1_call0_c_0 : Ref sig .tc := ⟨.hbm, 308, rfl⟩
abbrev main_call1_call0_v10 : Ref sig .tc := ⟨.hbm, 309, rfl⟩
abbrev main_call1_call0_v11 : Ref sig .tc := ⟨.hbm, 310, rfl⟩
abbrev main_call1_call0_c_1 : Ref sig .tc := ⟨.hbm, 311, rfl⟩
abbrev main_call1_call0_v12 : Ref sig .tc := ⟨.hbm, 312, rfl⟩
abbrev main_call1_call0_v13 : Ref sig .tc := ⟨.hbm, 313, rfl⟩
abbrev main_call1_call0_v14 : Ref sig .tc := ⟨.hbm, 314, rfl⟩
abbrev main_call1_call0_v15 : Ref sig .tc := ⟨.hbm, 315, rfl⟩
abbrev main_call1_call0_v16 : Ref sig .tc := ⟨.hbm, 316, rfl⟩
abbrev main_call1_call0_c_2 : Ref sig .tc := ⟨.hbm, 317, rfl⟩
abbrev main_call1_call0_v17 : Ref sig .tc := ⟨.hbm, 318, rfl⟩
abbrev main_call1_call0_v18 : Ref sig .tc := ⟨.hbm, 319, rfl⟩
abbrev main_call1_call0_c_3 : Ref sig .tc := ⟨.hbm, 320, rfl⟩
abbrev main_call1_call0_v19 : Ref sig .tc := ⟨.hbm, 321, rfl⟩
abbrev main_call1_call0_v20 : Ref sig .tc := ⟨.hbm, 322, rfl⟩
abbrev main_call1_call0_v21 : Ref sig .tc := ⟨.hbm, 323, rfl⟩
abbrev main_call1_call0_v22 : Ref sig .tc := ⟨.hbm, 324, rfl⟩
abbrev main_call1_call0_v23 : Ref sig .tc := ⟨.hbm, 325, rfl⟩
abbrev main_call1_call0_c_4 : Ref sig .tc := ⟨.hbm, 326, rfl⟩
abbrev main_call1_call0_v24 : Ref sig .tc := ⟨.hbm, 327, rfl⟩
abbrev main_call1_call0_v25 : Ref sig .tc := ⟨.hbm, 328, rfl⟩
abbrev main_call1_call0_c_5 : Ref sig .tc := ⟨.hbm, 329, rfl⟩
abbrev main_call1_call0_v26 : Ref sig .tc := ⟨.hbm, 330, rfl⟩
abbrev main_call1_call0_v27 : Ref sig .tc := ⟨.hbm, 331, rfl⟩
abbrev main_call1_call0_v28 : Ref sig .tc := ⟨.hbm, 332, rfl⟩
abbrev main_call1_call0_v29 : Ref sig .tc := ⟨.hbm, 333, rfl⟩
abbrev main_call1_call0_v30 : Ref sig .tc := ⟨.hbm, 334, rfl⟩
abbrev main_call1_call0_c_6 : Ref sig .tc := ⟨.hbm, 335, rfl⟩
abbrev main_call1_call0_v31 : Ref sig .tc := ⟨.hbm, 336, rfl⟩
abbrev main_call1_call0_v32 : Ref sig .tc := ⟨.hbm, 337, rfl⟩
abbrev main_call1_call0_c_7 : Ref sig .tc := ⟨.hbm, 338, rfl⟩
abbrev main_call1_call0_v33 : Ref sig .tc := ⟨.hbm, 339, rfl⟩
abbrev main_call1_call0_v34 : Ref sig .tc := ⟨.hbm, 340, rfl⟩
abbrev main_call1_call0_v35 : Ref sig .tc := ⟨.hbm, 341, rfl⟩
abbrev main_call1_call0_v36 : Ref sig .tc := ⟨.hbm, 342, rfl⟩
abbrev main_call1_call0_v37 : Ref sig .tc := ⟨.hbm, 343, rfl⟩
abbrev main_call1_call0_v38 : Ref sig .tc := ⟨.hbm, 344, rfl⟩
abbrev main_call1_call0_v39 : Ref sig .tc := ⟨.hbm, 345, rfl⟩
abbrev main_call1_call0_v40 : Ref sig .tc := ⟨.hbm, 346, rfl⟩
abbrev main_call1_call0_c_8 : Ref sig .tc := ⟨.hbm, 347, rfl⟩
abbrev main_call1_call0_v41 : Ref sig .tc := ⟨.hbm, 348, rfl⟩
abbrev main_call1_call0_v42 : Ref sig .tc := ⟨.hbm, 349, rfl⟩
abbrev main_call1_call0_v43 : Ref sig .tc := ⟨.hbm, 350, rfl⟩
abbrev main_call1_call0_c_9 : Ref sig .tc := ⟨.hbm, 351, rfl⟩
abbrev main_call1_call0_v44 : Ref sig .tc := ⟨.hbm, 352, rfl⟩
abbrev main_call1_call0_v45 : Ref sig .tc := ⟨.hbm, 353, rfl⟩
abbrev main_call1_call0_c_10 : Ref sig .tc := ⟨.hbm, 354, rfl⟩
abbrev main_call1_call0_v46 : Ref sig .tc := ⟨.hbm, 355, rfl⟩
abbrev main_call1_call0_v47 : Ref sig .tc := ⟨.hbm, 356, rfl⟩
abbrev main_call1_call0_v48 : Ref sig .tc := ⟨.hbm, 357, rfl⟩
abbrev main_call1_call0_v49 : Ref sig .tc := ⟨.hbm, 358, rfl⟩
abbrev main_call1_call0_v50 : Ref sig .tc := ⟨.hbm, 359, rfl⟩
abbrev main_call1_call0_c_11 : Ref sig .tc := ⟨.hbm, 360, rfl⟩
abbrev main_call1_call0_v51 : Ref sig .tc := ⟨.hbm, 361, rfl⟩
abbrev main_call1_call0_v52 : Ref sig .tc := ⟨.hbm, 362, rfl⟩
abbrev main_call1_call0_c_12 : Ref sig .tc := ⟨.hbm, 363, rfl⟩
abbrev main_call1_call0_v53 : Ref sig .tc := ⟨.hbm, 364, rfl⟩
abbrev main_call1_call0_v54 : Ref sig .tc := ⟨.hbm, 365, rfl⟩
abbrev main_call1_call0_v55 : Ref sig .tc := ⟨.hbm, 366, rfl⟩
abbrev main_call1_call0_v56 : Ref sig .tc := ⟨.hbm, 367, rfl⟩
abbrev main_call1_call0_v57 : Ref sig .tc := ⟨.hbm, 368, rfl⟩
abbrev main_call1_call0_c_13 : Ref sig .tc := ⟨.hbm, 369, rfl⟩
abbrev main_call1_call0_v58 : Ref sig .tc := ⟨.hbm, 370, rfl⟩
abbrev main_call1_call0_v59 : Ref sig .tc := ⟨.hbm, 371, rfl⟩
abbrev main_call1_call0_c_14 : Ref sig .tc := ⟨.hbm, 372, rfl⟩
abbrev main_call1_call0_v60 : Ref sig .tc := ⟨.hbm, 373, rfl⟩
abbrev main_call1_call0_v61 : Ref sig .tc := ⟨.hbm, 374, rfl⟩
abbrev main_call1_call0_v62 : Ref sig .tc := ⟨.hbm, 375, rfl⟩
abbrev main_call1_call0_v63 : Ref sig .tc := ⟨.hbm, 376, rfl⟩
abbrev main_call1_call0_v64 : Ref sig .tc := ⟨.hbm, 377, rfl⟩
abbrev main_call1_call0_c_15 : Ref sig .tc := ⟨.hbm, 378, rfl⟩
abbrev main_call1_call0_v65 : Ref sig .tc := ⟨.hbm, 379, rfl⟩
abbrev main_call1_call0_v66 : Ref sig .tc := ⟨.hbm, 380, rfl⟩
abbrev main_call1_call0_c_16 : Ref sig .tc := ⟨.hbm, 381, rfl⟩
abbrev main_call1_call0_v67 : Ref sig .tc := ⟨.hbm, 382, rfl⟩
abbrev main_call1_call0_v68 : Ref sig .tc := ⟨.hbm, 383, rfl⟩
abbrev main_call1_call0_v69 : Ref sig .tc := ⟨.hbm, 384, rfl⟩
abbrev main_call1_call0_v70 : Ref sig .tc := ⟨.hbm, 385, rfl⟩
abbrev main_call1_call0_v71 : Ref sig .tc := ⟨.hbm, 386, rfl⟩
abbrev main_call1_call0_v72 : Ref sig .tc := ⟨.hbm, 387, rfl⟩
abbrev main_call1_call0_v73 : Ref sig .tc := ⟨.hbm, 388, rfl⟩
abbrev main_call1_call0_v74 : Ref sig .tc := ⟨.hbm, 389, rfl⟩
abbrev main_call1_call0_c_17 : Ref sig .tc := ⟨.hbm, 390, rfl⟩
abbrev main_call1_call0_v75 : Ref sig .tc := ⟨.hbm, 391, rfl⟩
abbrev main_call1_call0_v76 : Ref sig .tc := ⟨.hbm, 392, rfl⟩
abbrev main_call1_call0_v77 : Ref sig .tc := ⟨.hbm, 393, rfl⟩
abbrev main_call1_call0_c_18 : Ref sig .tc := ⟨.hbm, 394, rfl⟩
abbrev main_call1_call0_v78 : Ref sig .tc := ⟨.hbm, 395, rfl⟩
abbrev main_call1_call0_v79 : Ref sig .tc := ⟨.hbm, 396, rfl⟩
abbrev main_call1_call0_c_19 : Ref sig .tc := ⟨.hbm, 397, rfl⟩
abbrev main_call1_call0_v80 : Ref sig .tc := ⟨.hbm, 398, rfl⟩
abbrev main_call1_call0_v81 : Ref sig .tc := ⟨.hbm, 399, rfl⟩
abbrev main_call1_call0_v82 : Ref sig .tc := ⟨.hbm, 400, rfl⟩
abbrev main_call1_call0_v83 : Ref sig .tc := ⟨.hbm, 401, rfl⟩
abbrev main_call1_call0_v84 : Ref sig .tc := ⟨.hbm, 402, rfl⟩
abbrev main_call1_call0_c_20 : Ref sig .tc := ⟨.hbm, 403, rfl⟩
abbrev main_call1_call0_v85 : Ref sig .tc := ⟨.hbm, 404, rfl⟩
abbrev main_call1_call0_v86 : Ref sig .tc := ⟨.hbm, 405, rfl⟩
abbrev main_call1_call0_c_21 : Ref sig .tc := ⟨.hbm, 406, rfl⟩
abbrev main_call1_call0_v87 : Ref sig .tc := ⟨.hbm, 407, rfl⟩
abbrev main_call1_call0_v88 : Ref sig .tc := ⟨.hbm, 408, rfl⟩
abbrev main_call1_call0_v89 : Ref sig .tc := ⟨.hbm, 409, rfl⟩
abbrev main_call1_call0_v90 : Ref sig .tc := ⟨.hbm, 410, rfl⟩
abbrev main_call1_call0_v91 : Ref sig .tc := ⟨.hbm, 411, rfl⟩
abbrev main_call1_call0_c_22 : Ref sig .tc := ⟨.hbm, 412, rfl⟩
abbrev main_call1_call0_v92 : Ref sig .tc := ⟨.hbm, 413, rfl⟩
abbrev main_call1_call0_v93 : Ref sig .tc := ⟨.hbm, 414, rfl⟩
abbrev main_call1_call0_c_23 : Ref sig .tc := ⟨.hbm, 415, rfl⟩
abbrev main_call1_call0_v94 : Ref sig .tc := ⟨.hbm, 416, rfl⟩
abbrev main_call1_call0_v95 : Ref sig .tc := ⟨.hbm, 417, rfl⟩
abbrev main_call1_call0_v96 : Ref sig .tc := ⟨.hbm, 418, rfl⟩
abbrev main_call1_call0_v97 : Ref sig .tc := ⟨.hbm, 419, rfl⟩
abbrev main_call1_call0_v98 : Ref sig .tc := ⟨.hbm, 420, rfl⟩
abbrev main_call1_call0_c_24 : Ref sig .tc := ⟨.hbm, 421, rfl⟩
abbrev main_call1_call0_v99 : Ref sig .tc := ⟨.hbm, 422, rfl⟩
abbrev main_call1_call0_v100 : Ref sig .tc := ⟨.hbm, 423, rfl⟩
abbrev main_call1_call0_c_25 : Ref sig .tc := ⟨.hbm, 424, rfl⟩
abbrev main_call1_call0_v101 : Ref sig .tc := ⟨.hbm, 425, rfl⟩
abbrev main_call1_call0_v102 : Ref sig .tc := ⟨.hbm, 426, rfl⟩
abbrev main_call1_call0_v103 : Ref sig .tc := ⟨.hbm, 427, rfl⟩
abbrev main_call1_call0_v104 : Ref sig .tc := ⟨.hbm, 428, rfl⟩
abbrev main_call1_call0_v105 : Ref sig .tc := ⟨.hbm, 429, rfl⟩
abbrev main_call1_call0_v106 : Ref sig .tc := ⟨.hbm, 430, rfl⟩
abbrev main_call1_call0_v107 : Ref sig .tc := ⟨.hbm, 431, rfl⟩
abbrev main_call1_call0_v108 : Ref sig .tc := ⟨.hbm, 432, rfl⟩
abbrev main_call1_call0_c_26 : Ref sig .tc := ⟨.hbm, 433, rfl⟩
abbrev main_call1_call0_v109 : Ref sig .tc := ⟨.hbm, 434, rfl⟩
abbrev main_call1_call0_v110 : Ref sig .tc := ⟨.hbm, 435, rfl⟩
abbrev main_call1_call0_v111 : Ref sig .tc := ⟨.hbm, 436, rfl⟩
abbrev main_call1_call0_c_27 : Ref sig .tc := ⟨.hbm, 437, rfl⟩
abbrev main_call1_call0_v112 : Ref sig .tc := ⟨.hbm, 438, rfl⟩
abbrev main_call1_call0_v113 : Ref sig .tc := ⟨.hbm, 439, rfl⟩
abbrev main_call1_call0_c_28 : Ref sig .tc := ⟨.hbm, 440, rfl⟩
abbrev main_call1_call0_v114 : Ref sig .tc := ⟨.hbm, 441, rfl⟩
abbrev main_call1_call0_v115 : Ref sig .tc := ⟨.hbm, 442, rfl⟩
abbrev main_call1_call0_v116 : Ref sig .tc := ⟨.hbm, 443, rfl⟩
abbrev main_call1_call0_v117 : Ref sig .tc := ⟨.hbm, 444, rfl⟩
abbrev main_call1_call0_v118 : Ref sig .tc := ⟨.hbm, 445, rfl⟩
abbrev main_call1_call0_c_29 : Ref sig .tc := ⟨.hbm, 446, rfl⟩
abbrev main_call1_call0_v119 : Ref sig .tc := ⟨.hbm, 447, rfl⟩
abbrev main_call1_call0_v120 : Ref sig .tc := ⟨.hbm, 448, rfl⟩
abbrev main_call1_call0_c_30 : Ref sig .tc := ⟨.hbm, 449, rfl⟩
abbrev main_call1_call0_v121 : Ref sig .tc := ⟨.hbm, 450, rfl⟩
abbrev main_call1_call0_v122 : Ref sig .tc := ⟨.hbm, 451, rfl⟩
abbrev main_call1_call0_v123 : Ref sig .tc := ⟨.hbm, 452, rfl⟩
abbrev main_call1_call0_v124 : Ref sig .tc := ⟨.hbm, 453, rfl⟩
abbrev main_call1_call0_v125 : Ref sig .tc := ⟨.hbm, 454, rfl⟩
abbrev main_call1_call0_c_31 : Ref sig .tc := ⟨.hbm, 455, rfl⟩
abbrev main_call1_call0_v126 : Ref sig .tc := ⟨.hbm, 456, rfl⟩
abbrev main_call1_call0_v127 : Ref sig .tc := ⟨.hbm, 457, rfl⟩
abbrev main_call1_call0_c_32 : Ref sig .tc := ⟨.hbm, 458, rfl⟩
abbrev main_call1_call0_v128 : Ref sig .tc := ⟨.hbm, 459, rfl⟩
abbrev main_call1_call0_v129 : Ref sig .tc := ⟨.hbm, 460, rfl⟩
abbrev main_call1_call0_v130 : Ref sig .tc := ⟨.hbm, 461, rfl⟩
abbrev main_call1_call0_v131 : Ref sig .tc := ⟨.hbm, 462, rfl⟩
abbrev main_call1_call0_v132 : Ref sig .tc := ⟨.hbm, 463, rfl⟩
abbrev main_call1_call0_c_33 : Ref sig .tc := ⟨.hbm, 464, rfl⟩
abbrev main_call1_call0_v133 : Ref sig .tc := ⟨.hbm, 465, rfl⟩
abbrev main_call1_call0_v134 : Ref sig .tc := ⟨.hbm, 466, rfl⟩
abbrev main_call1_call0_c_34 : Ref sig .tc := ⟨.hbm, 467, rfl⟩
abbrev main_call1_call0_v135 : Ref sig .tc := ⟨.hbm, 468, rfl⟩
abbrev main_call1_call0_v136 : Ref sig .tc := ⟨.hbm, 469, rfl⟩
abbrev main_call1_call0_v137 : Ref sig .tc := ⟨.hbm, 470, rfl⟩
abbrev main_call1_call0_v138 : Ref sig .tc := ⟨.hbm, 471, rfl⟩
abbrev main_call1_call0_v139 : Ref sig .tc := ⟨.hbm, 472, rfl⟩
abbrev main_call1_call0_v140 : Ref sig .tc := ⟨.hbm, 473, rfl⟩
abbrev main_call1_call0_v141 : Ref sig .tc := ⟨.hbm, 474, rfl⟩
abbrev main_call1_call0_v142 : Ref sig .tc := ⟨.hbm, 475, rfl⟩
abbrev main_call1_call0_c_35 : Ref sig .tc := ⟨.hbm, 476, rfl⟩
abbrev main_call1_call0_v143 : Ref sig .tc := ⟨.hbm, 477, rfl⟩
abbrev main_call1_call0_v144 : Ref sig .tc := ⟨.hbm, 478, rfl⟩
abbrev main_call1_call0_v145 : Ref sig .tc := ⟨.hbm, 479, rfl⟩
abbrev main_call1_call0_c_36 : Ref sig .tc := ⟨.hbm, 480, rfl⟩
abbrev main_call1_call0_v146 : Ref sig .tc := ⟨.hbm, 481, rfl⟩
abbrev main_call1_call0_v147 : Ref sig .tc := ⟨.hbm, 482, rfl⟩
abbrev main_call1_call0_c_37 : Ref sig .tc := ⟨.hbm, 483, rfl⟩
abbrev main_call1_call0_v148 : Ref sig .tc := ⟨.hbm, 484, rfl⟩
abbrev main_call1_call0_v149 : Ref sig .tc := ⟨.hbm, 485, rfl⟩
abbrev main_call1_call0_v150 : Ref sig .tc := ⟨.hbm, 486, rfl⟩
abbrev main_call1_call0_v151 : Ref sig .tc := ⟨.hbm, 487, rfl⟩
abbrev main_call1_call0_v152 : Ref sig .tc := ⟨.hbm, 488, rfl⟩
abbrev main_call1_call0_c_38 : Ref sig .tc := ⟨.hbm, 489, rfl⟩
abbrev main_call1_call0_v153 : Ref sig .tc := ⟨.hbm, 490, rfl⟩
abbrev main_call1_call0_v154 : Ref sig .tc := ⟨.hbm, 491, rfl⟩
abbrev main_call1_call0_c_39 : Ref sig .tc := ⟨.hbm, 492, rfl⟩
abbrev main_call1_call0_v155 : Ref sig .tc := ⟨.hbm, 493, rfl⟩
abbrev main_call1_call0_v156 : Ref sig .tc := ⟨.hbm, 494, rfl⟩
abbrev main_call1_call0_v157 : Ref sig .tc := ⟨.hbm, 495, rfl⟩
abbrev main_call1_call0_v158 : Ref sig .tc := ⟨.hbm, 496, rfl⟩
abbrev main_call1_call0_v159 : Ref sig .tc := ⟨.hbm, 497, rfl⟩
abbrev main_call1_call0_c_40 : Ref sig .tc := ⟨.hbm, 498, rfl⟩
abbrev main_call1_call0_v160 : Ref sig .tc := ⟨.hbm, 499, rfl⟩
abbrev main_call1_call0_v161 : Ref sig .tc := ⟨.hbm, 500, rfl⟩
abbrev main_call1_call0_c_41 : Ref sig .tc := ⟨.hbm, 501, rfl⟩
abbrev main_call1_call0_v162 : Ref sig .tc := ⟨.hbm, 502, rfl⟩
abbrev main_call1_call0_v163 : Ref sig .tc := ⟨.hbm, 503, rfl⟩
abbrev main_call1_call0_v164 : Ref sig .tc := ⟨.hbm, 504, rfl⟩
abbrev main_call1_call0_v165 : Ref sig .tc := ⟨.hbm, 505, rfl⟩
abbrev main_call1_call0_v166 : Ref sig .tc := ⟨.hbm, 506, rfl⟩
abbrev main_call1_call0_c_42 : Ref sig .tc := ⟨.hbm, 507, rfl⟩
abbrev main_call1_call0_v167 : Ref sig .tc := ⟨.hbm, 508, rfl⟩
abbrev main_call1_call0_v168 : Ref sig .tc := ⟨.hbm, 509, rfl⟩
abbrev main_call1_call0_c_43 : Ref sig .tc := ⟨.hbm, 510, rfl⟩
abbrev main_call1_call0_v169 : Ref sig .tc := ⟨.hbm, 511, rfl⟩
abbrev main_call1_call0_v170 : Ref sig .tc := ⟨.hbm, 512, rfl⟩
abbrev main_call1_call0_v171 : Ref sig .tc := ⟨.hbm, 513, rfl⟩
abbrev main_call1_call0_v172 : Ref sig .tc := ⟨.hbm, 514, rfl⟩
abbrev main_call1_call0_v173 : Ref sig .tc := ⟨.hbm, 515, rfl⟩
abbrev main_call1_v31_0 : Ref sig .tc := ⟨.hbm, 516, rfl⟩
abbrev main_call1_call0_v175 : Ref sig .tc := ⟨.hbm, 517, rfl⟩
abbrev main_call1_call0_v176 : Ref sig .tc := ⟨.hbm, 518, rfl⟩
abbrev main_call1_call0_c_44 : Ref sig .tc := ⟨.hbm, 519, rfl⟩
abbrev main_call1_call0_v177 : Ref sig .tc := ⟨.hbm, 520, rfl⟩
abbrev main_call1_v31_1 : Ref sig .tc := ⟨.hbm, 521, rfl⟩
abbrev main_call1_v32 : Ref sig .tc := ⟨.hbm, 522, rfl⟩
abbrev main_call1_c_4 : Ref sig .tc := ⟨.hbm, 523, rfl⟩
abbrev main_call1_v33 : Ref sig .tc := ⟨.hbm, 524, rfl⟩
abbrev main_call1_v34 : Ref sig .tc := ⟨.hbm, 525, rfl⟩
abbrev main_call1_c_5 : Ref sig .tc := ⟨.hbm, 526, rfl⟩
abbrev main_call1_v35 : Ref sig .tc := ⟨.hbm, 527, rfl⟩
abbrev main_call1_v36 : Ref sig .tc := ⟨.hbm, 528, rfl⟩
abbrev main_call1_v37 : Ref sig .tc := ⟨.hbm, 529, rfl⟩
abbrev main_call1_cst : Ref sig .tc := ⟨.hbm, 530, rfl⟩
abbrev main_call1_v38 : Ref sig .tc := ⟨.hbm, 531, rfl⟩
abbrev main_call1_v39 : Ref sig .tc := ⟨.hbm, 532, rfl⟩
abbrev main_call1_v40 : Ref sig .tc := ⟨.hbm, 533, rfl⟩
abbrev main_call1_v41 : Ref sig .tc := ⟨.hbm, 534, rfl⟩
abbrev main_call1_v42 : Ref sig .tc := ⟨.hbm, 535, rfl⟩
abbrev main_call1_v43 : Ref sig .tc := ⟨.hbm, 536, rfl⟩
abbrev main_call1_v44 : Ref sig .tc := ⟨.hbm, 537, rfl⟩
abbrev main_call1_v45 : Ref sig .tc := ⟨.hbm, 538, rfl⟩
abbrev main_call1_v46 : Ref sig .tc := ⟨.hbm, 539, rfl⟩
abbrev main_call1_v47 : Ref sig .tc := ⟨.hbm, 540, rfl⟩
abbrev main_call1_v48 : Ref sig .tc := ⟨.hbm, 541, rfl⟩
abbrev main_v16 : Ref sig .tc := ⟨.hbm, 542, rfl⟩
abbrev main_v17 : Ref sig .tc := ⟨.hbm, 543, rfl⟩
abbrev main_v18 : Ref sig .tc := ⟨.hbm, 544, rfl⟩
abbrev main_v19 : Ref sig .tc := ⟨.hbm, 545, rfl⟩
abbrev main_v20 : Ref sig .tc := ⟨.hbm, 546, rfl⟩
abbrev main_call2_v0 : Ref sig .tc := ⟨.hbm, 547, rfl⟩
abbrev main_call2_cst : Ref sig .tc := ⟨.hbm, 548, rfl⟩
abbrev main_call2_c : Ref sig .tc := ⟨.hbm, 549, rfl⟩
abbrev main_call2_v1_0 : Ref sig .tc := ⟨.hbm, 550, rfl⟩
abbrev main_v21 : Ref sig .tc := ⟨.hbm, 551, rfl⟩
abbrev main_c_5 : Ref sig .tc := ⟨.hbm, 552, rfl⟩
abbrev main_call3_v0 : Ref sig .tc := ⟨.hbm, 553, rfl⟩
abbrev main_call3_v1 : Ref sig .tc := ⟨.hbm, 554, rfl⟩
abbrev main_call3_v2 : Ref sig .tc := ⟨.hbm, 555, rfl⟩
abbrev main_call3_v3 : Ref sig .tc := ⟨.hbm, 556, rfl⟩
abbrev main_call3_v4 : Ref sig .tc := ⟨.hbm, 557, rfl⟩
abbrev main_call3_v5 : Ref sig .tc := ⟨.hbm, 558, rfl⟩
abbrev main_call3_v6 : Ref sig .tc := ⟨.hbm, 559, rfl⟩
abbrev main_call3_v7 : Ref sig .tc := ⟨.hbm, 560, rfl⟩
abbrev main_call3_v8 : Ref sig .tc := ⟨.hbm, 561, rfl⟩
abbrev main_call3_c : Ref sig .tc := ⟨.hbm, 562, rfl⟩
abbrev main_call3_v9 : Ref sig .tc := ⟨.hbm, 563, rfl⟩
abbrev main_call3_v10 : Ref sig .tc := ⟨.hbm, 564, rfl⟩
abbrev main_call3_v11 : Ref sig .tc := ⟨.hbm, 565, rfl⟩
abbrev main_call3_c_0 : Ref sig .tc := ⟨.hbm, 566, rfl⟩
abbrev main_call3_v12 : Ref sig .tc := ⟨.hbm, 567, rfl⟩
abbrev main_call3_v13 : Ref sig .tc := ⟨.hbm, 568, rfl⟩
abbrev main_v22 : Ref sig .tc := ⟨.hbm, 569, rfl⟩
abbrev main_v23 : Ref sig .tc := ⟨.hbm, 570, rfl⟩
abbrev main_cst_6 : Ref sig .tc := ⟨.hbm, 571, rfl⟩
abbrev main_v24 : Ref sig .tc := ⟨.hbm, 572, rfl⟩
abbrev main_v25 : Ref sig .tc := ⟨.hbm, 573, rfl⟩
abbrev main_c_7 : Ref sig .tc := ⟨.hbm, 574, rfl⟩
abbrev main_call4_v0 : Ref sig .tc := ⟨.hbm, 575, rfl⟩
abbrev main_call4_c : Ref sig .tc := ⟨.hbm, 576, rfl⟩
abbrev main_call4_v1 : Ref sig .tc := ⟨.hbm, 577, rfl⟩
abbrev main_call4_c_0 : Ref sig .tc := ⟨.hbm, 578, rfl⟩
abbrev main_call4_v2 : Ref sig .tc := ⟨.hbm, 579, rfl⟩
abbrev main_call4_v3 : Ref sig .tc := ⟨.hbm, 580, rfl⟩
abbrev main_call4_v4 : Ref sig .tc := ⟨.hbm, 581, rfl⟩
abbrev main_call4_c_1 : Ref sig .tc := ⟨.hbm, 582, rfl⟩
abbrev main_call4_v5 : Ref sig .tc := ⟨.hbm, 583, rfl⟩
abbrev main_call4_v6 : Ref sig .tc := ⟨.hbm, 584, rfl⟩
abbrev main_call4_c_2 : Ref sig .tc := ⟨.hbm, 585, rfl⟩
abbrev main_call4_v7 : Ref sig .tc := ⟨.hbm, 586, rfl⟩
abbrev main_call4_v8 : Ref sig .tc := ⟨.hbm, 587, rfl⟩
abbrev main_call4_c_3 : Ref sig .tc := ⟨.hbm, 588, rfl⟩
abbrev main_call4_v9 : Ref sig .tc := ⟨.hbm, 589, rfl⟩
abbrev main_call4_v10 : Ref sig .tc := ⟨.hbm, 590, rfl⟩
abbrev main_call4_v11 : Ref sig .tc := ⟨.hbm, 591, rfl⟩
abbrev main_call4_v12 : Ref sig .tc := ⟨.hbm, 592, rfl⟩
abbrev main_call4_v13 : Ref sig .tc := ⟨.hbm, 593, rfl⟩
abbrev main_call4_v14 : Ref sig .tc := ⟨.hbm, 594, rfl⟩
abbrev main_v26 : Ref sig .tc := ⟨.hbm, 595, rfl⟩
abbrev main_v27 : Ref sig .tc := ⟨.hbm, 596, rfl⟩
abbrev main_cst_8 : Ref sig .tc := ⟨.hbm, 597, rfl⟩
abbrev main_v28 : Ref sig .tc := ⟨.hbm, 598, rfl⟩
abbrev main_v29 : Ref sig .tc := ⟨.hbm, 599, rfl⟩
abbrev main_v30 : Ref sig .tc := ⟨.hbm, 600, rfl⟩
abbrev main_v31 : Ref sig .tc := ⟨.hbm, 601, rfl⟩
abbrev main_v32 : Ref sig .tc := ⟨.hbm, 602, rfl⟩
abbrev main_cst_9 : Ref sig .tc := ⟨.hbm, 603, rfl⟩
abbrev main_v33 : Ref sig .tc := ⟨.hbm, 604, rfl⟩
abbrev main_cst_10 : Ref sig .tc := ⟨.hbm, 605, rfl⟩
abbrev main_v34 : Ref sig .tc := ⟨.hbm, 606, rfl⟩
abbrev main_v35 : Ref sig .tc := ⟨.hbm, 607, rfl⟩
abbrev main_v36 : Ref sig .tc := ⟨.hbm, 608, rfl⟩
abbrev main_v37 : Ref sig .tc := ⟨.hbm, 609, rfl⟩
abbrev main_v38 : Ref sig .tc := ⟨.hbm, 610, rfl⟩
abbrev main_v39 : Ref sig .tc := ⟨.hbm, 611, rfl⟩
abbrev main_cst_11 : Ref sig .tc := ⟨.hbm, 612, rfl⟩
abbrev main_v40 : Ref sig .tc := ⟨.hbm, 613, rfl⟩
abbrev main_cst_12 : Ref sig .tc := ⟨.hbm, 614, rfl⟩
abbrev main_v41 : Ref sig .tc := ⟨.hbm, 615, rfl⟩
abbrev main_v42 : Ref sig .tc := ⟨.hbm, 616, rfl⟩
abbrev main_c_13 : Ref sig .tc := ⟨.hbm, 617, rfl⟩
abbrev main_call5_cst : Ref sig .tc := ⟨.hbm, 618, rfl⟩
abbrev main_call5_v0 : Ref sig .tc := ⟨.hbm, 619, rfl⟩
abbrev main_call5_v1 : Ref sig .tc := ⟨.hbm, 620, rfl⟩
abbrev main_call5_cst_0 : Ref sig .tc := ⟨.hbm, 621, rfl⟩
abbrev main_call5_v2 : Ref sig .tc := ⟨.hbm, 622, rfl⟩
abbrev main_call5_v3 : Ref sig .tc := ⟨.hbm, 623, rfl⟩
abbrev main_call5_v4 : Ref sig .tc := ⟨.hbm, 624, rfl⟩
abbrev main_call5_v5 : Ref sig .tc := ⟨.hbm, 625, rfl⟩
abbrev main_call5_v6 : Ref sig .tc := ⟨.hbm, 626, rfl⟩
abbrev main_call5_v7 : Ref sig .tc := ⟨.hbm, 627, rfl⟩
abbrev main_call5_cst_1 : Ref sig .tc := ⟨.hbm, 628, rfl⟩
abbrev main_call5_v8 : Ref sig .tc := ⟨.hbm, 629, rfl⟩
abbrev main_call5_cst_2 : Ref sig .tc := ⟨.hbm, 630, rfl⟩
abbrev main_call5_v9 : Ref sig .tc := ⟨.hbm, 631, rfl⟩
abbrev main_call5_v10 : Ref sig .tc := ⟨.hbm, 632, rfl⟩
abbrev main_call5_v11 : Ref sig .tc := ⟨.hbm, 633, rfl⟩
abbrev main_call5_cst_3 : Ref sig .tc := ⟨.hbm, 634, rfl⟩
abbrev main_call5_v12 : Ref sig .tc := ⟨.hbm, 635, rfl⟩
abbrev main_call5_cst_4 : Ref sig .tc := ⟨.hbm, 636, rfl⟩
abbrev main_call5_call0_v0 : Ref sig .tc := ⟨.hbm, 637, rfl⟩
abbrev main_call5_call0_v1 : Ref sig .tc := ⟨.hbm, 638, rfl⟩
abbrev main_v43 : Ref sig .tc := ⟨.hbm, 639, rfl⟩
abbrev main_v44 : Ref sig .tc := ⟨.hbm, 640, rfl⟩
abbrev main_cst_14 : Ref sig .tc := ⟨.hbm, 641, rfl⟩
abbrev main_v45 : Ref sig .tc := ⟨.hbm, 642, rfl⟩
abbrev main_cst_15 : Ref sig .tc := ⟨.hbm, 643, rfl⟩
abbrev main_v46 : Ref sig .tc := ⟨.hbm, 644, rfl⟩
abbrev main_v47 : Ref sig .tc := ⟨.hbm, 645, rfl⟩
abbrev main_cst_16 : Ref sig .tc := ⟨.hbm, 646, rfl⟩
abbrev main_v48 : Ref sig .tc := ⟨.hbm, 647, rfl⟩
abbrev main_v49 : Ref sig .tc := ⟨.hbm, 648, rfl⟩
abbrev main_v50 : Ref sig .tc := ⟨.hbm, 649, rfl⟩
abbrev main_v51 : Ref sig .tc := ⟨.hbm, 650, rfl⟩
abbrev main_v52 : Ref sig .tc := ⟨.hbm, 651, rfl⟩
abbrev main_v53 : Ref sig .tc := ⟨.hbm, 652, rfl⟩
abbrev main_v54 : Ref sig .tc := ⟨.hbm, 653, rfl⟩
abbrev main_v55 : Ref sig .tc := ⟨.hbm, 654, rfl⟩
abbrev main_v56 : Ref sig .tc := ⟨.hbm, 655, rfl⟩
abbrev main_v57 : Ref sig .tc := ⟨.hbm, 656, rfl⟩
abbrev main_v58 : Ref sig .tc := ⟨.hbm, 657, rfl⟩
abbrev main_v59 : Ref sig .tc := ⟨.hbm, 658, rfl⟩
abbrev main_cst_17 : Ref sig .tc := ⟨.hbm, 659, rfl⟩
abbrev main_v60 : Ref sig .tc := ⟨.hbm, 660, rfl⟩
abbrev main_v61 : Ref sig .tc := ⟨.hbm, 661, rfl⟩
abbrev main_v62 : Ref sig .tc := ⟨.hbm, 662, rfl⟩
abbrev main_v63 : Ref sig .tc := ⟨.hbm, 663, rfl⟩
abbrev main_c_18 : Ref sig .tc := ⟨.hbm, 664, rfl⟩
abbrev main_c_19 : Ref sig .tc := ⟨.hbm, 665, rfl⟩
abbrev main_call7_v0 : Ref sig .tc := ⟨.hbm, 666, rfl⟩
abbrev main_call7_v1 : Ref sig .tc := ⟨.hbm, 667, rfl⟩
abbrev main_call7_v2 : Ref sig .tc := ⟨.hbm, 668, rfl⟩
abbrev main_call7_v3 : Ref sig .tc := ⟨.hbm, 669, rfl⟩
abbrev main_call7_v4 : Ref sig .tc := ⟨.hbm, 670, rfl⟩
abbrev main_v64 : Ref sig .tc := ⟨.hbm, 671, rfl⟩
abbrev main_v65 : Ref sig .tc := ⟨.hbm, 672, rfl⟩
abbrev main_v66 : Ref sig .tc := ⟨.hbm, 673, rfl⟩
abbrev main_cst_20 : Ref sig .tc := ⟨.hbm, 674, rfl⟩
abbrev main_v67 : Ref sig .tc := ⟨.hbm, 675, rfl⟩
abbrev main_v68 : Ref sig .tc := ⟨.hbm, 676, rfl⟩
abbrev main_v69 : Ref sig .tc := ⟨.hbm, 677, rfl⟩
abbrev main_v70 : Ref sig .tc := ⟨.hbm, 678, rfl⟩
abbrev main_c_21 : Ref sig .tc := ⟨.hbm, 679, rfl⟩
abbrev main_c_22 : Ref sig .tc := ⟨.hbm, 680, rfl⟩
abbrev main_call9_v0 : Ref sig .tc := ⟨.hbm, 681, rfl⟩
abbrev main_call9_v1 : Ref sig .tc := ⟨.hbm, 682, rfl⟩
abbrev main_call9_v2 : Ref sig .tc := ⟨.hbm, 683, rfl⟩
abbrev main_call9_v3 : Ref sig .tc := ⟨.hbm, 684, rfl⟩
abbrev main_call9_v4 : Ref sig .tc := ⟨.hbm, 685, rfl⟩
abbrev main_v71 : Ref sig .tc := ⟨.hbm, 686, rfl⟩
abbrev main_v72 : Ref sig .tc := ⟨.hbm, 687, rfl⟩
abbrev main_v73 : Ref sig .tc := ⟨.hbm, 688, rfl⟩
abbrev main_v74 : Ref sig .tc := ⟨.hbm, 689, rfl⟩
abbrev main_v75 : Ref sig .tc := ⟨.hbm, 690, rfl⟩
abbrev main_v76 : Ref sig .tc := ⟨.hbm, 691, rfl⟩
abbrev main_v77 : Ref sig .tc := ⟨.hbm, 692, rfl⟩
abbrev main_cst_23 : Ref sig .tc := ⟨.hbm, 693, rfl⟩
abbrev main_v78 : Ref sig .tc := ⟨.hbm, 694, rfl⟩
abbrev main_v79 : Ref sig .tc := ⟨.hbm, 695, rfl⟩
abbrev main_c_24 : Ref sig .tc := ⟨.hbm, 696, rfl⟩
abbrev main_v80 : Ref sig .tc := ⟨.hbm, 697, rfl⟩
abbrev main_v81 : Ref sig .tc := ⟨.hbm, 698, rfl⟩
abbrev main_c_25 : Ref sig .tc := ⟨.hbm, 699, rfl⟩
abbrev main_v82 : Ref sig .tc := ⟨.hbm, 700, rfl⟩
abbrev main_v83 : Ref sig .tc := ⟨.hbm, 701, rfl⟩
abbrev main_v84 : Ref sig .tc := ⟨.hbm, 702, rfl⟩
abbrev main_c_26 : Ref sig .tc := ⟨.hbm, 703, rfl⟩
abbrev main_v85 : Ref sig .tc := ⟨.hbm, 704, rfl⟩
abbrev main_v86 : Ref sig .tc := ⟨.hbm, 705, rfl⟩
abbrev main_c_27 : Ref sig .tc := ⟨.hbm, 706, rfl⟩
abbrev main_v87 : Ref sig .tc := ⟨.hbm, 707, rfl⟩
abbrev main_v88 : Ref sig .tc := ⟨.hbm, 708, rfl⟩
abbrev main_v89 : Ref sig .tc := ⟨.hbm, 709, rfl⟩
abbrev main_c_28 : Ref sig .tc := ⟨.hbm, 710, rfl⟩
abbrev main_v90 : Ref sig .tc := ⟨.hbm, 711, rfl⟩
abbrev main_v91 : Ref sig .tc := ⟨.hbm, 712, rfl⟩
abbrev main_c_29 : Ref sig .tc := ⟨.hbm, 713, rfl⟩
abbrev main_v92 : Ref sig .tc := ⟨.hbm, 714, rfl⟩
abbrev main_v93 : Ref sig .tc := ⟨.hbm, 715, rfl⟩
abbrev main_v94 : Ref sig .tc := ⟨.hbm, 716, rfl⟩
abbrev main_c_30 : Ref sig .tc := ⟨.hbm, 717, rfl⟩
abbrev main_v95 : Ref sig .tc := ⟨.hbm, 718, rfl⟩
abbrev main_v96 : Ref sig .tc := ⟨.hbm, 719, rfl⟩
abbrev main_c_31 : Ref sig .tc := ⟨.hbm, 720, rfl⟩
abbrev main_v97 : Ref sig .tc := ⟨.hbm, 721, rfl⟩
abbrev main_v98 : Ref sig .tc := ⟨.hbm, 722, rfl⟩
abbrev main_v99 : Ref sig .tc := ⟨.hbm, 723, rfl⟩
abbrev main_v100 : Ref sig .tc := ⟨.hbm, 724, rfl⟩
abbrev main_v101 : Ref sig .tc := ⟨.hbm, 725, rfl⟩
abbrev main_v102 : Ref sig .tc := ⟨.hbm, 726, rfl⟩
abbrev main_v103 : Ref sig .tc := ⟨.hbm, 727, rfl⟩
abbrev main_v104 : Ref sig .tc := ⟨.hbm, 728, rfl⟩
abbrev main_v105 : Ref sig .tc := ⟨.hbm, 729, rfl⟩
abbrev main_cst_32 : Ref sig .tc := ⟨.hbm, 730, rfl⟩
abbrev main_cst_33 : Ref sig .tc := ⟨.hbm, 731, rfl⟩
abbrev main_call10_v0 : Ref sig .tc := ⟨.hbm, 732, rfl⟩
abbrev main_call10_v1 : Ref sig .tc := ⟨.hbm, 733, rfl⟩
abbrev main_call10_v2 : Ref sig .tc := ⟨.hbm, 734, rfl⟩
abbrev main_call10_cst : Ref sig .tc := ⟨.hbm, 735, rfl⟩
abbrev main_call10_v3 : Ref sig .tc := ⟨.hbm, 736, rfl⟩
abbrev main_call10_v4 : Ref sig .tc := ⟨.hbm, 737, rfl⟩
abbrev main_call10_cst_0 : Ref sig .tc := ⟨.hbm, 738, rfl⟩
abbrev main_call10_v5 : Ref sig .tc := ⟨.hbm, 739, rfl⟩
abbrev main_call10_v6 : Ref sig .tc := ⟨.hbm, 740, rfl⟩
abbrev main_call10_v7 : Ref sig .tc := ⟨.hbm, 741, rfl⟩
abbrev main_call10_cst_1 : Ref sig .tc := ⟨.hbm, 742, rfl⟩
abbrev main_call10_v8 : Ref sig .tc := ⟨.hbm, 743, rfl⟩
abbrev main_call10_v9 : Ref sig .tc := ⟨.hbm, 744, rfl⟩
abbrev main_call10_v10 : Ref sig .tc := ⟨.hbm, 745, rfl⟩
abbrev main_call10_v11 : Ref sig .tc := ⟨.hbm, 746, rfl⟩
abbrev main_call10_v12 : Ref sig .tc := ⟨.hbm, 747, rfl⟩
abbrev main_call10_v13 : Ref sig .tc := ⟨.hbm, 748, rfl⟩
abbrev main_call10_v14 : Ref sig .tc := ⟨.hbm, 749, rfl⟩
abbrev main_call10_v15 : Ref sig .tc := ⟨.hbm, 750, rfl⟩
abbrev main_call10_v16 : Ref sig .tc := ⟨.hbm, 751, rfl⟩
abbrev main_v106 : Ref sig .tc := ⟨.hbm, 752, rfl⟩
abbrev main_cst_34 : Ref sig .tc := ⟨.hbm, 753, rfl⟩
abbrev main_v107 : Ref sig .tc := ⟨.hbm, 754, rfl⟩
abbrev main_v108 : Ref sig .tc := ⟨.hbm, 755, rfl⟩
abbrev main_v109 : Ref sig .tc := ⟨.hbm, 756, rfl⟩
abbrev main_cst_35 : Ref sig .tc := ⟨.hbm, 757, rfl⟩
abbrev main_v110 : Ref sig .tc := ⟨.hbm, 758, rfl⟩
abbrev main_v111 : Ref sig .tc := ⟨.hbm, 759, rfl⟩
abbrev main_v112 : Ref sig .tc := ⟨.hbm, 760, rfl⟩
abbrev main_cst_36 : Ref sig .tc := ⟨.hbm, 761, rfl⟩
abbrev main_v113 : Ref sig .tc := ⟨.hbm, 762, rfl⟩
abbrev main_v114 : Ref sig .tc := ⟨.hbm, 763, rfl⟩
abbrev main_v115 : Ref sig .tc := ⟨.hbm, 764, rfl⟩
abbrev main_v116 : Ref sig .tc := ⟨.hbm, 765, rfl⟩
abbrev main_v117 : Ref sig .tc := ⟨.hbm, 766, rfl⟩
abbrev main_v118 : Ref sig .tc := ⟨.hbm, 767, rfl⟩
abbrev main_v119 : Ref sig .tc := ⟨.hbm, 768, rfl⟩
abbrev main_v120 : Ref sig .tc := ⟨.hbm, 769, rfl⟩
abbrev main_c_37 : Ref sig .tc := ⟨.hbm, 770, rfl⟩
abbrev main_call11_v0 : Ref sig .tc := ⟨.hbm, 771, rfl⟩
abbrev main_call11_v1 : Ref sig .tc := ⟨.hbm, 772, rfl⟩
abbrev main_call11_v2 : Ref sig .tc := ⟨.hbm, 773, rfl⟩
abbrev main_call11_v3 : Ref sig .tc := ⟨.hbm, 774, rfl⟩
abbrev main_call11_v4 : Ref sig .tc := ⟨.hbm, 775, rfl⟩
abbrev main_call11_v5 : Ref sig .tc := ⟨.hbm, 776, rfl⟩
abbrev main_call11_v6 : Ref sig .tc := ⟨.hbm, 777, rfl⟩
abbrev main_call11_v7 : Ref sig .tc := ⟨.hbm, 778, rfl⟩
abbrev main_call11_v8 : Ref sig .tc := ⟨.hbm, 779, rfl⟩
abbrev main_call11_v9 : Ref sig .tc := ⟨.hbm, 780, rfl⟩
abbrev main_call11_v10 : Ref sig .tc := ⟨.hbm, 781, rfl⟩
abbrev main_call11_v11 : Ref sig .tc := ⟨.hbm, 782, rfl⟩
abbrev main_call11_v12 : Ref sig .tc := ⟨.hbm, 783, rfl⟩
abbrev main_call11_v13 : Ref sig .tc := ⟨.hbm, 784, rfl⟩
abbrev main_call11_v14 : Ref sig .tc := ⟨.hbm, 785, rfl⟩
abbrev main_v121 : Ref sig .tc := ⟨.hbm, 786, rfl⟩
abbrev main_v122 : Ref sig .tc := ⟨.hbm, 787, rfl⟩
abbrev main_v123 : Ref sig .tc := ⟨.hbm, 788, rfl⟩
abbrev main_v124 : Ref sig .tc := ⟨.hbm, 789, rfl⟩
abbrev main_v125 : Ref sig .tc := ⟨.hbm, 790, rfl⟩
abbrev main_v126 : Ref sig .tc := ⟨.hbm, 791, rfl⟩
abbrev main_v127 : Ref sig .tc := ⟨.hbm, 792, rfl⟩
abbrev main_v128 : Ref sig .tc := ⟨.hbm, 793, rfl⟩
abbrev main_v129 : Ref sig .tc := ⟨.hbm, 794, rfl⟩
abbrev main_v130 : Ref sig .tc := ⟨.hbm, 795, rfl⟩
abbrev main_v131 : Ref sig .tc := ⟨.hbm, 796, rfl⟩
abbrev main_v132 : Ref sig .tc := ⟨.hbm, 797, rfl⟩
abbrev main_v133 : Ref sig .tc := ⟨.hbm, 798, rfl⟩
abbrev main_v134 : Ref sig .tc := ⟨.hbm, 799, rfl⟩
abbrev main_v135 : Ref sig .tc := ⟨.hbm, 800, rfl⟩
abbrev main_v136 : Ref sig .tc := ⟨.hbm, 801, rfl⟩
abbrev main_v137 : Ref sig .tc := ⟨.hbm, 802, rfl⟩
abbrev main_v138 : Ref sig .tc := ⟨.hbm, 803, rfl⟩
abbrev main_v139 : Ref sig .tc := ⟨.hbm, 804, rfl⟩
abbrev main_v140 : Ref sig .tc := ⟨.hbm, 805, rfl⟩
abbrev main_v141 : Ref sig .tc := ⟨.hbm, 806, rfl⟩
abbrev main_v142 : Ref sig .tc := ⟨.hbm, 807, rfl⟩
abbrev main_v143 : Ref sig .tc := ⟨.hbm, 808, rfl⟩
abbrev main_v144 : Ref sig .tc := ⟨.hbm, 809, rfl⟩
abbrev main_v145 : Ref sig .tc := ⟨.hbm, 810, rfl⟩
abbrev main_v146 : Ref sig .tc := ⟨.hbm, 811, rfl⟩
abbrev main_v147 : Ref sig .tc := ⟨.hbm, 812, rfl⟩
abbrev main_v148 : Ref sig .tc := ⟨.hbm, 813, rfl⟩
abbrev main_v149 : Ref sig .tc := ⟨.hbm, 814, rfl⟩
abbrev main_v150 : Ref sig .tc := ⟨.hbm, 815, rfl⟩
abbrev main_v151 : Ref sig .tc := ⟨.hbm, 816, rfl⟩
abbrev main_v152 : Ref sig .tc := ⟨.hbm, 817, rfl⟩
abbrev main_v153 : Ref sig .tc := ⟨.hbm, 818, rfl⟩
abbrev main_v154 : Ref sig .tc := ⟨.hbm, 819, rfl⟩
abbrev main_cst_38 : Ref sig .tc := ⟨.hbm, 820, rfl⟩
abbrev main_v155 : Ref sig .tc := ⟨.hbm, 821, rfl⟩
abbrev main_cst_39 : Ref sig .tc := ⟨.hbm, 822, rfl⟩
abbrev main_v156 : Ref sig .tc := ⟨.hbm, 823, rfl⟩
abbrev main_cst_40 : Ref sig .tc := ⟨.hbm, 824, rfl⟩
abbrev main_v157 : Ref sig .tc := ⟨.hbm, 825, rfl⟩
abbrev main_v158 : Ref sig .tc := ⟨.hbm, 826, rfl⟩
abbrev main_v159 : Ref sig .tc := ⟨.hbm, 827, rfl⟩
abbrev main_cst_41 : Ref sig .tc := ⟨.hbm, 828, rfl⟩
abbrev main_v160 : Ref sig .tc := ⟨.hbm, 829, rfl⟩
abbrev main_cst_42 : Ref sig .tc := ⟨.hbm, 830, rfl⟩
abbrev main_v161 : Ref sig .tc := ⟨.hbm, 831, rfl⟩
abbrev main_v162 : Ref sig .tc := ⟨.hbm, 832, rfl⟩
abbrev main_v163 : Ref sig .tc := ⟨.hbm, 833, rfl⟩
abbrev main_v164 : Ref sig .tc := ⟨.hbm, 834, rfl⟩

abbrev nD : Nat := 1
abbrev τ : Topo := Topo.v7x

variable {F : FTy → Type} [FloatOps F]
-- ==== Proof.Line.lean ====
/- Programs that are straight lines of host operations, each writing one fresh buffer of a rank above everything it reads:
   after such a line every operation's equation holds of the final contents at once. -/
module

public import Idealize.ShloMosaic.Lib.StableHlo
public import Idealize.ShloMosaic.Lib.StableHlo.Run

@[expose] public section

namespace Cert.Line

open Idealize.ShloMosaic Idealize.SL Idealize.SL.Sem Idealize.ShloMosaic.StableHlo

variable {nD : Nat} {τ : Topo} {sig : RefSig} {Val : EltTy → Type} {Λ : Labels}

/-- What an operation of a line is: it writes `y` alone, as a function of the buffers `rs`. -/
structure Step (op : HloOp τ sig Val) (y : Ref sig .tc) (rs : List (Ref sig .tc)) : Prop where
  writes : op.writes = {Proc.devRef .tc y}
  fresh : op.fresh = ∅
  bufs : op.bufs ⊆ tcRefs τ sig
  value : ∀ V V' : Valuation τ sig Val, (∀ r ∈ rs, V (Proc.devRef .tc r) = V' (Proc.devRef .tc r)) →
    op.result V (Proc.devRef .tc y) = op.result V' (Proc.devRef .tc y)

theorem Step.nullary (y : Ref sig .tc) (v : y.ty.Contents Val) (hy) :
    Step (StableHlo.nullary (τ := τ) y v hy) y [] :=
  ⟨rfl, rfl, by exact nullary_bufs_sub ..,  fun V V' _ => by rw [nullary_result, nullary_result]⟩

theorem Step.unary (x y : Ref sig .tc) (f : x.ty.Contents Val → y.ty.Contents Val) (hx hy) :
    Step (StableHlo.unary (τ := τ) x y f hx hy) y [x] :=
  ⟨rfl, rfl, by exact unary_bufs_sub ..,  fun V V' h => by
    rw [unary_result, unary_result, h x (by simp)]⟩

theorem Step.reshape (x y : Ref sig .tc) (he : x.ty.elt = y.ty.elt) (hn : x.ty.shape.ShapeCasts y.ty.shape) (hx hy) :
    Step (StableHlo.reshape (τ := τ) (Val := Val) x y he hn hx hy) y [x] :=
  ⟨rfl, rfl, by exact reshape_bufs_sub ..,  fun V V' h => by
    rw [reshape_result, reshape_result, h x (by simp)]⟩

theorem Step.binary (a b y : Ref sig .tc) (f : a.ty.Contents Val → b.ty.Contents Val → y.ty.Contents Val) (ha hb hy) :
    Step (StableHlo.binary (τ := τ) a b y f ha hb hy) y [a, b] :=
  ⟨rfl, rfl, by exact binary_bufs_sub ..,  fun V V' h => by
    rw [binary_result, binary_result, h a (by simp), h b (by simp)]⟩

theorem Step.ternary (c a b y : Ref sig .tc)
    (f : c.ty.Contents Val → a.ty.Contents Val → b.ty.Contents Val → y.ty.Contents Val) (hc ha hb hy) :
    Step (StableHlo.ternary (τ := τ) c a b y f hc ha hb hy) y [c, a, b] :=
  ⟨rfl, rfl, by exact ternary_bufs_sub ..,  fun V V' h => by
    rw [ternary_result, ternary_result, h a (by simp), h b (by simp), h c (by simp)]⟩

theorem Step.quaternary (a b c e y : Ref sig .tc)
    (f : a.ty.Contents Val → b.ty.Contents Val → c.ty.Contents Val → e.ty.Contents Val → y.ty.Contents Val) (ha hb hc he hy) :
    Step (StableHlo.quaternary (τ := τ) a b c e y f ha hb hc he hy) y [a, b, c, e] :=
  ⟨rfl, rfl, by exact quaternary_bufs_sub ..,  fun V V' h => by
    rw [quaternary_result, quaternary_result, h a (by simp), h b (by simp), h c (by simp), h e (by simp)]⟩

theorem Step.nary {n : Nat} (xs : Fin n → Ref sig .tc) (y : Ref sig .tc)
    (f : ((k : Fin n) → (xs k).ty.Contents Val) → y.ty.Contents Val) (hxs hy) :
    Step (StableHlo.nary (τ := τ) xs y f hxs hy) y (List.ofFn xs) :=
  ⟨rfl, rfl, by exact nary_bufs_sub ..,  fun V V' h => by
    rw [nary_result, nary_result]
    exact congrArg f (funext fun k => h _ (List.mem_ofFn.mpr ⟨k, rfl⟩))⟩

/-- A list of operations with, for each, the buffer it writes and those it reads. -/
inductive Line : List (HloOp τ sig Val) → List (Ref sig .tc × List (Ref sig .tc)) → Prop
  | nil : Line [] []
  | cons {op y rs l ws} : Step op y rs → Line l ws → Line (op :: l) ((y, rs) :: ws)

theorem Line.append {l₁ l₂ : List (HloOp τ sig Val)} {w₁ w₂} (h₁ : Line l₁ w₁) (h₂ : Line l₂ w₂) :
    Line (l₁ ++ l₂) (w₁ ++ w₂) := by
  induction h₁ with
  | nil => exact h₂
  | cons s _ ih => exact .cons s ih

/-- Where a buffer stands among those of its memory space. -/
def rank (r : Ref sig .tc) : Nat := r.idx.1

/-- Each operation writes a buffer of a rank above every earlier one's (from `n` on) and above everything it reads. -/
def ordered : Nat → List (Ref sig .tc × List (Ref sig .tc)) → Bool
  | _, [] => true
  | n, (y, rs) :: ws => Nat.ble n (rank y) && (rs.all fun r => Nat.blt (rank r) (rank y)) && ordered (rank y + 1) ws

/-- The operation leaves these contents as they are: what it would write is already there. -/
def Holds (V : Valuation τ sig Val) (op : HloOp τ sig Val) : Prop := op.result V = V

/-- After an ordered line, the buffers of lower ranks hold what they held, and every operation's equation holds. -/
theorem Line.after {l : List (HloOp τ sig Val)} {ws} (h : Line l ws) : ∀ (n : Nat) (_ : ordered n ws = true) (V : Valuation τ sig Val),
    (∀ r : Ref sig .tc, rank r < n → StableHlo.after l V (Proc.devRef .tc r) = V (Proc.devRef .tc r))
      ∧ ∀ op ∈ l, Holds (StableHlo.after l V) op := by
  induction h with
  | nil => exact fun n _ V => ⟨fun _ _ => rfl, fun op h => absurd h List.not_mem_nil⟩
  | @cons op y rs l ws s hl ih =>
    intro n ho V
    simp only [ordered, Bool.and_eq_true, List.all_eq_true] at ho
    obtain ⟨⟨hn, hr⟩, ho⟩ := ho
    have hn : n ≤ rank y := Nat.le_of_ble_eq_true hn
    obtain ⟨ha, hh⟩ := ih _ ho (op.result V)
    rw [after_cons]
    have hlow : ∀ r : Ref sig .tc, rank r < rank y →
        StableHlo.after l (op.result V) (Proc.devRef .tc r) = V (Proc.devRef .tc r) := fun r hr => by
      rw [ha r (by omega), HloOp.result_of_not_mem]
      rw [s.writes, Finset.mem_singleton]
      exact devRef_ne_of_ne (fun e => by rw [e] at hr; omega)
    refine ⟨fun r h => hlow r (by omega), fun o ho' => ?_⟩
    rcases List.mem_cons.mp ho' with rfl | ho'
    · funext b
      by_cases hb : b ∈ o.writes
      · rw [s.writes, Finset.mem_singleton] at hb
        subst hb
        rw [ha y (by omega)]
        exact s.value _ _ fun r hm => hlow r (Nat.le_of_ble_eq_true (hr r hm))
      · rw [HloOp.result_of_not_mem _ _ hb]
    · exact hh o ho'

theorem Line.bufs {l : List (HloOp τ sig Val)} {ws} (h : Line l ws) : l.Forall fun op => op.bufs ⊆ tcRefs τ sig := by
  induction h with
  | nil => exact List.forall_iff_forall_mem.2 (fun _ h => absurd h List.not_mem_nil)
  | cons s _ ih => exact List.forall_cons _ _ _ |>.2 ⟨s.bufs, ih⟩

theorem Line.fresh {l : List (HloOp τ sig Val)} {ws} (h : Line l ws) : ∀ op ∈ l, op.fresh = ∅ := by
  induction h with
  | nil => exact fun _ h => absurd h List.not_mem_nil
  | cons s _ ih => exact fun o ho => (List.mem_cons.mp ho).elim (fun e => e ▸ s.fresh) (ih o)

/-- A program that is a line. -/
def IsLine (P : Prog (TpuEff nD τ sig Val Λ .tc) PUnit) (ws : List (Ref sig .tc × List (Ref sig .tc))) : Prop :=
  ∃ l, P = seq l ∧ Line l ws

theorem IsLine.nil : IsLine (nD := nD) (τ := τ) (sig := sig) (Val := Val) (Λ := Λ) (pure ⟨⟩) [] := ⟨[], rfl, .nil⟩

theorem IsLine.cons {op : HloOp τ sig Val} {y rs} {Q : Prog (TpuEff nD τ sig Val Λ .tc) PUnit} {ws}
    (s : Step op y rs) (h : IsLine Q ws) : IsLine ((hlo rfl op fun _ => .ret (⟨⟩ : PUnit)) >>= fun _ => Q) ((y, rs) :: ws) := by
  obtain ⟨l, rfl, hl⟩ := h
  exact ⟨op :: l, rfl, .cons s hl⟩

theorem IsLine.one {op : HloOp τ sig Val} {y rs} (s : Step op y rs) :
    IsLine (nD := nD) (Λ := Λ) (hlo rfl op fun _ => .ret (⟨⟩ : PUnit)) [(y, rs)] :=
  ⟨[op], (bind_pure _).symm, .cons s .nil⟩

theorem IsLine.call {P Q : Prog (TpuEff nD τ sig Val Λ .tc) PUnit} {w₁ w₂} (h₁ : IsLine P w₁) (h₂ : IsLine Q w₂) :
    IsLine (P >>= fun _ => Q) (w₁ ++ w₂) := by
  obtain ⟨l₁, rfl, h₁⟩ := h₁
  obtain ⟨l₂, rfl, h₂⟩ := h₂
  exact ⟨l₁ ++ l₂, (seq_append l₁ l₂).symm, h₁.append h₂⟩

theorem ble_iff {a b : Nat} : Nat.ble a b = true ↔ a ≤ b := ⟨Nat.le_of_ble_eq_true, Nat.ble_eq_true_of_le⟩

theorem blt_iff {a b : Nat} : Nat.blt a b = true ↔ a < b := ble_iff

theorem ordered_weaken {n k : Nat} {ws : List (Ref sig .tc × List (Ref sig .tc))} (h : n ≤ k) (hk : ordered k ws = true) :
    ordered n ws = true := by
  cases ws with
  | nil => rfl
  | cons w ws =>
    obtain ⟨y, rs⟩ := w
    simp only [ordered, Bool.and_eq_true] at hk ⊢
    exact ⟨⟨ble_iff.2 (Nat.le_trans h (ble_iff.1 hk.1.1)), hk.1.2⟩, hk.2⟩

theorem ordered_append {n k : Nat} {w₁ w₂ : List (Ref sig .tc × List (Ref sig .tc))} (hnk : n ≤ k) (h₁ : ordered n w₁ = true)
    (hb : ∀ w ∈ w₁, rank w.1 < k) (h₂ : ordered k w₂ = true) : ordered n (w₁ ++ w₂) = true := by
  induction w₁ generalizing n with
  | nil => exact ordered_weaken hnk h₂
  | cons w ws ih =>
    obtain ⟨y, rs⟩ := w
    simp only [List.cons_append, ordered, Bool.and_eq_true] at h₁ ⊢
    exact ⟨h₁.1, ih (hb _ List.mem_cons_self) h₁.2 fun w hw => hb w (List.mem_cons_of_mem _ hw)⟩

/-- A program that is an ordered line writing ranks from `n` on and below `m`. -/
def Ordered (n m : Nat) (P : Prog (TpuEff nD τ sig Val Λ .tc) PUnit) : Prop :=
  n ≤ m ∧ ∃ ws, IsLine P ws ∧ ordered n ws = true ∧ ∀ w ∈ ws, rank w.1 < m

/-- The check of one operation. -/
def okAt (n : Nat) (y : Ref sig .tc) (rs : List (Ref sig .tc)) : Bool :=
  Nat.ble n (rank y) && rs.all fun r => Nat.blt (rank r) (rank y)

theorem Ordered.nil {n m : Nat} (h : n = m) : Ordered (nD := nD) (τ := τ) (sig := sig) (Val := Val) (Λ := Λ) n m (pure ⟨⟩) :=
  ⟨Nat.le_of_eq h, [], .nil, rfl, fun _ h => absurd h List.not_mem_nil⟩

theorem Ordered.one {op : HloOp τ sig Val} {y rs} (s : Step op y rs) {n m : Nat} (h : okAt n y rs = true) (hm : rank y + 1 = m) :
    Ordered (nD := nD) (Λ := Λ) n m (hlo rfl op fun _ => .ret (⟨⟩ : PUnit)) := by
  subst hm
  refine ⟨?_, _, .one s, ?_, ?_⟩
  · simp only [okAt, Bool.and_eq_true] at h
    exact Nat.le_succ_of_le (ble_iff.1 h.1)
  · simpa only [ordered, okAt, Bool.and_true] using h
  · intro w hw
    rw [List.mem_singleton.1 hw]; exact Nat.lt_succ_self _

theorem Ordered.call {n k m : Nat} {P Q : Prog (TpuEff nD τ sig Val Λ .tc) PUnit} (h₁ : Ordered n k P) (h₂ : Ordered k m Q) :
    Ordered n m (P >>= fun _ => Q) := by
  obtain ⟨l₁, w₁, s₁, o₁, b₁⟩ := h₁
  obtain ⟨l₂, w₂, s₂, o₂, b₂⟩ := h₂
  refine ⟨l₁.trans l₂, w₁ ++ w₂, s₁.call s₂, ordered_append l₁ o₁ b₁ o₂, fun w hw => ?_⟩
  exact (List.mem_append.1 hw).elim (fun h => Nat.lt_of_lt_of_le (b₁ w h) l₂) (b₂ w)

/-- `Ordered.call` for a call whose body has been unfolded. -/
theorem Ordered.unfolded {n k m : Nat} {A B Q : Prog (TpuEff nD τ sig Val Λ .tc) PUnit} (h₁ : Ordered n k (A >>= fun _ => B))
    (h₂ : Ordered k m Q) : Ordered n m ((A >>= fun _ => B) >>= fun _ => Q) := h₁.call h₂

theorem Ordered.cons {op : HloOp τ sig Val} {y rs} (s : Step op y rs) {n m : Nat} {Q : Prog (TpuEff nD τ sig Val Λ .tc) PUnit}
    (h : okAt n y rs = true) (hQ : Ordered (rank y + 1) m Q) :
    Ordered n m ((hlo rfl op fun _ => .ret (⟨⟩ : PUnit)) >>= fun _ => Q) :=
  (Ordered.one s h rfl).call hQ

/-! ## The equations -/

/-- The equation an effect stands for. -/
def FixE (V : Valuation τ sig Val) : {β : Type} → TpuEff nD τ sig Val Λ .tc β → Prop
  | _, .hloBegin _ op => Holds V op
  | _, _ => True

/-- Every host operation along the program (some path of responses through it) leaves these contents as they are. -/
def Fix (V : Valuation τ sig Val) {α : Type} : Prog (TpuEff nD τ sig Val Λ .tc) α → Prop
  | .ret _ => True
  | .op e k => FixE V e ∧ ∃ x, Fix V (k x)

theorem Fix_pure (V : Valuation τ sig Val) : Fix V (pure ⟨⟩ : Prog (TpuEff nD τ sig Val Λ .tc) PUnit) ↔ True := Iff.rfl

theorem Fix_bind (V : Valuation τ sig Val) (P Q : Prog (TpuEff nD τ sig Val Λ .tc) PUnit) :
    Fix V (P >>= fun _ => Q) ↔ Fix V P ∧ Fix V Q := by
  have key : ∀ {α : Type} (P : Prog (TpuEff nD τ sig Val Λ .tc) α), Fix V (P >>= fun _ => Q) ↔ Fix V P ∧ Fix V Q := by
    intro α P
    induction P with
    | ret a => exact ⟨fun h => ⟨trivial, h⟩, fun h => h.2⟩
    | op e k ih =>
      simp only [Prog.bind_op, Fix, ih]
      exact ⟨fun ⟨h, x, h₁, h₂⟩ => ⟨⟨h, x, h₁⟩, h₂⟩, fun ⟨⟨h, x, h₁⟩, h₂⟩ => ⟨h, x, h₁, h₂⟩⟩
  exact key P

theorem Fix_hlo (V : Valuation τ sig Val) (op : HloOp τ sig Val) :
    Fix V (hlo rfl op fun _ => .ret (⟨⟩ : PUnit) : Prog (TpuEff nD τ sig Val Λ .tc) PUnit) ↔ Holds V op :=
  ⟨fun h => h.1, fun h => ⟨h, ⟨⟩, trivial, fun b => V b.1, trivial⟩⟩

theorem Fix_seq (V : Valuation τ sig Val) {l : List (HloOp τ sig Val)} (h : ∀ op ∈ l, Holds V op) :
    Fix V (seq l : Prog (TpuEff nD τ sig Val Λ .tc) PUnit) := by
  induction l with
  | nil => trivial
  | cons op l ih =>
    exact (Fix_bind V _ _).2 ⟨(Fix_hlo V op).2 (h op List.mem_cons_self), ih fun o ho => h o (List.mem_cons_of_mem _ ho)⟩

/-- The contents of a typed reference's buffer, at the value's type. -/
def rd {T : BufTy} (V : Valuation τ sig Val) (x : TRef sig T) : T.Contents Val := x.ofBuf (V (Proc.devRef .tc x.ref))

/-- What the operation writes to one buffer is there. -/
theorem Holds.at {V : Valuation τ sig Val} {op : HloOp τ sig Val} (h : Holds V op) (y : Ref sig .tc) :
    V (Proc.devRef .tc y) = op.result V (Proc.devRef .tc y) := (congrFun h _).symm

theorem Holds_iff {V : Valuation τ sig Val} {op : HloOp τ sig Val} {y : Ref sig .tc} {rs} (s : Step op y rs) :
    Holds V op ↔ V (Proc.devRef .tc y) = op.result V (Proc.devRef .tc y) := by
  refine ⟨fun h => h.at y, fun h => funext fun b => ?_⟩
  by_cases hb : b ∈ op.writes
  · rw [s.writes, Finset.mem_singleton] at hb
    subst hb; exact h.symm
  · rw [HloOp.result_of_not_mem _ _ hb]

variable {V : Valuation τ sig Val} {T Ta Tb Tc Te Ty : BufTy}

theorem ofBuf_toBuf (y : TRef sig Ty) (v : Ty.Contents Val) : y.ofBuf (y.toBuf v) = v := TRef.ofBuf_toBuf y v

theorem eq_toBuf_iff (y : TRef sig Ty) (u : y.ref.ty.Contents Val) (v : Ty.Contents Val) : u = y.toBuf v ↔ y.ofBuf u = v := by
  obtain ⟨r, rfl, _, _⟩ := y
  exact Iff.rfl

theorem tnullary (y : TRef sig Ty) (v : Ty.Contents Val) :
    Holds V (TRef.nullary (τ := τ) y v) ↔ rd V y = v := by
  rw [Holds_iff (Step.nullary ..), nullary_result]; exact eq_toBuf_iff ..

theorem tunary (x : TRef sig T) (y : TRef sig Ty) (f : T.Contents Val → Ty.Contents Val) :
    Holds V (TRef.unary (τ := τ) x y f) ↔ rd V y = f (rd V x) := by
  rw [Holds_iff (Step.unary ..), unary_result]; exact eq_toBuf_iff ..

theorem tbinary (a : TRef sig Ta) (b : TRef sig Tb) (y : TRef sig Ty) (f : Ta.Contents Val → Tb.Contents Val → Ty.Contents Val) :
    Holds V (TRef.binary (τ := τ) a b y f) ↔ rd V y = f (rd V a) (rd V b) := by
  rw [Holds_iff (Step.binary ..), binary_result]; exact eq_toBuf_iff ..

theorem tternary (c : TRef sig Tc) (a : TRef sig Ta) (b : TRef sig Tb) (y : TRef sig Ty)
    (f : Tc.Contents Val → Ta.Contents Val → Tb.Contents Val → Ty.Contents Val) :
    Holds V (TRef.ternary (τ := τ) c a b y f) ↔ rd V y = f (rd V c) (rd V a) (rd V b) := by
  rw [Holds_iff (Step.ternary ..), ternary_result]; exact eq_toBuf_iff ..

theorem tquaternary (a : TRef sig Ta) (b : TRef sig Tb) (c : TRef sig Tc) (e : TRef sig Te) (y : TRef sig Ty)
    (f : Ta.Contents Val → Tb.Contents Val → Tc.Contents Val → Te.Contents Val → Ty.Contents Val) :
    Holds V (TRef.quaternary (τ := τ) a b c e y f) ↔ rd V y = f (rd V a) (rd V b) (rd V c) (rd V e) := by
  rw [Holds_iff (Step.quaternary ..), quaternary_result]; exact eq_toBuf_iff ..

theorem treshape (x : TRef sig T) (y : TRef sig Ty) (he : T.elt = Ty.elt) (hn : T.shape.ShapeCasts Ty.shape) :
    Holds V (TRef.reshape (τ := τ) x y he hn) ↔ rd V y = fun i => he ▸ shapeCast Ty.shape (rd V x) hn i := by
  rw [Holds_iff (Step.reshape ..), reshape_result]
  obtain ⟨rx, rfl, _, _⟩ := x
  obtain ⟨ry, rfl, _, _⟩ := y
  exact Iff.rfl

theorem snullary (y : Ref sig .tc) (v : y.ty.Contents Val) (hy) :
    Holds V (StableHlo.nullary (τ := τ) y v hy) ↔ V (Proc.devRef .tc y) = v := by
  rw [Holds_iff (Step.nullary ..), nullary_result]

theorem sunary (x y : Ref sig .tc) (f : x.ty.Contents Val → y.ty.Contents Val) (hx hy) :
    Holds V (StableHlo.unary (τ := τ) x y f hx hy) ↔ V (Proc.devRef .tc y) = f (V (Proc.devRef .tc x)) := by
  rw [Holds_iff (Step.unary ..), unary_result]

theorem sbinary (a b y : Ref sig .tc) (f : a.ty.Contents Val → b.ty.Contents Val → y.ty.Contents Val) (ha hb hy) :
    Holds V (StableHlo.binary (τ := τ) a b y f ha hb hy) ↔
      V (Proc.devRef .tc y) = f (V (Proc.devRef .tc a)) (V (Proc.devRef .tc b)) := by
  rw [Holds_iff (Step.binary ..), binary_result]

theorem sternary (c a b y : Ref sig .tc)
    (f : c.ty.Contents Val → a.ty.Contents Val → b.ty.Contents Val → y.ty.Contents Val) (hc ha hb hy) :
    Holds V (StableHlo.ternary (τ := τ) c a b y f hc ha hb hy) ↔
      V (Proc.devRef .tc y) = f (V (Proc.devRef .tc c)) (V (Proc.devRef .tc a)) (V (Proc.devRef .tc b)) := by
  rw [Holds_iff (Step.ternary ..), ternary_result]

theorem snary {n : Nat} (xs : Fin n → Ref sig .tc) (y : Ref sig .tc)
    (f : ((k : Fin n) → (xs k).ty.Contents Val) → y.ty.Contents Val) (hxs hy) :
    Holds V (StableHlo.nary (τ := τ) xs y f hxs hy) ↔ V (Proc.devRef .tc y) = f (fun k => V (Proc.devRef .tc (xs k))) := by
  rw [Holds_iff (Step.nary ..), nary_result]

theorem sreshape (x y : Ref sig .tc) (he : x.ty.elt = y.ty.elt) (hn : x.ty.shape.ShapeCasts y.ty.shape) (hx hy) :
    Holds V (StableHlo.reshape (τ := τ) (Val := Val) x y he hn hx hy) ↔
      V (Proc.devRef .tc y) = fun i => he ▸ shapeCast y.ty.shape (V (Proc.devRef .tc x)) hn i := by
  rw [Holds_iff (Step.reshape ..), reshape_result]

/-! ## The run -/

/-- An ordered line, run on a machine with no scoped buffer or semaphore: it ends, and the contents it ends with satisfy every one of
    its operations' equations, the buffers of ranks below its own being what they were. -/
theorem Ordered.run {n k : Nat} (hR : (Finset.univ.filter fun b : Ref sig .tc => b.isScoped) = ∅)
    (hC : (Finset.univ.filter fun sm : SemLoc sig => sm.isScoped .tc) = ∅)
    (defs : Defs nD τ sig Val Λ) (main : Dev nD → Prog (TpuEff nD τ sig Val Λ .tc) PUnit)
    (h : ∀ d, Ordered n k (main d)) (m : (ℓ : Loc nD τ sig) → Buf Val ℓ) (ρ : Dev nD → PrngReg) :
    θ_run defs (onTc (τ := τ) main) ⟨m, fun _ => 0, ρ⟩ fun r => ∀ d : Dev nD, ∃ V : Valuation τ sig Val,
      (∀ b : Ref sig .tc, r.2.mem ((d.tc : Thread nD τ).loc b) = V (Proc.devRef .tc b)) ∧ Fix V (main d)
        ∧ ∀ b : Ref sig .tc, rank b < n → V (Proc.devRef .tc b) = m ((d.tc : Thread nD τ).loc b) := by
  choose hnk ws hl using h
  choose hs ho using hl
  choose l hP hL using hs
  refine (θ_run defs _ _).mono (fun r hr d => ?_) (run_seq hR hC defs main l hP (fun d => (hL d).bufs) m ρ (fun d => (hL d).fresh))
  obtain ⟨ha, hh⟩ := (hL d).after n (ho d).1 (launchContents m d)
  refine ⟨after (l d) (launchContents m d), fun b => hr d b, ?_, fun b hb => ha b hb⟩
  rw [hP d]
  exact Fix_seq _ hh

/-! ## Lists of operations -/

/-- A list of operations that is an ordered line writing ranks from `n` on and below `m`. -/
def OList (n m : Nat) (l : List (HloOp τ sig Val)) : Prop :=
  n ≤ m ∧ ∃ ws, Line l ws ∧ ordered n ws = true ∧ ∀ w ∈ ws, rank w.1 < m

theorem OList.nil {n m : Nat} (h : n = m) : OList (τ := τ) (sig := sig) (Val := Val) n m [] :=
  ⟨Nat.le_of_eq h, [], .nil, rfl, fun _ h => absurd h List.not_mem_nil⟩

theorem OList.append {n k m : Nat} {l₁ l₂ : List (HloOp τ sig Val)} (h₁ : OList n k l₁) (h₂ : OList k m l₂) :
    OList n m (l₁ ++ l₂) := by
  obtain ⟨e₁, w₁, s₁, o₁, b₁⟩ := h₁
  obtain ⟨e₂, w₂, s₂, o₂, b₂⟩ := h₂
  refine ⟨e₁.trans e₂, w₁ ++ w₂, s₁.append s₂, ordered_append e₁ o₁ b₁ o₂, fun w hw => ?_⟩
  exact (List.mem_append.1 hw).elim (fun h => Nat.lt_of_lt_of_le (b₁ w h) e₂) (b₂ w)

theorem OList.cons {op : HloOp τ sig Val} {y rs} (s : Step op y rs) {n m : Nat} {l : List (HloOp τ sig Val)}
    (h : okAt n y rs = true) (hl : OList (rank y + 1) m l) : OList n m (op :: l) := by
  refine OList.append (l₁ := [op]) (k := rank y + 1) ⟨?_, [(y, rs)], .cons s .nil, ?_, ?_⟩ hl
  · simp only [okAt, Bool.and_eq_true] at h
    exact Nat.le_succ_of_le (ble_iff.1 h.1)
  · simpa only [ordered, okAt, Bool.and_true] using h
  · intro w hw
    rw [List.mem_singleton.1 hw]; exact Nat.lt_succ_self _

/-- Every operation of the list leaves these contents as they are. -/
def HoldsAll (V : Valuation τ sig Val) : List (HloOp τ sig Val) → Prop
  | [] => True
  | op :: l => Holds V op ∧ HoldsAll V l

theorem HoldsAll_nil (V : Valuation τ sig Val) : HoldsAll V [] ↔ True := Iff.rfl

theorem HoldsAll_cons (V : Valuation τ sig Val) (op : HloOp τ sig Val) (l) : HoldsAll V (op :: l) ↔ Holds V op ∧ HoldsAll V l := Iff.rfl

theorem HoldsAll_append (V : Valuation τ sig Val) (l₁ l₂ : List (HloOp τ sig Val)) :
    HoldsAll V (l₁ ++ l₂) ↔ HoldsAll V l₁ ∧ HoldsAll V l₂ := by
  induction l₁ with
  | nil => simp only [List.nil_append, HoldsAll_nil, true_and]
  | cons op l ih => rw [List.cons_append, HoldsAll_cons, HoldsAll_cons, ih, and_assoc]

theorem HoldsAll_iff (V : Valuation τ sig Val) (l : List (HloOp τ sig Val)) : HoldsAll V l ↔ ∀ op ∈ l, Holds V op := by
  induction l with
  | nil => exact ⟨fun _ _ h => absurd h List.not_mem_nil, fun _ => trivial⟩
  | cons op l ih => rw [HoldsAll_cons, ih, List.forall_mem_cons]

/-- Two contents agree on the buffers of ranks below `n`. -/
def Agree (n : Nat) (V V' : Valuation τ sig Val) : Prop :=
  ∀ r : Ref sig .tc, rank r < n → V (Proc.devRef .tc r) = V' (Proc.devRef .tc r)

theorem Agree.mono {n k : Nat} {V V' : Valuation τ sig Val} (h : Agree k V V') (hn : n ≤ k) : Agree n V V' :=
  fun r hr => h r (Nat.lt_of_lt_of_le hr hn)

theorem Agree.trans {n : Nat} {V V' V'' : Valuation τ sig Val} (h : Agree n V V') (h' : Agree n V' V'') : Agree n V V'' :=
  fun r hr => (h r hr).trans (h' r hr)

theorem OList.keeps {n m : Nat} {l : List (HloOp τ sig Val)} (h : OList n m l) (V : Valuation τ sig Val) :
    Agree n (StableHlo.after l V) V := by
  obtain ⟨-, ws, hl, ho, -⟩ := h
  exact (hl.after n ho V).1

/-- The equations of a list hold of every contents that agree, on the ranks the list reaches, with those it ends with. -/
theorem OList.holds {n m : Nat} {l : List (HloOp τ sig Val)} (h : OList n m l) (V V' : Valuation τ sig Val)
    (hV : Agree m V' (StableHlo.after l V)) : HoldsAll V' l := by
  obtain ⟨-, ws, hl, ho, hm⟩ := h
  have hh := (hl.after n ho V).2
  generalize StableHlo.after l V = V₁ at hV hh
  clear V
  induction hl generalizing n with
  | nil => trivial
  | @cons op y rs l ws s hl ih =>
    simp only [ordered, Bool.and_eq_true, List.all_eq_true] at ho
    have hy : rank y < m := hm _ List.mem_cons_self
    refine ⟨?_, ih ho.2 (fun w hw => hm w (List.mem_cons_of_mem _ hw)) fun o h => hh o (List.mem_cons_of_mem _ h)⟩
    have h₁ : op.result V₁ = V₁ := hh op List.mem_cons_self
    funext b
    by_cases hb : b ∈ op.writes
    · rw [s.writes, Finset.mem_singleton] at hb
      subst hb
      rw [s.value V' V₁ fun r hr => hV r (Nat.lt_trans (blt_iff.1 (ho.1.2 r hr)) hy), h₁, hV y hy]
    · rw [HloOp.result_of_not_mem _ _ hb]

end Cert.Line
-- ==== Proof.KerLine.lean ====
/- The kernel program's host operations: before its first launch, between the two, and after the second, each an ordered line. -/
module

public import proofs.«01_k».proof.Proof.Line
public import proofs.«01_k».proof.Proof.Gen.KernelIdeal.Frame

@[expose] public section

set_option maxRecDepth 20000
set_option maxHeartbeats 400000

namespace Cert.KernelIdeal.Gen

open Idealize.ShloMosaic Idealize.SL.Sem Cert.Line

variable {F : FTy → Type} [FloatOps F]

/-- The host operations between the two launches. -/
abbrev between : List (HloOp τ sig (Elt F)) :=
  hostOps1 ++ (hostOps1_1 ++ (hostOps1_2 ++ (hostOps1_3 ++ (hostOps1_4 ++ (hostOps1_5 ++ (hostOps1_6 ++ (hostOps1_7 ++ (hostOps1_8 ++ (
  hostOps1_9 ++ (hostOps1_10 ++ (hostOps1_11 ++ (hostOps1_12 ++ (hostOps1_13 ++ (hostOps1_14 ++ (hostOps1_15 ++ (hostOps1_16 ++ (
  hostOps1_17 ++ (hostOps1_18 ++ (hostOps1_19 ++ (hostOps1_20 ++ (hostOps1_21 ++ (hostOps1_22 ++ (hostOps1_23 ++ (hostOps1_24 ++ (
  hostOps1_25 ++ (hostOps1_26 ++ (hostOps1_27 ++ (hostOps1_28 ++ (hostOps1_29 ++ (hostOps1_30 ++ (hostOps1_31 ++ (hostOps1_32 ++ (
  hostOps1_33 ++ (hostOps1_34 ++ (hostOps1_35 ++ (hostOps1_36 ++ (hostOps1_37 ++ (hostOps1_38 ++ (hostOps1_39 ++ (hostOps1_40 ++ (
  hostOps1_41 ++ (hostOps1_42 ++ (hostOps1_43 ++ (hostOps1_44 ++ (hostOps1_45 ++ (hostOps1_46 ++ (hostOps1_47 ++ (hostOps1_48 ++ (
  hostOps1_49 ++ (hostOps1_50 ++ (hostOps1_51 ++ (hostOps1_52 ++ (hostOps1_53 ++ (hostOps1_54 ++ (hostOps1_55 ++ (hostOps1_56 ++ (
  hostOps1_57 ++ (hostOps1_58 ++ (hostOps1_59 ++ (hostOps1_60 ++ (hostOps1_61 ++ (hostOps1_62 ++ (hostOps1_63 ++ (hostOps1_64 ++ (
  hostOps1_65 ++ (hostOps1_66 ++ (hostOps1_67 ++ (hostOps1_68 ++ (hostOps1_69 ++ (hostOps1_70 ++ (hostOps1_71 ++ (hostOps1_72 ++ (
  hostOps1_73 ++ (hostOps1_74 ++ (hostOps1_75 ++ (hostOps1_76 ++ (hostOps1_77 ++ (hostOps1_78 ++ (hostOps1_79 ++ (hostOps1_80 ++ (
  hostOps1_81 ++ (hostOps1_82 ++ (hostOps1_83 ++ (hostOps1_84 ++ (hostOps1_85 ++ (hostOps1_86 ++ (hostOps1_87 ++ (hostOps1_88 ++ (
  hostOps1_89 ++ (hostOps1_90 ++ (hostOps1_91 ++ (hostOps1_92 ++ (hostOps1_93 ++ (hostOps1_94 ++ (hostOps1_95 ++ (hostOps1_96 ++ (
  hostOps1_97 ++ (hostOps1_98 ++ (hostOps1_99 ++ (hostOps1_100))))))))))))))))))))))))))))))))))))))))))))))))))))))))))))))))))))))))))))))))))))))))))))))))))))

/-- The operations before the first launch. -/
theorem before_line : OList (Val := Elt F) 1 10 hostOps0 := by
  repeat' first
    | with_reducible apply OList.cons (Step.unary ..)
    | with_reducible apply OList.cons (Step.binary ..)
    | with_reducible apply OList.cons (Step.nullary ..)
    | with_reducible apply OList.cons (Step.reshape ..)
    | with_reducible apply OList.nil
    | exact rfl

/-- The operations after the second launch. -/
theorem last_line : OList (Val := Elt F) 787 788 hostOps2 := by
  repeat' first
    | with_reducible apply OList.cons (Step.reshape ..)
    | with_reducible apply OList.nil
    | exact rfl

/-- The operations between the launches. -/
theorem between_line : OList (Val := Elt F) 12 786 between := by
  repeat' first
    | with_reducible apply OList.append
    | with_reducible apply OList.cons (Step.unary ..)
    | with_reducible apply OList.cons (Step.binary ..)
    | with_reducible apply OList.cons (Step.nullary ..)
    | with_reducible apply OList.cons (Step.ternary ..)
    | with_reducible apply OList.cons (Step.reshape ..)
    | with_reducible apply OList.cons (Step.quaternary ..)
    | with_reducible apply OList.nil
    | exact rfl
    | apply OList.cons (Step.nary ..)

end Cert.KernelIdeal.Gen
-- ==== Proof.KerRun.lean ====
/- The kernel program's run: where it ends, its contents satisfy every equation of its host text, and the two launches' result arrays
   are what their blocks leave. -/
module

public import proofs.«01_k».proof.Proof.KerLine

@[expose] public section

set_option maxRecDepth 20000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Cert.Line
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg) (c : Dev nD)

/-- Contents before the second launch, the host operations since the first taken as one list. -/
theorem W103_eq : W103 m ρ c = StableHlo.after between (W2 m ρ c) := by
  simp only [between, StableHlo.after_append]

theorem agree_last : Agree 787 (W105 m ρ c) (W104 m ρ c) := last_line.keeps _

theorem agree_103 : Agree 786 (W105 m ρ c) (W103 m ρ c) := fun r hr =>
  ((agree_last m ρ c).mono (by decide) r hr).trans (W104_of m ρ c r fun w e => by
    match w with
    | 0 => rfl
    | 1 => rfl
    | 2 => exact absurd (e ▸ hr) (by decide))

theorem agree_2 : Agree 12 (W105 m ρ c) (W2 m ρ c) :=
  ((agree_103 m ρ c).mono (by decide)).trans (W103_eq m ρ c ▸ between_line.keeps _)

theorem agree_1 : Agree 10 (W105 m ρ c) (W1 m ρ c) := fun r hr =>
  ((agree_2 m ρ c).mono (by decide) r hr).trans (W2_of m ρ c r fun w e => by
    match w with
    | 0 => rfl
    | 1 => exact absurd (e ▸ hr) (by decide)
    | 2 => exact absurd (e ▸ hr) (by decide))

/-- The equations of the operations before the first launch, between the two, and after the second. -/
theorem holds_before : HoldsAll (W105 m ρ c) hostOps0 := before_line.holds _ _ (agree_1 m ρ c)
theorem holds_between : HoldsAll (W105 m ρ c) between := between_line.holds _ _ (W103_eq m ρ c ▸ agree_103 m ρ c)
theorem holds_last : HoldsAll (W105 m ρ c) hostOps2 := last_line.holds (W104 m ρ c) _ fun _ _ => rfl

theorem final_v7_0 : W105 m ρ c (Proc.devRef .tc main_v7_0) = (dat0 (V1 m ρ) c).arrAt 1 cfg0.N :=
  (agree_2 m ρ c main_v7_0 (by decide)).trans (W2_arr m ρ c 1)
theorem final_v7_1 : W105 m ρ c (Proc.devRef .tc main_v7_1) = (dat0 (V1 m ρ) c).arrAt 2 cfg0.N :=
  (agree_2 m ρ c main_v7_1 (by decide)).trans (W2_arr m ρ c 2)
theorem final_v6 : W105 m ρ c (Proc.devRef .tc main_v6) = V1 m ρ c main_v6 := agree_1 m ρ c main_v6 (by decide)
theorem final_v484 : W105 m ρ c (Proc.devRef .tc main_v484) = (dat1 (V103 m ρ) c).arrAt 2 cfg1.N :=
  (agree_last m ρ c main_v484 (by decide)).trans (W104_arr m ρ c 2)
theorem final_v482 : W105 m ρ c (Proc.devRef .tc main_v482) = V103 m ρ c main_v482 := agree_103 m ρ c main_v482 (by decide)
theorem final_v483 : W105 m ρ c (Proc.devRef .tc main_v483) = V103 m ρ c main_v483 := agree_103 m ρ c main_v483 (by decide)

set_option backward.isDefEq.respectTransparency.types false in
set_option maxHeartbeats 4000000 in
/-- The run: it ends, and on every device each of the program's arrays holds what the last boundary's contents say. -/
theorem run : θ_run defs (onTc (τ := τ) (main (F := F))) ⟨m, fun _ => 0, ρ⟩ (fun r => ∀ c : Dev nD, ∀ b : Ref sig .tc,
    ¬ (Proc.devRef .tc b : DevRef τ sig).isScoped → r.2.mem ((c.tc : Thread nD τ).loc b) = W105 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      repeat' first
        | exact fun _ => .rfl
        | refine And.intro (fun _ => .rfl) ?_
      exact fun c => by
        dsimp only [Pipeline.Seg.post, hseg, Pipeline.HostSeg.ofOps]
        iintro ⟨Hh, Hp, HO⟩
        isplitl [Hh Hp]
        · isplitl [Hh]; · iexact Hh
          iexact Hp
        iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W105 m ρ c b)
    (hfin := fun c s' => by
      iintro ⟨⟨Hh, -⟩, HSI⟩
      unfold StableHlo.held
      imodintro
      iapply (pointsTo_read_all (Pipeline.ucRefs τ sig) (fun b => (((c : Thread nD τ)).1, b)) (W105 m ρ c) s')
      isplitl [Hh] <;> iassumption)
    (hQ := fun s h _ c b hb => h c _ (mem_uc b hb))

end Cert.KernelIdeal.Gen
-- ==== Proof.Threefry.lean ====
/- The threefry-2x32 block function on one pair of 32-bit words, as the kernel and the host program spell it out. -/
module

public import Idealize.ShloMosaic.Lib.StableHlo
public import Idealize.ShloMosaic.PureOps

@[expose] public section

namespace Cert.Threefry

open Idealize.ShloMosaic

/-- One mixing round: the words are added, and the second one rotated by `r` (with `r' = 32 - r`) and
    combined with the sum. -/
def mix (u : ArithUnit) (r r' : BitVec 32) (x : BitVec 32 × BitVec 32) : BitVec 32 × BitVec 32 :=
  (IntOp.addi x.1 x.2,
    IntOp.xori (IntOp.addi x.1 x.2) (IntOp.ori (IntOp.shli u x.2 r) (IntOp.shrui u x.2 r')))

/-- The four rounds of an even group. -/
def even (u : ArithUnit) (x : BitVec 32 × BitVec 32) : BitVec 32 × BitVec 32 :=
  mix u 6#32 26#32 (mix u 26#32 6#32 (mix u 15#32 17#32 (mix u 13#32 19#32 x)))

/-- The four rounds of an odd group. -/
def odd (u : ArithUnit) (x : BitVec 32 × BitVec 32) : BitVec 32 × BitVec 32 :=
  mix u 24#32 8#32 (mix u 16#32 16#32 (mix u 29#32 3#32 (mix u 17#32 15#32 x)))

/-- A key injection. -/
def inj (a b : BitVec 32) (x : BitVec 32 × BitVec 32) : BitVec 32 × BitVec 32 :=
  (IntOp.addi x.1 a, IntOp.addi x.2 b)

/-- The twenty rounds, in five groups with a key injection after each, on the words `x` (the counters with the first key
    already added). -/
def block (u : ArithUnit) (a₁ b₁ a₂ b₂ a₃ b₃ a₄ b₄ a₅ b₅ : BitVec 32) (x : BitVec 32 × BitVec 32) : BitVec 32 × BitVec 32 :=
  inj a₅ b₅ (even u (inj a₄ b₄ (odd u (inj a₃ b₃ (even u (inj a₂ b₂ (odd u (inj a₁ b₁ (even u x)))))))))

/-- A key injection that adds the round number last. -/
def injLast (a b n : BitVec 32) (x : BitVec 32 × BitVec 32) : BitVec 32 × BitVec 32 :=
  (IntOp.addi x.1 a, IntOp.addi (IntOp.addi x.2 b) n)

/-- The block function of the key `(k₀, k₁)` at the counter `(c₀, c₁)`, as the host program spells it out. -/
def hash (u : ArithUnit) (k₀ k₁ c₀ c₁ : BitVec 32) : BitVec 32 × BitVec 32 :=
  let k₂ := IntOp.xori (IntOp.xori k₀ k₁) 466688986#32
  injLast k₂ k₀ 5#32 (even u (injLast k₁ k₂ 4#32 (odd u (injLast k₀ k₁ 3#32 (even u (injLast k₂ k₀ 2#32
    (odd u (injLast k₁ k₂ 1#32 (even u (IntOp.addi c₀ k₀, IntOp.addi c₁ k₁))))))))))

/-- Adding the round number to the key word first gives the same injection. -/
theorem injLast_eq (a b n : BitVec 32) (x : BitVec 32 × BitVec 32) : injLast a b n x = inj a (IntOp.addi b n) x :=
  congrArg (Prod.mk _) (BitVec.add_assoc _ _ _)

/-- A round on the kernel's unit is one on the host: its shift amounts are below the word size. -/
theorem mix_unit (r r' : BitVec 32) (hr : r.toNat < 32) (hr' : r'.toNat < 32) (x : BitVec 32 × BitVec 32) :
    mix .host r r' x = mix .vector r r' x := by
  simp only [mix]
  congr 3 <;> simp [IntOp.shli, IntOp.shrui, hr, hr']

theorem even_unit (x : BitVec 32 × BitVec 32) : even .host x = even .vector x := by
  simp only [even]
  rw [mix_unit _ _ (by decide) (by decide), mix_unit _ _ (by decide) (by decide), mix_unit _ _ (by decide) (by decide),
    mix_unit _ _ (by decide) (by decide)]

theorem odd_unit (x : BitVec 32 × BitVec 32) : odd .host x = odd .vector x := by
  simp only [odd]
  rw [mix_unit _ _ (by decide) (by decide), mix_unit _ _ (by decide) (by decide), mix_unit _ _ (by decide) (by decide),
    mix_unit _ _ (by decide) (by decide)]

/-- The host's block function as the kernel spells it out, the key injections folded into constants. -/
theorem hash_eq (k₀ k₁ c₀ c₁ : BitVec 32) :
    hash .host k₀ k₁ c₀ c₁ =
      let k₂ := IntOp.xori (IntOp.xori k₀ k₁) 466688986#32
      block .vector k₁ (IntOp.addi k₂ 1#32) k₂ (IntOp.addi k₀ 2#32) k₀ (IntOp.addi k₁ 3#32) k₁ (IntOp.addi k₂ 4#32) k₂
        (IntOp.addi k₀ 5#32) (IntOp.addi c₀ k₀, IntOp.addi c₁ k₁) := by
  simp only [hash, block, injLast_eq, even_unit, odd_unit]

/-- The 23 random bits of the counter `n` under the key `(k₀, k₁)`. -/
def word (k₀ k₁ n : BitVec 32) : BitVec 32 :=
  let y := hash .host k₀ k₁ 0#32 n
  IntOp.shrui .vector (IntOp.xori y.1 y.2) 9#32

/-- The same bits, the key injections folded into constants. -/
theorem word_eq (k₀ k₁ n : BitVec 32) :
    word k₀ k₁ n =
      let k₂ := IntOp.xori (IntOp.xori k₀ k₁) 466688986#32
      let y := block .vector k₁ (IntOp.addi k₂ 1#32) k₂ (IntOp.addi k₀ 2#32) k₀ (IntOp.addi k₁ 3#32) k₁
        (IntOp.addi k₂ 4#32) k₂ (IntOp.addi k₀ 5#32) (IntOp.addi 0#32 k₀, IntOp.addi n k₁)
      IntOp.shrui .vector (IntOp.xori y.1 y.2) 9#32 := by
  simp only [word, hash_eq]

/-- The keys of the five draws: the seed's key folded with the draw's number. -/
def key (t : Fin 5) : BitVec 32 × BitVec 32 := hash .host 0#32 42#32 0#32 (BitVec.ofNat 32 t)

/-- Their values. -/
theorem key_eq (t : Fin 5) : key t = ![(1832780943#32, 270669613#32), (64467757#32, 2916123636#32), (2465931498#32, 255383827#32), (3134548294#32, 894150801#32), (2954079971#32, 3276725750#32)] t := by
  fin_cases t <;> rfl

end Cert.Threefry
-- ==== Proof.ArgMax.lean ====
module

public import proofs.«01_k».proof.Proof.Gen.ReferenceIdeal
public import Idealize.ShloMosaic.PureOps.Ideal.Laws
public import Idealize.ShloMosaic.Lib.Pointwise

/-! # The largest entry of a row and the first place that holds it

One predicate, `Top f m a`, says that `m` is the largest entry of `f` and that the word `a` is the first place
where it stands.  A row determines both.  The reference's paired reduction has the property, and so has the
kernel's pair of a nested maximum and a nested minimum over places. -/

@[expose] public section

namespace Cert

open Idealize.ShloMosaic

/-- `m` is the largest entry of `f`, and `a` is the first place that holds it. -/
def Top {n : Nat} (f : Fin n → EReal) (m : EReal) (a : BitVec 32) : Prop :=
  ∃ k : Fin n, f k = m ∧ a = BitVec.ofNat 32 k ∧ (∀ j, f j ≤ m) ∧ ∀ j, f j = m → k ≤ j

/-- A row has one largest entry and one first place of it. -/
theorem Top.unique {n : Nat} {f : Fin n → EReal} {m m' : EReal} {a a' : BitVec 32} (h : Top f m a)
    (h' : Top f m' a') : m = m' ∧ a = a' := by
  obtain ⟨k, hk, rfl, hle, hfst⟩ := h
  obtain ⟨k', hk', rfl, hle', hfst'⟩ := h'
  have hm : m = m' := le_antisymm (hk ▸ hle' k) (hk' ▸ hle k')
  subst hm
  rw [le_antisymm (hfst k' hk') (hfst' k hk)]
  exact ⟨rfl, rfl⟩

/-- The pattern of the fold's start is the least extended real. -/
theorem ofBits_bot : Ideal.ofBits .f32 0xFF800000#32 = ⊥ := by
  simp [Ideal.ofBits, Ideal.ieee]

/-- Every entry lies below the maximum of a list that starts at the least value. -/
theorem le_fold_max {α : Type} (s : Finset α) (f : α → EReal) {a : α} (ha : a ∈ s) : f a ≤ s.fold max ⊥ f :=
  Finset.le_sup (f := f) ha

/-- The maximum of a list that is not empty is one of its entries. -/
theorem exists_fold_max {α : Type} (s : Finset α) (f : α → EReal) (hs : s.Nonempty) :
    ∃ a ∈ s, f a = s.fold max ⊥ f := by
  obtain ⟨a, ha, h⟩ := Finset.exists_mem_eq_sup s hs f
  exact ⟨a, ha, h.symm⟩

/-- The smaller of two words that stand for small numbers is the word of the smaller number. -/
theorem minsi_ofNat {a b : Nat} (ha : a < 2 ^ 31) (hb : b < 2 ^ 31) :
    IntOp.minsi (BitVec.ofNat 32 a) (BitVec.ofNat 32 b) = BitVec.ofNat 32 (min a b) := by
  have ea : (BitVec.ofNat 32 a).toInt = a := by
    rw [BitVec.toInt_eq_toNat_of_lt] <;> simp only [BitVec.toNat_ofNat] <;> omega
  have eb : (BitVec.ofNat 32 b).toInt = b := by
    rw [BitVec.toInt_eq_toNat_of_lt] <;> simp only [BitVec.toNat_ofNat] <;> omega
  unfold IntOp.minsi
  simp only [BitVec.slt, ea, eb, decide_eq_true_eq]
  split
  · rw [min_eq_left (by omega)]
  · rw [min_eq_right (by omega)]

/-- The least of a list of words that stand for small numbers is the word of the least number. -/
theorem fold_minsi {α : Type} (s : Finset α) (M : Nat) (hM : M < 2 ^ 31) (n : α → Nat) (hn : ∀ a, n a < 2 ^ 31) :
    s.fold IntOp.minsi (BitVec.ofNat 32 M) (fun a => BitVec.ofNat 32 (n a)) = BitVec.ofNat 32 (s.fold min M n)
      ∧ s.fold min M n < 2 ^ 31 := by
  classical
  induction s using Finset.induction_on with
  | empty => exact ⟨by simp, by simpa using hM⟩
  | insert a s ha ih =>
    rw [Finset.fold_insert ha, Finset.fold_insert ha, ih.1, minsi_ofNat (hn a) ih.2]
    exact ⟨rfl, lt_of_le_of_lt (min_le_left _ _) (hn a)⟩

/-- The least number of a nested list, from its bounds: it is below every entry, and it is an entry where one lies
below the start. -/
theorem fold_min_le {α : Type} (s : Finset α) (M : Nat) (n : α → Nat) {a : α} (ha : a ∈ s) : s.fold min M n ≤ n a :=
  (Finset.fold_min_le (n a)).mpr (.inr ⟨a, ha, le_rfl⟩)

/-- A place `k` of a row of 50176 entries, read as row `k / 128` and lane `k % 128` of a tile. -/
def tileRow (k : Fin 50176) : Fin 392 := ⟨k / 128, by omega⟩
/-- The lane of place `k`. -/
def tileLane (k : Fin 50176) : Fin 128 := ⟨k % 128, by omega⟩

/-- The kernel's pair: the nested maximum of a tile, and the least place among those that hold it. -/
theorem top_of_tile (c : Fin 392 → Fin 128 → EReal) (g : Fin 392 → Fin 128 → BitVec 32) (m : EReal)
    (hg : ∀ h l, c h l = m → g h l = BitVec.ofNat 32 (128 * h + l)) (hg' : ∀ h l, c h l ≠ m → g h l = 50176#32)
    (hm : m = Finset.univ.fold max ⊥ fun h => Finset.univ.fold max ⊥ (c h)) :
    Top (fun k => c (tileRow k) (tileLane k)) m
      (Finset.univ.fold IntOp.minsi 2147483647#32 fun h => Finset.univ.fold IntOp.minsi 2147483647#32 (g h)) := by
  have hle : ∀ h l, c h l ≤ m := fun h l => by
    rw [hm]
    exact (le_fold_max _ (c h) (Finset.mem_univ l)).trans
      (le_fold_max _ (fun h => Finset.univ.fold max ⊥ (c h)) (Finset.mem_univ h))
  obtain ⟨h₀, -, e₀⟩ := exists_fold_max Finset.univ (fun h => Finset.univ.fold max ⊥ (c h)) ⟨0, Finset.mem_univ _⟩
  obtain ⟨l₀, -, e₁⟩ := exists_fold_max Finset.univ (c h₀) ⟨0, Finset.mem_univ _⟩
  have hc : c h₀ l₀ = m := by rw [e₁, hm]; exact e₀
  let n : Fin 392 → Fin 128 → Nat := fun h l => if c h l = m then 128 * h + l else 50176
  have hn : ∀ h l, n h l < 2 ^ 31 := fun h l => by simp only [n]; split <;> omega
  have hin : ∀ h, (Finset.univ.fold IntOp.minsi 2147483647#32 (g h))
      = BitVec.ofNat 32 (Finset.univ.fold min 2147483647 (n h)) := fun h => by
    rw [← (fold_minsi Finset.univ 2147483647 (by norm_num) (n h) (hn h)).1]
    refine Finset.fold_congr fun l _ => ?_
    simp only [n]
    split
    · next e => exact hg h l e
    · next e => exact hg' h l e
  rw [Finset.fold_congr fun h _ => hin h,
    (fold_minsi Finset.univ 2147483647 (by norm_num) (fun h => Finset.univ.fold min 2147483647 (n h))
      fun h => (fold_minsi Finset.univ 2147483647 (by norm_num) (n h) (hn h)).2).1]
  set N := Finset.univ.fold min 2147483647 fun h => Finset.univ.fold min 2147483647 (n h) with hN
  have hNle : ∀ h l, N ≤ n h l := fun h l =>
    (fold_min_le Finset.univ 2147483647 (fun h => Finset.univ.fold min 2147483647 (n h)) (Finset.mem_univ h)).trans
      (fold_min_le Finset.univ 2147483647 (n h) (Finset.mem_univ l))
  have hNlt : N < 50176 := by
    refine lt_of_le_of_lt (hNle h₀ l₀) ?_
    simp only [n, if_pos hc]; omega
  have hge : ∀ B : Nat, (∀ h l, B ≤ n h l) → B ≤ 2147483647 → B ≤ N := fun B hB hB' =>
    Finset.le_fold_min B |>.mpr ⟨hB', fun h _ => Finset.le_fold_min B |>.mpr ⟨hB', fun l _ => hB h l⟩⟩
  have hex : ∃ h l, n h l = N := by
    by_contra hno
    push Not at hno
    have := hge (N + 1) (fun h l => lt_of_le_of_ne (hNle h l) (hno h l).symm) (by omega)
    omega
  obtain ⟨h₁, l₁, e⟩ := hex
  have hc₁ : c h₁ l₁ = m := by
    by_contra hne
    simp only [n, if_neg hne] at e
    omega
  have e' : 128 * (h₁ : Nat) + l₁ = N := by rw [← e]; simp only [n, if_pos hc₁]
  refine ⟨⟨N, hNlt⟩, ?_, rfl, fun k => hle _ _, fun k hk => ?_⟩
  · show c (tileRow ⟨N, hNlt⟩) (tileLane ⟨N, hNlt⟩) = m
    have er : tileRow ⟨N, hNlt⟩ = h₁ := Fin.ext (by simp only [tileRow]; omega)
    have el : tileLane ⟨N, hNlt⟩ = l₁ := Fin.ext (by simp only [tileLane]; omega)
    rw [er, el, hc₁]
  · have := hNle (tileRow k) (tileLane k)
    have hk' : c (tileRow k) (tileLane k) = m := hk
    simp only [n, if_pos hk'] at this
    have e : 128 * (tileRow k : Nat) + tileLane k = k := by simp only [tileRow, tileLane]; omega
    exact Fin.le_def.mpr (by simp only; omega)

/-- `q` is at least as good as `p`: a larger value, or the same value at a place no later. -/
def Beats (q p : EReal × BitVec 32) : Prop := p.1 < q.1 ∨ p.1 = q.1 ∧ q.2.toNat ≤ p.2.toNat

theorem Beats.rfl' (p) : Beats p p := .inr ⟨rfl, le_rfl⟩

theorem Beats.trans {r q p} (h : Beats r q) (h' : Beats q p) : Beats r p := by
  rcases h with h | ⟨h, hh⟩ <;> rcases h' with h' | ⟨h', hh'⟩
  · exact .inl (h'.trans h)
  · exact .inl (h' ▸ h)
  · exact .inl (h ▸ h')
  · exact .inr ⟨h'.trans h, hh.trans hh'⟩

/-- The reference's reduction step picks one of its two pairs, and the better one. -/
theorem step_picks (a b : EReal × BitVec 32) (ha : a.2.toNat < 2 ^ 31) (hb : b.2.toNat < 2 ^ 31) :
    let r := ReferenceIdeal.reducer_argmax_f32_i32 (F := Ideal) a b
    (r = a ∨ r = b) ∧ Beats r a ∧ Beats r b := by
  obtain ⟨x, i⟩ := a
  obtain ⟨y, j⟩ := b
  simp only at ha hb
  have hs : (i.slt j : Bool) = decide (i.toNat < j.toNat) := by
    simp only [BitVec.slt]
    rw [BitVec.toInt_eq_toNat_of_lt (by omega), BitVec.toInt_eq_toNat_of_lt (by omega)]
    simp
  show (_ = _ ∨ _ = _) ∧ _ ∧ _
  rcases lt_trichotomy x y with h | h | h
  · have : ReferenceIdeal.reducer_argmax_f32_i32 (F := Ideal) (x, i) (y, j) = (y, j) := by
      simp [ReferenceIdeal.reducer_argmax_f32_i32, Ideal.cmpf_def, Ideal.cmp, Scalar.select, IntOp.ori, IntOp.andi, h.ne, h.not_gt]
    rw [this]
    exact ⟨.inr rfl, .inl h, .rfl' _⟩
  · subst h
    by_cases hij : i.toNat < j.toNat
    · have : ReferenceIdeal.reducer_argmax_f32_i32 (F := Ideal) (x, i) (x, j) = (x, i) := by
        simp [ReferenceIdeal.reducer_argmax_f32_i32, Ideal.cmpf_def, Ideal.cmp, Scalar.select, IntOp.ori, IntOp.andi, IntOp.cmpi, hs, hij]
      rw [this]
      exact ⟨.inl rfl, .rfl' _, .inr ⟨rfl, hij.le⟩⟩
    · have : ReferenceIdeal.reducer_argmax_f32_i32 (F := Ideal) (x, i) (x, j) = (x, j) := by
        simp [ReferenceIdeal.reducer_argmax_f32_i32, Ideal.cmpf_def, Ideal.cmp, Scalar.select, IntOp.ori, IntOp.andi, IntOp.cmpi, hs, hij]
      rw [this]
      exact ⟨.inr rfl, .inr ⟨rfl, by simpa using hij⟩, .rfl' _⟩
  · have : ReferenceIdeal.reducer_argmax_f32_i32 (F := Ideal) (x, i) (y, j) = (x, i) := by
      simp [ReferenceIdeal.reducer_argmax_f32_i32, Ideal.cmpf_def, Ideal.cmp, Scalar.select, IntOp.ori, IntOp.andi, h, h.ne']
    rw [this]
    exact ⟨.inl rfl, .rfl' _, .inl h⟩

/-- Folding that step over a list ends in one of the pairs met, and in one that beats them all. -/
theorem fold_picks (L : List (EReal × BitVec 32)) : ∀ a : EReal × BitVec 32, a.2.toNat < 2 ^ 31 →
    (∀ p ∈ L, p.2.toNat < 2 ^ 31) →
    let r := L.foldl (ReferenceIdeal.reducer_argmax_f32_i32 (F := Ideal)) a
    (r = a ∨ r ∈ L) ∧ Beats r a ∧ ∀ p ∈ L, Beats r p := by
  induction L with
  | nil => exact fun a _ _ => ⟨.inl rfl, .rfl' _, by simp⟩
  | cons b L ih =>
    intro a ha hL
    have hb := hL b (by simp)
    obtain ⟨hpick, hba, hbb⟩ := step_picks a b ha hb
    set c := ReferenceIdeal.reducer_argmax_f32_i32 (F := Ideal) a b with hc
    have hc' : c.2.toNat < 2 ^ 31 := by rcases hpick with h | h <;> rw [h] <;> assumption
    obtain ⟨hr, hrc, hrL⟩ := ih c hc' fun p hp => hL p (by simp [hp])
    refine ⟨?_, hrc.trans hba, fun p hp => ?_⟩
    · rcases hr with h | h
      · rcases hpick with h' | h'
        · exact .inl (h.trans h')
        · exact .inr (by rw [List.foldl_cons, ← hc, h, h']; simp)
      · exact .inr (List.mem_cons_of_mem _ h)
    · rcases List.mem_cons.mp hp with rfl | hp
      · exact hrc.trans hbb
      · exact hrL p hp

/-- The reference's paired reduction along one axis: its second result is the first place of the maximum. -/
theorem top_of_argReduce {s t u : Shape} {a : Fin s.rank} (x : FVec Ideal s .f32) (y : s.Idx → BitVec 32)
    (ix : u.Idx → EReal) (iy : u.Idx → BitVec 32) (h' : s.ReducesTo [a] t) (h : s.Reduces [a] t) (hu : 0 < u.numel)
    (j : t.Idx) (hy : ∀ i, y i = BitVec.ofNat 32 (i a)) (hix : ix (Shape.Idx.first hu) = ⊥)
    (hiy : iy (Shape.Idx.first hu) = 0#32) (hn : 0 < s.size a) (hb : s.size a < 2 ^ 31) :
    Top (fun k => x (h.lift j k)) (Finset.univ.fold max ⊥ fun k => x (h.lift j k))
      (Host.argReduce (ReferenceIdeal.reducer_argmax_f32_i32 (F := Ideal)) x y ix iy h' hu j).2 := by
  rw [Ideal.argReduce_eq_reduce2, Host.reduce2_eq_foldl_fiber, hix, hiy]
  have hlift : ∀ k, (h.lift j k) a = k := fun k => Fin.ext (by rw [h.lift_val]; simp [Shape.Reduces.liftVal])
  have hmem : ∀ p, p ∈ Host.argReduceFiber x y h' j ↔ ∃ k, p = (x (h.lift j k), BitVec.ofNat 32 k) := fun p => by
    simp only [Host.argReduceFiber, List.mem_map, List.mem_filter, List.mem_finRange, true_and, decide_eq_true_eq]
    constructor
    · rintro ⟨n, hn, rfl⟩
      refine ⟨s.rowMajor.symm n a, ?_⟩
      have e : h.lift j (s.rowMajor.symm n a) = s.rowMajor.symm n := by
        rw [← hn]; exact h.lift_drop _
      rw [e, hy]
    · rintro ⟨k, rfl⟩
      refine ⟨s.rowMajor (h.lift j k), ?_, ?_⟩
      · rw [Equiv.symm_apply_apply]; exact h.drop_lift j k
      · rw [Equiv.symm_apply_apply, hy, hlift]
  have hnat : ∀ k : Fin (s.size a), (BitVec.ofNat 32 (k : Nat)).toNat = k := fun k => by
    simp only [BitVec.toNat_ofNat]; omega
  have hsmall : ∀ p ∈ Host.argReduceFiber x y h' j, p.2.toNat < 2 ^ 31 := fun p hp => by
    obtain ⟨k, rfl⟩ := (hmem p).mp hp
    rw [hnat]; omega
  obtain ⟨hr, -, hbest⟩ := fold_picks (Host.argReduceFiber x y h' j) (⊥, 0#32) (by simp) hsmall
  set r := (Host.argReduceFiber x y h' j).foldl (ReferenceIdeal.reducer_argmax_f32_i32 (F := Ideal)) (⊥, 0#32) with hrdef
  obtain ⟨k, hk⟩ : ∃ k : Fin (s.size a), r = (x (h.lift j k), BitVec.ofNat 32 k) := by
    rcases hr with hr | hr
    · have h0 := hbest _ ((hmem _).mpr ⟨⟨0, hn⟩, rfl⟩)
      rw [hr] at h0
      rcases h0 with h0 | ⟨h0, -⟩
      · exact absurd h0 not_lt_bot
      · exact ⟨⟨0, hn⟩, by rw [hr]; exact Prod.ext h0.symm rfl⟩
    · exact (hmem r).mp hr
  have hle : ∀ k', x (h.lift j k') ≤ x (h.lift j k) := fun k' => by
    have := hbest _ ((hmem _).mpr ⟨k', rfl⟩)
    rw [hk] at this
    rcases this with h | ⟨h, -⟩
    · exact h.le
    · exact h.le
  have hm : (Finset.univ.fold max ⊥ fun k => x (h.lift j k)) = x (h.lift j k) := by
    obtain ⟨k', -, e⟩ := exists_fold_max Finset.univ (fun k => x (h.lift j k)) ⟨k, Finset.mem_univ k⟩
    exact le_antisymm (e ▸ hle k') (le_fold_max Finset.univ (fun k => x (h.lift j k)) (Finset.mem_univ k))
  refine ⟨k, hm.symm, by rw [hk], fun k' => hm ▸ hle k', fun k' hk' => ?_⟩
  have := hbest _ ((hmem _).mpr ⟨k', rfl⟩)
  rw [hk] at this
  rcases this with h | ⟨-, h⟩
  · exact absurd h (by simp only; rw [show x _ = _ from hk', hm]; exact lt_irrefl _)
  · simp only [hnat] at h
    exact Fin.le_def.mpr h

end Cert
-- ==== Proof.Tile.lean ====
module

public import proofs.«01_k».proof.Proof.Threefry
public import proofs.«01_k».proof.Proof.ArgMax
public import proofs.«01_k».proof.Proof.Gen.KernelIdeal.Frame.Region0

/-! # One tile of the first launch -/

@[expose] public section

namespace Cert.KernelIdeal.Gen

open Idealize.ShloMosaic Cert.Threefry Idealize.ShloMosaic.Pointwise

/-- The random bits of draw `t` on a tile. -/
noncomputable def words (i : grid0.Coords) (t : Fin 5) : IVec S64x392x128 32 := fun j => word (key t).1 (key t).2 (k0_pay7 i j)

/-- The value and the place that draw `t` stores are the same two functions of the tile and of that draw's bits. -/
theorem stores (i : grid0.Coords) (x0 : Vec Ideal S64x392x128 .f32) :
    (k0_pay45 (k0_pay219 i x0) (k0_pay227 i x0) = k0_pay45 (k0_pay219 i x0) (words i 0)
      ∧ k0_pay46 (k0_pay219 i x0) (k0_pay220 i x0) (k0_pay227 i x0) = k0_pay46 (k0_pay219 i x0) k0_pay6 (words i 0))
    ∧ (k0_pay92 (k0_pay219 i x0) (k0_pay235 i x0) (k0_pay236 i x0) (k0_pay237 i x0) = k0_pay45 (k0_pay219 i x0) (words i 1)
      ∧ k0_pay93 (k0_pay219 i x0) (k0_pay220 i x0) (k0_pay235 i x0) (k0_pay236 i x0) (k0_pay237 i x0)
        = k0_pay46 (k0_pay219 i x0) k0_pay6 (words i 1))
    ∧ (k0_pay139 (k0_pay219 i x0) (k0_pay246 i x0) (k0_pay247 i x0) (k0_pay248 i x0) = k0_pay45 (k0_pay219 i x0) (words i 2)
      ∧ k0_pay140 (k0_pay138 (k0_pay219 i x0) (k0_pay220 i x0) (k0_pay246 i x0) (k0_pay247 i x0) (k0_pay248 i x0))
        = k0_pay46 (k0_pay219 i x0) k0_pay6 (words i 2))
    ∧ (k0_pay182 (k0_pay180 (k0_pay219 i x0) (k0_pay255 i x0) (k0_pay256 i x0)) = k0_pay45 (k0_pay219 i x0) (words i 3)
      ∧ k0_pay183 (k0_pay220 i x0) (k0_pay181 (k0_pay219 i x0) (k0_pay255 i x0) (k0_pay256 i x0))
        = k0_pay46 (k0_pay219 i x0) k0_pay6 (words i 3))
    ∧ (k0_pay3 (k0_pay219 i x0) (k0_pay262 i x0) = k0_pay45 (k0_pay219 i x0) (words i 4)
      ∧ k0_pay4 (k0_pay219 i x0) (k0_pay220 i x0) (k0_pay262 i x0) = k0_pay46 (k0_pay219 i x0) k0_pay6 (words i 4)) := by
  have two : ∀ {A : FVec Ideal S1x1x64 .f32} {B : IVec S1x1x64 32} {w v : IVec S64x392x128 32},
      A = k0_pay45 (k0_pay219 i x0) w → B = k0_pay46 (k0_pay219 i x0) k0_pay6 w → w = v →
      A = k0_pay45 (k0_pay219 i x0) v ∧ B = k0_pay46 (k0_pay219 i x0) k0_pay6 v := fun h h' e => e ▸ ⟨h, h'⟩
  refine ⟨two rfl rfl ?_, two rfl rfl ?_, two rfl rfl ?_, two rfl rfl ?_, two rfl rfl ?_⟩ <;> refine funext fun j => ?_
  all_goals
    simp only [words, word_eq, show key 0 = _ from key_eq 0, show key 1 = _ from key_eq 1, show key 2 = _ from key_eq 2,
      show key 3 = _ from key_eq 3, show key 4 = _ from key_eq 4, Matrix.cons_val, block, even, odd, mix, inj,
      IntOp.addi, IntOp.xori, BitVec.reduceAdd, BitVec.reduceXOr, BitVec.zero_add, addi, xori, ori, shli, shrui, broadcast,
      k0_pay262, k0_pay261, k0_pay260, k0_pay259, k0_pay258, k0_pay257, k0_pay256, k0_pay255, k0_pay254, k0_pay253, k0_pay252, k0_pay251, k0_pay250, k0_pay249, k0_pay248, k0_pay247, k0_pay246, k0_pay245, k0_pay244, k0_pay243, k0_pay242, k0_pay241, k0_pay240, k0_pay239, k0_pay238, k0_pay237, k0_pay236, k0_pay235, k0_pay234, k0_pay233, k0_pay232, k0_pay231, k0_pay230, k0_pay229, k0_pay228, k0_pay227, k0_pay226, k0_pay225, k0_pay224, k0_pay223, k0_pay222, k0_pay221, k0_pay218, k0_pay217, k0_pay216, k0_pay215, k0_pay214, k0_pay213, k0_pay212, k0_pay211, k0_pay210, k0_pay209, k0_pay208, k0_pay207, k0_pay206, k0_pay205, k0_pay204, k0_pay203, k0_pay202, k0_pay201, k0_pay200, k0_pay199, k0_pay198, k0_pay197, k0_pay196, k0_pay195, k0_pay194, k0_pay193, k0_pay192, k0_pay191, k0_pay190, k0_pay189, k0_pay188, k0_pay187, k0_pay186, k0_pay185, k0_pay184, k0_pay183, k0_pay182, k0_pay181, k0_pay180, k0_pay179, k0_pay178, k0_pay177, k0_pay176, k0_pay175, k0_pay174, k0_pay173, k0_pay172, k0_pay171, k0_pay170, k0_pay169, k0_pay168, k0_pay167, k0_pay166, k0_pay165, k0_pay164, k0_pay163, k0_pay162, k0_pay161, k0_pay160, k0_pay159, k0_pay158, k0_pay157, k0_pay156, k0_pay155, k0_pay154, k0_pay153, k0_pay152, k0_pay151, k0_pay150, k0_pay149, k0_pay148, k0_pay147, k0_pay146, k0_pay145, k0_pay144, k0_pay143, k0_pay142, k0_pay141, k0_pay140, k0_pay139, k0_pay138, k0_pay137, k0_pay136, k0_pay135, k0_pay134, k0_pay133, k0_pay132, k0_pay131, k0_pay130, k0_pay129, k0_pay128, k0_pay127, k0_pay126, k0_pay125, k0_pay124, k0_pay123, k0_pay122, k0_pay121, k0_pay120, k0_pay119, k0_pay118, k0_pay117, k0_pay116, k0_pay115, k0_pay114, k0_pay113, k0_pay112, k0_pay111, k0_pay110, k0_pay109, k0_pay108, k0_pay107, k0_pay106, k0_pay105, k0_pay104, k0_pay103, k0_pay102, k0_pay101, k0_pay100, k0_pay99, k0_pay98, k0_pay97, k0_pay96, k0_pay95, k0_pay94, k0_pay93, k0_pay92, k0_pay91, k0_pay90, k0_pay89, k0_pay88, k0_pay87, k0_pay86, k0_pay85, k0_pay84, k0_pay83, k0_pay82, k0_pay81, k0_pay80, k0_pay79, k0_pay78, k0_pay77, k0_pay76, k0_pay75, k0_pay74, k0_pay73, k0_pay72, k0_pay71, k0_pay70, k0_pay69, k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, k0_pay48, k0_pay47, k0_pay46, k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8]

/-- Draw `t`'s maximum over each plane of a tile. -/
noncomputable def maxs (i : grid0.Coords) (x0 : Vec Ideal S64x392x128 .f32) (t : Fin 5) : FVec Ideal S1x1x64 .f32 :=
  k0_pay45 (k0_pay219 i x0) (words i t)

/-- Draw `t`'s place of the maximum in each plane of a tile. -/
noncomputable def places (i : grid0.Coords) (x0 : Vec Ideal S64x392x128 .f32) (t : Fin 5) : IVec S1x1x64 32 :=
  k0_pay46 (k0_pay219 i x0) k0_pay6 (words i t)

/-- Where the store of draw `t` puts its plane `x`: row `t`, lane `x`. -/
theorem store_at {α : Type} (f : Fin 5 → S1x1x64.Idx → α) (t : Fin 5) (inb) (x : S1x1x64.Idx) :
    f t x = f ((Rect.unit (s := S1x5x64) ![0, (t : Nat), 0] S1x1x64.size inb).emb x 1)
      (ix3 (0 : Fin 1) (0 : Fin 1) ((Rect.unit (s := S1x5x64) ![0, (t : Nat), 0] S1x1x64.size inb).emb x 2)) := by
  have e1 : (Rect.unit (s := S1x5x64) ![0, (t : Nat), 0] S1x1x64.size inb).emb x 1 = t := Fin.ext (by
    show (t : Nat) + 1 * (x 1 : Nat) = t
    have : (x 1 : Nat) < 1 := (x 1).isLt
    omega)
  have e2 : (Rect.unit (s := S1x5x64) ![0, (t : Nat), 0] S1x1x64.size inb).emb x 2 = x 2 := Fin.ext (by
    show 0 + 1 * (x 2 : Nat) = x 2
    omega)
  rw [e1, e2]
  congr 1
  funext a
  fin_cases a
  · exact Subsingleton.elim (α := Fin 1) _ _
  · exact Subsingleton.elim (α := Fin 1) _ _
  · rfl

/-- The first result's block holds the maxima, one draw a row. -/
theorem out0_1_apply (i : grid0.Coords) (x0 : Vec Ideal S64x392x128 .f32) (y : S1x5x64.Idx) :
    out0_1 i x0 y = maxs i x0 (y 1) (ix3 (0 : Fin 1) (0 : Fin 1) (y 2)) := by
  obtain ⟨⟨h0, -⟩, ⟨h1, -⟩, ⟨h2, -⟩, ⟨h3, -⟩, h4, -⟩ := stores i x0
  unfold out0_1
  rw [h0, h1, h2, h3, h4]
  refine View.canon_apply_of_pieces (Val := Elt Ideal) (fun y => maxs i x0 (y 1) (ix3 (0 : Fin 1) (0 : Fin 1) (y 2))) _ ?_ y (cover0_1 _ _ _ _ _ y)
  simp only [List.mem_cons, List.not_mem_nil, or_false, forall_eq_or_imp, forall_eq]
  exact ⟨store_at (maxs i x0) 4 _, store_at (maxs i x0) 3 _, store_at (maxs i x0) 2 _, store_at (maxs i x0) 1 _,
    store_at (maxs i x0) 0 _⟩

/-- The second result's block holds the places. -/
theorem out0_2_apply (i : grid0.Coords) (x0 : Vec Ideal S64x392x128 .f32) (y : S1x5x64.Idx) :
    out0_2 i x0 y = places i x0 (y 1) (ix3 (0 : Fin 1) (0 : Fin 1) (y 2)) := by
  obtain ⟨⟨-, h0⟩, ⟨-, h1⟩, ⟨-, h2⟩, ⟨-, h3⟩, -, h4⟩ := stores i x0
  unfold out0_2
  rw [h0, h1, h2, h3, h4]
  refine View.canon_apply_of_pieces (Val := Elt Ideal) (fun y => places i x0 (y 1) (ix3 (0 : Fin 1) (0 : Fin 1) (y 2))) _ ?_ y (cover0_2 _ _ _ _ _ y)
  simp only [List.mem_cons, List.not_mem_nil, or_false, forall_eq_or_imp, forall_eq]
  exact ⟨store_at (places i x0) 4 _, store_at (places i x0) 3 _, store_at (places i x0) 2 _, store_at (places i x0) 1 _,
    store_at (places i x0) 0 _⟩

/-- A place of a tile, as the kernel counts it. -/
theorem pay6_apply (p : Fin 64) (h : Fin 392) (l : Fin 128) : k0_pay6 (ix3 p h l) = BitVec.ofNat 32 (128 * h + l) := by
  pointwise [k0_pay6]
  simp only [IntOp.addi, IntOp.muli]
  rw [← BitVec.ofNat_mul, ← BitVec.ofNat_add, Nat.mul_comm]

/-- The counter of an element: its place in the whole array. -/
theorem pay7_apply (i : grid0.Coords) (p : Fin 64) (h : Fin 392) (l : Fin 128) :
    k0_pay7 i (ix3 p h l) = BitVec.ofNat 32 (50176 * (64 * (i 0).val + p) + (128 * h + l)) := by
  have e := pay6_apply p h l
  pointwise [k0_pay7]
  rw [e]
  simp only [IntOp.addi, IntOp.muli, Scalar.muli]
  rw [← BitVec.ofNat_mul, ← BitVec.ofNat_add, ← BitVec.ofNat_mul, ← BitVec.ofNat_add]
  congr 1; ring

/-- The product of a probability and the random number of its bits. -/
noncomputable def scaled (a : EReal) (b : BitVec 32) : EReal := a * (Ideal.ofBits .f32 (IntOp.ori b 1065353216#32) - 1)

/-- The stored maximum, read at a plane. -/
theorem pay45_apply (xs : FVec Ideal S64x392x128 .f32) (w : IVec S64x392x128 32) (p : Fin 64) :
    k0_pay45 xs w (ix3 (0 : Fin 1) (0 : Fin 1) p)
      = Finset.univ.fold max ⊥ fun h => Finset.univ.fold max ⊥ fun l => scaled (xs (ix3 p h l)) (w (ix3 p h l)) := by
  pointwise [k0_pay45, k0_pay44, k0_pay43, scaled]
  simp only [show Ideal.ofBits .f32 4286578688#32 = ⊥ from ofBits_bot]

/-- The stored place, read at a plane. -/
theorem pay46_apply (xs : FVec Ideal S64x392x128 .f32) (v6 w : IVec S64x392x128 32) (p : Fin 64) :
    k0_pay46 xs v6 w (ix3 (0 : Fin 1) (0 : Fin 1) p)
      = Finset.univ.fold IntOp.minsi 2147483647#32 fun h => Finset.univ.fold IntOp.minsi 2147483647#32 fun l =>
        if scaled (xs (ix3 p h l)) (w (ix3 p h l)) = k0_pay45 xs w (ix3 (0 : Fin 1) (0 : Fin 1) p) then v6 (ix3 p h l)
        else 50176#32 := by
  rw [pay45_apply]
  pointwise [k0_pay46, k0_pay44, k0_pay43, scaled]
  simp only [show Ideal.ofBits .f32 4286578688#32 = ⊥ from ofBits_bot]

/-- A plane's row of draw `t`: the probabilities `x` times the random numbers. -/
noncomputable def row (x : Nat → Fin 392 → Fin 128 → EReal) (t : Fin 5) (q : Nat) (k : Fin 50176) : EReal :=
  scaled (x q (tileRow k) (tileLane k)) (word (key t).1 (key t).2 (BitVec.ofNat 32 (50176 * q + k)))

/-- What a tile stores for a plane is that row's maximum and its first place. -/
theorem tile_top (i : grid0.Coords) (x0 : Vec Ideal S64x392x128 .f32) (x : Nat → Fin 392 → Fin 128 → EReal)
    (hx : ∀ (p : Fin 64) h l, x0 (ix3 p h l) = x (64 * (i 0).val + p) h l) (t : Fin 5) (p : Fin 64) :
    Top (row x t (64 * (i 0).val + p)) (maxs i x0 t (ix3 (0 : Fin 1) (0 : Fin 1) p))
      (places i x0 t (ix3 (0 : Fin 1) (0 : Fin 1) p)) := by
  have hk : k0_pay219 i x0 = x0 := by
    have : View.ld x0 r0_0 = x0 := View.ld_unit_zero (by funext a; fin_cases a <;> rfl) _ x0
    unfold k0_pay219
    rw [this]
    funext j
    rw [eq_ix3 j]
    pointwise [k0_pay5]
  have e : row x t (64 * (i 0).val + p) = fun k => scaled (x0 (ix3 p (tileRow k) (tileLane k)))
      (words i t (ix3 p (tileRow k) (tileLane k))) := by
    funext k
    have : 128 * (tileRow k : Nat) + tileLane k = k := by simp only [tileRow, tileLane]; omega
    simp only [row, hx, words, pay7_apply, this]
  rw [e]
  unfold maxs places
  rw [hk, pay46_apply]
  refine top_of_tile (fun h l => scaled (x0 (ix3 p h l)) (words i t (ix3 p h l))) _ _ (fun h l e => ?_) (fun h l e => ?_)
    (pay45_apply _ _ p)
  · rw [if_pos e, pay6_apply]
  · rw [if_neg e]

end Cert.KernelIdeal.Gen
-- ==== Proof.Launch0.lean ====
module

public import proofs.«01_k».proof.Proof.Tile
public import Idealize.ShloMosaic.Lib.Pipeline.ValueKit

/-! # What the first launch leaves in its two arrays -/

@[expose] public section

set_option Elab.async false

namespace Cert.KernelIdeal.Gen

open Idealize.ShloMosaic Idealize.ShloMosaic.Pipeline Cert.Threefry Idealize.ShloMosaic.Pointwise

variable (V : (c : Dev nD) → (b : Ref sig .tc) → Buf (Elt Ideal) ((c.tc : Thread nD τ).loc b)) (c : Dev nD)

/-- The grid's point of a block. -/
def point (q : Fin 6) : grid0.Coords := fun a => ⟨q, by fin_cases a; exact q.isLt⟩

/-- Tile `q` of the probabilities. -/
def tile (q : Fin 6) : Vec Ideal S64x392x128 .f32 := fun y =>
  V c main_v6 (ix3 (⟨64 * q + (y 0 : Nat), by have : (y 0 : Nat) < 64 := (y 0).isLt; omega⟩ : Fin 384) (y 1) (y 2))

/-- Where the launch's windows stand at a point: at the point's block, and at the start of the other axes. -/
theorem index0 : ∀ t : Fin cfg0.N, win0_0.index t 0 = (grid0.coords t 0).val ∧ win0_0.index t 1 = 0 ∧ win0_0.index t 2 = 0 := by
  decide +kernel
theorem index1 : ∀ t : Fin cfg0.N, win0_1.index t 0 = (grid0.coords t 0).val ∧ win0_1.index t 1 = 0 ∧ win0_1.index t 2 = 0 := by
  decide +kernel
theorem index2 : ∀ t : Fin cfg0.N, win0_2.index t 0 = (grid0.coords t 0).val ∧ win0_2.index t 1 = 0 ∧ win0_2.index t 2 = 0 := by
  decide +kernel

/-- The point of a block is the grid's point. -/
theorem point_eq (t : Fin cfg0.N) (q : Fin 6) (h : (q : Nat) = grid0.coords t 0) : grid0.coords t = point q := by
  funext a
  fin_cases a
  exact Fin.ext h.symm

/-- The input block at a point is that block's tile. -/
theorem tile_eq (t : Fin cfg0.N) (q : Fin 6) (h : (q : Nat) = grid0.coords t 0) : iblk0 V c 0 t = tile V c q := by
  obtain ⟨i0, i1, i2⟩ := index0 t
  funext z
  unfold iblk0 tile
  blk_simp
  refine congrArg (V c main_v6) (funext fun a => Fin.ext ?_)
  fin_cases a
  · show (((win0_0.blk t).view.emb z 0 : Fin 384) : Nat) = 64 * q + (z 0 : Nat)
    blk_simp
    rw [i0, h]; omega
  · show (((win0_0.blk t).view.emb z 1 : Fin 392) : Nat) = (z 1 : Nat)
    blk_simp
    rw [i1]; omega
  · show (((win0_0.blk t).view.emb z 2 : Fin 128) : Nat) = (z 2 : Nat)
    blk_simp
    rw [i2]; omega

/-- The first result holds every tile's maxima. -/
theorem arr1 : (dat0 V c).arrAt 1 cfg0.N = fun j : S6x5x64.Idx =>
    maxs (point (j 0)) (tile V c (j 0)) (j 1) (ix3 (0 : Fin 1) (0 : Fin 1) (j 2)) := by
  refine (dat0 V c).arrAt_eq_of_covers 1 _ (by decide +kernel) fun t hf y => ?_
  blk_simp
  rw [after0_1, out0_1_apply]
  obtain ⟨i0, i1, i2⟩ := index1 t
  have v0 : ((win0_1.blk t).view.emb y 0 : Nat) = grid0.coords t 0 := by
    have : (y 0 : Nat) < 1 := (y 0).isLt
    blk_simp
    rw [i0]
  have e1 : (win0_1.blk t).view.emb y 1 = y 1 := by
    refine Fin.ext ?_
    blk_simp
    rw [i1]
    omega
  have e2 : (win0_1.blk t).view.emb y 2 = y 2 := by
    refine Fin.ext ?_
    blk_simp
    rw [i2]
    omega
  rw [e1, e2, ← point_eq t _ v0, ← tile_eq V c t _ v0]

/-- The second result holds every tile's places. -/
theorem arr2 : (dat0 V c).arrAt 2 cfg0.N = fun j : S6x5x64.Idx =>
    places (point (j 0)) (tile V c (j 0)) (j 1) (ix3 (0 : Fin 1) (0 : Fin 1) (j 2)) := by
  refine (dat0 V c).arrAt_eq_of_covers 2 _ (by decide +kernel) fun t hf y => ?_
  blk_simp
  rw [after0_2, out0_2_apply]
  obtain ⟨i0, i1, i2⟩ := index2 t
  have v0 : ((win0_2.blk t).view.emb y 0 : Nat) = grid0.coords t 0 := by
    have : (y 0 : Nat) < 1 := (y 0).isLt
    blk_simp
    rw [i0]
  have e1 : (win0_2.blk t).view.emb y 1 = y 1 := by
    refine Fin.ext ?_
    blk_simp
    rw [i1]
    omega
  have e2 : (win0_2.blk t).view.emb y 2 = y 2 := by
    refine Fin.ext ?_
    blk_simp
    rw [i2]
    omega
  rw [e1, e2, ← point_eq t _ v0, ← tile_eq V c t _ v0]

/-- The probabilities at plane `q`, row `h` and lane `l` of the tiles. -/
noncomputable def prob (q : Nat) (h : Fin 392) (l : Fin 128) : EReal :=
  if hq : q < 384 then V c main_v6 (ix3 (⟨q, hq⟩ : Fin 384) h l) else 0

/-- Together: at block `q`, draw `t` and plane `p` the two arrays hold the row's maximum and its first place. -/
theorem launch0_top (q : Fin 6) (t : Fin 5) (p : Fin 64) :
    Top (row (prob V c) t (64 * q + p)) ((dat0 V c).arrAt 1 cfg0.N (ix3 q t p)) ((dat0 V c).arrAt 2 cfg0.N (ix3 q t p)) := by
  rw [arr1, arr2]
  refine tile_top (point q) (tile V c q) (prob V c) (fun p h l => ?_) t p
  have : 64 * (q : Nat) + p < 384 := by omega
  show _ = prob V c (64 * q + p) h l
  rw [prob, dif_pos this]
  rfl

end Cert.KernelIdeal.Gen
-- ==== Proof.Bits.lean ====
module

public import proofs.«01_k».proof.Proof.Threefry
public import proofs.«01_k».proof.Proof.Gen.On_some_visible
public import Idealize.ShloMosaic.Lib.Pointwise

/-! # The reference's random bits at an index -/

@[expose] public section

namespace Cert.On_some_visible

open Idealize.ShloMosaic Cert.Threefry Idealize.ShloMosaic.Pointwise

variable {F : FTy → Type} [FloatOps F] [Facts]

/-- The block function on five counters, read at one of them. -/
theorem threefry_apply (k₀ k₁ : IVec S_ 32) (c₀ c₁ : IVec S5x1 32) (t : Fin 5) :
    ((fn_threefry2x32 (F := F) k₀ k₁ c₀ c₁).1 (ix2 t (0 : Fin 1)), (fn_threefry2x32 (F := F) k₀ k₁ c₀ c₁).2 (ix2 t (0 : Fin 1)))
      = hash .host (k₀ ix0) (k₁ ix0) (c₀ (ix2 t 0)) (c₁ (ix2 t 0)) := by
  pointwise [fn_threefry2x32, fn_threefry2x32_part1, fn_threefry2x32_part2, fn_threefry2x32_part3, fn_threefry2x32_part4, fn_threefry2x32_part5, fn_threefry2x32_part6, fn_threefry2x32_part7, fn_threefry2x32_part8, fn_threefry2x32_part9, Threefry.hash, even, odd, mix, injLast]

/-- The block function under five keys on a whole array of counters, read at an index. -/
theorem threefry_0_apply (k₀ k₁ : IVec S5x1x1x1x1 32) (c₀ c₁ : IVec S1x4x96x224x224 32) (t : Fin 5) (b : Fin 4) (c : Fin 96)
    (h w : Fin 224) :
    ((fn_threefry2x32_0 (F := F) k₀ k₁ c₀ c₁).1 (ix5 t b c h w), (fn_threefry2x32_0 (F := F) k₀ k₁ c₀ c₁).2 (ix5 t b c h w))
      = hash .host (k₀ (ix5 t 0 0 0 0)) (k₁ (ix5 t 0 0 0 0)) (c₀ (ix5 0 b c h w)) (c₁ (ix5 0 b c h w)) := by
  pointwise [fn_threefry2x32_0, fn_threefry2x32_0_part1, fn_threefry2x32_0_part2, fn_threefry2x32_0_part3, fn_threefry2x32_0_part4, fn_threefry2x32_0_part5, fn_threefry2x32_0_part6, fn_threefry2x32_0_part7, fn_threefry2x32_0_part8, fn_threefry2x32_0_part9, Threefry.hash, even, odd, mix, injLast]

theorem threefry_fst (k₀ k₁ : IVec S_ 32) (c₀ c₁ : IVec S5x1 32) (t : Fin 5) :
    (fn_threefry2x32 (F := F) k₀ k₁ c₀ c₁).1 (ix2 t (0 : Fin 1)) = (hash .host (k₀ ix0) (k₁ ix0) (c₀ (ix2 t 0)) (c₁ (ix2 t 0))).1 :=
  congrArg Prod.fst (threefry_apply (F := F) k₀ k₁ c₀ c₁ t)

theorem threefry_snd (k₀ k₁ : IVec S_ 32) (c₀ c₁ : IVec S5x1 32) (t : Fin 5) :
    (fn_threefry2x32 (F := F) k₀ k₁ c₀ c₁).2 (ix2 t (0 : Fin 1)) = (hash .host (k₀ ix0) (k₁ ix0) (c₀ (ix2 t 0)) (c₁ (ix2 t 0))).2 :=
  congrArg Prod.snd (threefry_apply (F := F) k₀ k₁ c₀ c₁ t)

theorem threefry_0_fst (k₀ k₁ : IVec S5x1x1x1x1 32) (c₀ c₁ : IVec S1x4x96x224x224 32) (t : Fin 5) (b : Fin 4) (c : Fin 96)
    (h w : Fin 224) : (fn_threefry2x32_0 (F := F) k₀ k₁ c₀ c₁).1 (ix5 t b c h w)
      = (hash .host (k₀ (ix5 t 0 0 0 0)) (k₁ (ix5 t 0 0 0 0)) (c₀ (ix5 0 b c h w)) (c₁ (ix5 0 b c h w))).1 :=
  congrArg Prod.fst (threefry_0_apply (F := F) k₀ k₁ c₀ c₁ t b c h w)

theorem threefry_0_snd (k₀ k₁ : IVec S5x1x1x1x1 32) (c₀ c₁ : IVec S1x4x96x224x224 32) (t : Fin 5) (b : Fin 4) (c : Fin 96)
    (h w : Fin 224) : (fn_threefry2x32_0 (F := F) k₀ k₁ c₀ c₁).2 (ix5 t b c h w)
      = (hash .host (k₀ (ix5 t 0 0 0 0)) (k₁ (ix5 t 0 0 0 0)) (c₀ (ix5 0 b c h w)) (c₁ (ix5 0 b c h w))).2 :=
  congrArg Prod.snd (threefry_0_apply (F := F) k₀ k₁ c₀ c₁ t b c h w)

/-- The keys of the draws: the seed's key folded with the draw's number, first word and second word. -/
theorem fold_in_fst (a0 : IVec S2 32) (a1 : IVec S5 32) (t : Fin 5) :
    fn_threefry_fold_in (F := F) a0 a1 (ix2 t (0 : Fin 2)) =
     (hash .host (a0 (ix1 0)) (a0 (ix1 1)) (IntOp.shrui .host (a1 (ix1 t)) 32#32) (IntOp.andi (a1 (ix1 t)) 4294967295#32)).1 := by
  pointwise [fn_threefry_fold_in, threefry_fst]

theorem fold_in_snd (a0 : IVec S2 32) (a1 : IVec S5 32) (t : Fin 5) :
    fn_threefry_fold_in (F := F) a0 a1 (ix2 t (1 : Fin 2)) =
     (hash .host (a0 (ix1 0)) (a0 (ix1 1)) (IntOp.shrui .host (a1 (ix1 t)) 32#32) (IntOp.andi (a1 (ix1 t)) 4294967295#32)).2 := by
  pointwise [fn_threefry_fold_in, threefry_snd]

/-- An element's counter: its place in the whole array, a number that fits 32 bits. -/
def count (b : Fin 4) (c : Fin 96) (h w : Fin 224) : Nat := 50176 * (96 * b + c) + (224 * h + w)

theorem count_lt (b : Fin 4) (c : Fin 96) (h w : Fin 224) : count b c h w < 2 ^ 32 := by unfold count; omega

/-- The 64-bit counter, as the program adds it up. -/
theorem count_word (b : Fin 4) (c : Fin 96) (h w : Fin 224) :
    IntOp.addi (IntOp.addi (IntOp.addi (IntOp.muli 4816896#64 (BitVec.ofNat 64 b)) (IntOp.muli 50176#64 (BitVec.ofNat 64 c)))
      (IntOp.muli 224#64 (BitVec.ofNat 64 h))) (IntOp.muli 1#64 (BitVec.ofNat 64 w)) = BitVec.ofNat 64 (count b c h w) := by
  simp only [IntOp.addi, IntOp.muli]
  rw [← BitVec.ofNat_mul, ← BitVec.ofNat_mul, ← BitVec.ofNat_mul, ← BitVec.ofNat_mul, ← BitVec.ofNat_add, ← BitVec.ofNat_add,
    ← BitVec.ofNat_add]
  congr 1; unfold count; ring

/-- Its high half is zero. -/
theorem count_high (n : Nat) (hn : n < 2 ^ 32) :
    (IntOp.shrui .host (BitVec.ofNat 64 n) 32#64).setWidth 32 = 0#32 := by
  apply BitVec.eq_of_toNat_eq
  simp [IntOp.shrui, Nat.shiftRight_eq_div_pow]
  omega

/-- Its low half is the number. -/
theorem count_low (n : Nat) (hn : n < 2 ^ 32) : (BitVec.ofNat 64 n).setWidth 32 = BitVec.ofNat 32 n := by
  apply BitVec.eq_of_toNat_eq
  simp

/-- A number drawn from 23 random bits is not negative. -/
theorem draw_nonneg (w : BitVec 32) : 0 ≤ Ideal.ofBits .f32 (IntOp.ori (IntOp.shrui .vector w 9#32) 1065353216#32) - 1 := by
  set b := IntOp.ori (IntOp.shrui .vector w 9#32) 1065353216#32 with hb
  have hn : b.toNat = 2 ^ 23 * 127 + w.toNat / 512 := by
    have hlt : w.toNat / 512 < 2 ^ 23 := by omega
    rw [hb, Nat.two_pow_add_eq_or_of_lt hlt]
    simp [IntOp.ori, IntOp.shrui, Nat.shiftRight_eq_div_pow, Nat.or_comm]
  have hsign : (b.extractLsb' 31 1 == 1#1) = false := by
    have : (b.extractLsb' 31 1).toNat = 0 := by
      simp only [BitVec.extractLsb'_toNat, Nat.shiftRight_eq_div_pow, hn]; omega
    rw [show b.extractLsb' 31 1 = 0#1 from BitVec.eq_of_toNat_eq this]; rfl
  have hex : (b.extractLsb' 23 8).toNat = 127 := by
    simp only [BitVec.extractLsb'_toNat, Nat.shiftRight_eq_div_pow, hn]; omega
  have h1 : (1 : EReal) ≤ Ideal.ofBits .f32 b := by
    simp only [Ideal.ofBits, Ideal.ieee]
    norm_num [hsign, hex]
    have hr : (1 : ℝ) ≤ (8388608 + (b.toNat % 8388608 : ℕ)) * (1 / 8388608) := by
      have : (0 : ℝ) ≤ (b.toNat % 8388608 : ℕ) := Nat.cast_nonneg _
      linarith
    exact_mod_cast hr
  exact (EReal.sub_nonneg (.inr (EReal.coe_ne_top 1)) (.inr (EReal.coe_ne_bot 1))).mpr h1

/-- The random numbers, read at an index. -/
theorem uniform_apply (a0 : IVec S5x2 32) (a1 a2 : FVec Ideal S_ .f32) (h1 : a1 ix0 = 0) (h2 : a2 ix0 = 1) (t : Fin 5)
    (b : Fin 4) (c : Fin 96) (h w : Fin 224) :
    fn_uniform a0 a1 a2 (ix5 t b c h w) =
      Ideal.ofBits .f32 (IntOp.ori (word (a0 (ix2 t 0)) (a0 (ix2 t 1)) (BitVec.ofNat 32 (count b c h w))) 1065353216#32) - 1 := by
  have hs : ∀ x : BitVec 32, IntOp.shrui .host x 9#32 = IntOp.shrui .vector x 9#32 := fun x => by
    simp [IntOp.shrui]
  pointwise [fn_uniform, fn_uniform_part1, fn_uniform_part2, threefry_0_fst, threefry_0_snd, count_word, h1, h2]
  rw [count_high _ (count_lt b c h w), count_low _ (count_lt b c h w), hs]
  show max (a1 ix0) ((Ideal.ofBits .f32 (IntOp.ori (word _ _ _) 1065353216#32) - 1) * (a2 ix0 - a1 ix0) + a1 ix0) = _
  rw [h1, h2, sub_zero, mul_one, add_zero]
  exact max_eq_right (draw_nonneg _)

end Cert.On_some_visible
-- ==== Proof.RefEq.lean ====
/- What the reference program's random-bit functions leave in their result buffers, as the mask's functions of the same name. -/
module

public import proofs.«01_k».proof.Proof.Line
public import proofs.«01_k».proof.Proof.Gen.ReferenceIdeal
public import proofs.«01_k».proof.Proof.Gen.On_some_visible

@[expose] public section

set_option maxRecDepth 20000
set_option maxHeartbeats 1000000

namespace Cert.ReferenceIdeal

open Idealize.ShloMosaic Idealize.SL.Sem Cert.Line

variable {F : FTy → Type} [FloatOps F]

/-- The block function of the keys' derivation: its two result buffers. -/
theorem threefry_eq (V : Valuation τ sig (Elt F)) (a0 a1 : StableHlo.TRef sig ⟨S_, .i32⟩) (a2 a3 : StableHlo.TRef sig ⟨S5x1, .i32⟩)
    (φ : fn_threefry2x32.Bufs) (h : Fix V (fn_threefry2x32.body (F := F) a0 a1 a2 a3 φ)) :
    (rd V φ.v171, rd V φ.v175) = On_some_visible.fn_threefry2x32 (F := F) (rd V a0) (rd V a1) (rd V a2) (rd V a3) := by
  simp only [fn_threefry2x32.body, fn_threefry2x32.body_part0, fn_threefry2x32.body_part1, fn_threefry2x32.body_part2,
    fn_threefry2x32.body_part3, Fix_bind, Fix_hlo, tnullary, tunary, tbinary] at h
  simp only [h, On_some_visible.fn_threefry2x32, On_some_visible.fn_threefry2x32_part1, On_some_visible.fn_threefry2x32_part2,
    On_some_visible.fn_threefry2x32_part3, On_some_visible.fn_threefry2x32_part4, On_some_visible.fn_threefry2x32_part5,
    On_some_visible.fn_threefry2x32_part6, On_some_visible.fn_threefry2x32_part7, On_some_visible.fn_threefry2x32_part8,
    On_some_visible.fn_threefry2x32_part9]

/-- The keys' derivation. -/
theorem fold_in_eq (V : Valuation τ sig (Elt F)) (a0 : StableHlo.TRef sig ⟨S2, .i32⟩) (a1 : StableHlo.TRef sig ⟨S5, .i32⟩)
    (φ : fn_threefry_fold_in.Bufs) (h : Fix V (fn_threefry_fold_in.body (F := F) a0 a1 φ)) :
    rd V φ.v14 = On_some_visible.fn_threefry_fold_in (F := F) (rd V a0) (rd V a1) := by
  simp only [fn_threefry_fold_in.body, Fix_bind, Fix_hlo, tnullary, tunary, tbinary, treshape] at h
  obtain ⟨hk, h0, h1, h2, hk₀, h3, h4, h5, h6, h7, h8, h9, h10, h11, h12, hc, h14, -⟩ := id h
  have e := threefry_eq V φ.v8 φ.v10 φ.v11 φ.v12 φ.call0 (by simp only [h])
  have e₁ : rd V φ.call0.v171 = _ := congrArg Prod.fst e
  have e₂ : rd V φ.call0.v175 = _ := congrArg Prod.snd e
  simp only [h14, On_some_visible.fn_threefry_fold_in]
  rw [e₁, e₂, h11, h12, h6, h2, h5, h8, h10, h7, h9, h1, h4, h0, h3, hk, hk₀]

/-- The block function of the bits: its two result buffers. -/
theorem threefry_0_eq (V : Valuation τ sig (Elt F)) (a0 a1 : StableHlo.TRef sig ⟨S5x1x1x1x1, .i32⟩)
    (a2 a3 : StableHlo.TRef sig ⟨S1x4x96x224x224, .i32⟩)
    (φ : fn_threefry2x32_0.Bufs) (h : Fix V (fn_threefry2x32_0.body (F := F) a0 a1 a2 a3 φ)) :
    (rd V φ.v174, rd V φ.v178) = On_some_visible.fn_threefry2x32_0 (F := F) (rd V a0) (rd V a1) (rd V a2) (rd V a3) := by
  simp only [fn_threefry2x32_0.body, fn_threefry2x32_0.body_part0, fn_threefry2x32_0.body_part1, fn_threefry2x32_0.body_part2,
    fn_threefry2x32_0.body_part3, Fix_bind, Fix_hlo, tnullary, tunary, tbinary] at h
  simp only [h, On_some_visible.fn_threefry2x32_0, On_some_visible.fn_threefry2x32_0_part1, On_some_visible.fn_threefry2x32_0_part2,
    On_some_visible.fn_threefry2x32_0_part3, On_some_visible.fn_threefry2x32_0_part4, On_some_visible.fn_threefry2x32_0_part5,
    On_some_visible.fn_threefry2x32_0_part6, On_some_visible.fn_threefry2x32_0_part7, On_some_visible.fn_threefry2x32_0_part8,
    On_some_visible.fn_threefry2x32_0_part9]

/-- The uniforms. -/
theorem uniform_eq (V : Valuation τ sig (Elt F)) (a0 : StableHlo.TRef sig ⟨S5x2, .i32⟩) (a1 a2 : StableHlo.TRef sig ⟨S_, .f32⟩)
    (φ : fn_uniform.Bufs) (h : Fix V (fn_uniform.body (F := F) a0 a1 a2 φ)) :
    rd V φ.v49 = On_some_visible.fn_uniform (F := F) (rd V a0) (rd V a1) (rd V a2) := by
  simp only [fn_uniform.body, Fix_bind, Fix_hlo, tnullary, tunary, tbinary, treshape] at h
  have e := threefry_0_eq V φ.v29 φ.v30 φ.v27 φ.v28 φ.call0 (by simp only [h])
  have e₁ : rd V φ.call0.v174 = _ := congrArg Prod.fst e
  have e₂ : rd V φ.call0.v178 = _ := congrArg Prod.snd e
  simp only [h, e₁, e₂, On_some_visible.fn_uniform, On_some_visible.fn_uniform_part1, On_some_visible.fn_uniform_part2]

end Cert.ReferenceIdeal
-- ==== Proof.RefRows.lean ====
module

public import proofs.«01_k».proof.Proof.Bits
public import proofs.«01_k».proof.Proof.Tile
public import proofs.«01_k».proof.Proof.RefEq

/-! # The reference's rows of scaled random numbers, their maxima and the places of those -/

@[expose] public section

set_option maxRecDepth 20000
set_option maxHeartbeats 1000000

namespace Cert.ReferenceIdeal

open Idealize.ShloMosaic Idealize.SL.Sem Cert.Line Cert.Threefry Idealize.ShloMosaic.Pointwise

variable [Facts] [On_some_visible.Facts]

theorem rd_of (V : Valuation τ sig (Elt Ideal)) (x : Ref sig .tc) {hd hm hh} :
    rd V (StableHlo.TRef.of x hd hm hh) = V (Proc.devRef .tc x) := rfl

/-- The probabilities of the logits, as the reference computes them. -/
noncomputable def sigmoid (x : FVec Ideal S4x96x224x224 .f32) : FVec Ideal S4x96x224x224 .f32 :=
  Host.divf (fun _ => Ideal.ofBits .f32 1065353216#32) (addf (fun _ => Ideal.ofBits .f32 1065353216#32) (Host.exp (Host.negf x)))

/-- The line and the column of a place in a plane. -/
def line (k : Fin 50176) : Fin 224 := ⟨k / 224, by omega⟩
@[inherit_doc line] def col (k : Fin 50176) : Fin 224 := ⟨k % 224, by omega⟩

/-- A plane's row of draw `t`: the probabilities times the random numbers. -/
noncomputable def row (x : FVec Ideal S4x96x224x224 .f32) (t : Fin 5) (b : Fin 4) (c : Fin 96) (k : Fin 50176) : EReal :=
  KernelIdeal.Gen.scaled (x (ix4 b c (line k) (col k))) (word (key t).1 (key t).2 (BitVec.ofNat 32 (50176 * (96 * b + c) + k)))

/-- The scaled random numbers at an index, from the operations that make them. -/
theorem row_apply (x : FVec Ideal S4x96x224x224 .f32) (seed : IVec S2 32) (h0 : seed (ix1 0) = 0#32) (h1 : seed (ix1 1) = 42#32)
    (n : IVec S5 32) (hn : ∀ t : Fin 5, n (ix1 t) = BitVec.ofNat 32 t) (a1 a2 : FVec Ideal S_ .f32) (ha1 : a1 ix0 = 0)
    (ha2 : a2 ix0 = 1) {e₁ e₂ e₃} (t : Fin 5) (b : Fin 4) (c : Fin 96) (k : Fin 50176) :
    shapeCast S5x4x96x50176 (mulf (F := Ideal) (φ := .f32) (broadcastInDim S5x4x96x224x224 ![0, 1, 2, 3, 4] e₁
        (broadcastInDim S1x4x96x224x224 ![1, 2, 3, 4] e₂ x))
      (On_some_visible.fn_uniform (On_some_visible.fn_threefry_fold_in (F := Ideal) seed n) a1 a2)) e₃ (ix4 t b c k) = row x t b c k := by
  rw [shapeCast_apply _ e₃ (ix4 t b c k) (ix5 t b c (line k) (col k)) (by
    rw [Shape.rowMajor_val_five, Shape.rowMajor_val_four]
    show (((t.val * 4 + b) * 96 + c) * 224 + k.val / 224) * 224 + k.val % 224 = ((t.val * 4 + b) * 96 + c) * 50176 + k
    omega)]
  have hk : On_some_visible.fn_threefry_fold_in (F := Ideal) seed n (ix2 t (0 : Fin 2)) = (key t).1
      ∧ On_some_visible.fn_threefry_fold_in (F := Ideal) seed n (ix2 t (1 : Fin 2)) = (key t).2 := by
    rw [On_some_visible.fold_in_fst, On_some_visible.fold_in_snd, h0, h1, hn]
    fin_cases t <;> exact ⟨rfl, rfl⟩
  have hc : On_some_visible.count b c (line k) (col k) = 50176 * (96 * b + c) + k := by
    show 50176 * (96 * b.val + c) + (224 * (k.val / 224) + k.val % 224) = _
    omega
  pointwise [row, KernelIdeal.Gen.scaled, On_some_visible.uniform_apply _ _ _ ha1 ha2]
  rw [hk.1, hk.2, hc]

/-- The maximum over a row and the place the argument reduction gives are the row's maximum and its first place. -/
theorem maximum_top (x : FVec Ideal S5x4x96x50176 .f32) (t : Fin 5) (b : Fin 4) (c : Fin 96)
    (h₁ : S5x4x96x50176.ReducesTo [3] S5x4x96) (h₂ : 0 < S_.numel) :
    Top (fun k => x (ix4 t b c k))
      (Host.reduce (FloatOps.maximumf (F := Ideal) (φ := .f32)) x (constant (F := Ideal) S_ .f32 4286578688#32) h₁ h₂
        (ix3 t b c))
      (Host.argReduce (reducer_argmax_f32_i32 (F := Ideal)) x (iotaInDim S5x4x96x50176 32 3) (constant (F := Ideal) S_ .f32 4286578688#32)
        (constantI S_ 32 0#32) h₁ h₂ (ix3 t b c)).2 := by
  have hr : S5x4x96x50176.Reduces [3] S5x4x96 := by decide
  have hlift : ∀ k, hr.lift (ix3 t b c) k = ix4 t b c k := fun k => by
    funext a; fin_cases a <;> rfl
  have h := top_of_argReduce x (iotaInDim S5x4x96x50176 32 3) (constant (F := Ideal) S_ .f32 4286578688#32) (constantI S_ 32 0#32)
    h₁ hr h₂ (ix3 t b c) (fun i => rfl) ofBits_bot rfl (by decide) (by decide)
  have e0 := Host.reduce_eq_fold_single (max : EReal → EReal → EReal) x (constant (F := Ideal) S_ .f32 4286578688#32) h₁ hr h₂ (ix3 t b c)
  rw [show Host.reduce (FloatOps.maximumf (F := Ideal) (φ := .f32)) x _ h₁ h₂ (ix3 t b c) = _ from e0]
  rw [show constant (F := Ideal) S_ FTy.f32 4286578688#32 (Shape.Idx.first h₂) = ⊥ from ofBits_bot]
  simp only [hlift] at h
  have e : (x ∘ hr.lift (ix3 t b c)) = fun k => x (ix4 t b c k) := funext fun k => congrArg x (hlift k)
  rw [e]
  exact h

variable (V : Valuation τ sig (Elt Ideal)) (d : Dev nD) (h : Fix V (main (F := Ideal) d))

include h

/-- In the reference, the row of scaled random numbers of each draw and plane, its maximum and that one's first place. -/
theorem main_top (t : Fin 5) (b : Fin 4) (c : Fin 96) :
    Top (row (sigmoid (V (Proc.devRef .tc main_arg0))) t b c) (V (Proc.devRef .tc main_v33) (ix3 t b c))
      (V (Proc.devRef .tc main_v21) (ix3 t b c)) := by
  simp only [main, main_part0, Fix_bind, Fix_hlo, fn_argmax.body, tnullary, tunary, tbinary, tquaternary, treshape, rd_of,
    main_call2] at h
  simp only [snullary, sunary, sbinary, sreshape] at h
  obtain ⟨⟨h0, h1, h2, h3, h4, h5, h6, h7, c0, c1, c2, c3, c4, c5, c6, c7, c8, c9, i0, i1, hf, z0, z1, hu, m0, m1, m2, m3,
    ⟨a0, a1, a2, -, a4, -⟩, -, -, -, -, -, -, -, -, -, -, -, -, -, -, -, n0, n1, -⟩, -⟩ := h
  have ef := fold_in_eq V _ _ _ hf
  have eu := uniform_eq V _ _ _ _ hu
  have e5 : V (Proc.devRef .tc main_v5) = sigmoid (V (Proc.devRef .tc main_arg0)) := by
    rw [h7, h6, h4, h3, h2, h5, h1, h0]; rfl
  have es : V (Proc.devRef .tc main_v12) (ix1 0) = 0#32 ∧ V (Proc.devRef .tc main_v12) (ix1 1) = 42#32 := by
    rw [c9, c8, c7, c6, c5, c4, c3, c2, c1, c0]
    constructor <;> pointwise [] <;> rfl
  have e20 : ∀ k, V (Proc.devRef .tc main_v20) (ix4 t b c k) = row (sigmoid (V (Proc.devRef .tc main_arg0))) t b c k := by
    intro k
    rw [← row_apply (sigmoid (V (Proc.devRef .tc main_arg0))) (V (Proc.devRef .tc main_v12)) es.1 es.2
      (V (Proc.devRef .tc main_v14)) (fun t => by rw [i1, i0]; rfl)
      (V (Proc.devRef .tc main_cst_3)) (V (Proc.devRef .tc main_cst_4)) (by rw [z0]; exact Ideal.ofBits_zero_f32)
      (by rw [z1]; exact Ideal.ofBits_one_f32) t b c k, m3, m2, m1, m0, e5]
    have e16 : V (Proc.devRef .tc main_v16) = _ := eu
    have e15 : V (Proc.devRef .tc main_v15) = _ := ef
    rw [e16, rd_of, e15]
    rfl
  have e21 : V (Proc.devRef .tc main_v21) = _ := a4
  have a0' : V (Proc.devRef .tc main_call2_v0) = _ := a0
  have a1' : V (Proc.devRef .tc main_call2_cst) = _ := a1
  have a2' : V (Proc.devRef .tc main_call2_c) = _ := a2
  have hx : (fun k => V (Proc.devRef .tc main_v20) (ix4 t b c k)) = _ := funext e20
  rw [e21, a0', a1', a2', n1, n0]
  rw [← hx]
  exact maximum_top (V (Proc.devRef .tc main_v20)) t b c _ _

end Cert.ReferenceIdeal
-- ==== Proof.RefLine.lean ====
/- The reference program is an ordered line of host operations. -/
module

public import proofs.«01_k».proof.Proof.Line
public import proofs.«01_k».proof.ReferenceIdeal

@[expose] public section

set_option maxRecDepth 20000
set_option maxHeartbeats 400000

namespace Cert.ReferenceIdeal

open Idealize.ShloMosaic Idealize.SL.Sem Cert.Line

variable {F : FTy → Type} [FloatOps F] [Facts₀] [Facts]

/-- The two calls of the block function, window by window of their text. -/
theorem block_line :
    Ordered 36 96 (fn_threefry2x32.body_part0 (F := F) main_call0.v8 main_call0.v10 main_call0.v11 main_call0.v12 main_call0.call0)
    ∧ Ordered 96 156 (fn_threefry2x32.body_part1 (F := F) main_call0.v8 main_call0.v10 main_call0.v11 main_call0.v12 main_call0.call0)
    ∧ Ordered 156 216 (fn_threefry2x32.body_part2 (F := F) main_call0.v8 main_call0.v10 main_call0.v11 main_call0.v12 main_call0.call0)
    ∧ Ordered 216 258 (fn_threefry2x32.body_part3 (F := F) main_call0.v8 main_call0.v10 main_call0.v11 main_call0.v12 main_call0.call0)
    ∧ Ordered 297 357 (fn_threefry2x32_0.body_part0 (F := F) main_call1.v29 main_call1.v30 main_call1.v27 main_call1.v28 main_call1.call0)
    ∧ Ordered 357 417 (fn_threefry2x32_0.body_part1 (F := F) main_call1.v29 main_call1.v30 main_call1.v27 main_call1.v28 main_call1.call0)
    ∧ Ordered 417 477 (fn_threefry2x32_0.body_part2 (F := F) main_call1.v29 main_call1.v30 main_call1.v27 main_call1.v28 main_call1.call0)
    ∧ Ordered 477 522 (fn_threefry2x32_0.body_part3 (F := F) main_call1.v29 main_call1.v30 main_call1.v27 main_call1.v28 main_call1.call0) := by
  unfold fn_threefry2x32.body_part0 fn_threefry2x32.body_part1 fn_threefry2x32.body_part2 fn_threefry2x32.body_part3
    fn_threefry2x32_0.body_part0 fn_threefry2x32_0.body_part1 fn_threefry2x32_0.body_part2 fn_threefry2x32_0.body_part3
  refine ⟨?_, ?_, ?_, ?_, ?_, ?_, ?_, ?_⟩
  all_goals
    repeat' first
      | with_reducible apply Ordered.cons (Step.unary ..)
      | with_reducible apply Ordered.cons (Step.binary ..)
      | with_reducible apply Ordered.cons (Step.nullary ..)
      | with_reducible apply Ordered.one (Step.unary ..)
      | with_reducible apply Ordered.one (Step.binary ..)
      | with_reducible apply Ordered.one (Step.nullary ..)
      | with_reducible apply Ordered.nil
      | exact rfl

theorem fold_in_block_line {n : Nat} (hn : n = 36) :
    Ordered n 258 (fn_threefry2x32.body (F := F) main_call0.v8 main_call0.v10 main_call0.v11 main_call0.v12 main_call0.call0) := by
  subst hn
  obtain ⟨h0, h1, h2, h3, -⟩ := block_line (F := F)
  exact h0.call (h1.call (h2.call h3))

theorem uniform_block_line {n : Nat} (hn : n = 297) :
    Ordered n 522 (fn_threefry2x32_0.body (F := F) main_call1.v29 main_call1.v30 main_call1.v27 main_call1.v28 main_call1.call0) := by
  subst hn
  obtain ⟨-, -, -, -, h0, h1, h2, h3⟩ := block_line (F := F)
  exact h0.call (h1.call (h2.call h3))

/-- The four windows of the program's own text. -/
theorem parts_line (d : Dev nD) :
    Ordered 1 (640) (main_part0 (F := F) d) ∧ Ordered 640 (710) (main_part1 (F := F) d)
    ∧ Ordered 710 (805) (main_part2 (F := F) d) ∧ Ordered 805 835 (main_part3 (F := F) d) := by
  unfold main_part0 main_part1 main_part2 main_part3
  unfold fn_threefry_fold_in.body fn_uniform.body fn_argmax.body fn_floor_divide.body fn_where.body fn_remainder.body fn_where_1.body fn_var.body
    fn_where_2.body fn_round.body fn_clip.body fn_linspace.body fn_pad.body fn_flip.body fn_flip_3.body
  refine ⟨?_, ?_, ?_, ?_⟩
  all_goals
    repeat' first
      | with_reducible apply Ordered.cons (Step.unary ..)
      | with_reducible apply Ordered.cons (Step.binary ..)
      | with_reducible apply Ordered.cons (Step.nullary ..)
      | with_reducible apply Ordered.cons (Step.ternary ..)
      | with_reducible apply Ordered.cons (Step.reshape ..)
      | with_reducible apply Ordered.cons (Step.quaternary ..)
      | with_reducible apply Ordered.call (fold_in_block_line ?_)
      | with_reducible apply Ordered.call (uniform_block_line ?_)
      | with_reducible apply Ordered.unfolded
      | with_reducible apply Ordered.one (Step.ternary ..)
      | with_reducible apply Ordered.one (Step.unary ..)
      | with_reducible apply Ordered.one (Step.binary ..)
      | with_reducible apply Ordered.one (Step.nullary ..)
      | with_reducible apply Ordered.nil
      | exact rfl
      | apply Ordered.cons (Step.nary ..)

/-- The reference is a line of operations, each writing a buffer above those it reads, its argument lowest of all. -/
theorem main_line (d : Dev nD) : Ordered 1 835 (main (F := F) d) := by
  obtain ⟨h0, h1, h2, h3⟩ := parts_line (F := F) d
  exact h0.call (h1.call (h2.call h3))

end Cert.ReferenceIdeal
-- ==== Proof.RefRun.lean ====
/- The reference program's run: where it ends, its contents satisfy every equation of its text, and the input is what it was. -/
module

public import proofs.«01_k».proof.Proof.RefLine
public import proofs.«01_k».proof.Proof.Gen.ReferenceIdeal

@[expose] public section

set_option maxRecDepth 20000

namespace Cert.ReferenceIdeal

open Idealize.ShloMosaic Idealize.SL.Sem Cert.Line

variable {F : FTy → Type} [FloatOps F]

/-- The run: on every device, contents that satisfy the program's equations and hold the launch's input. -/
theorem run (m : (ℓ : Loc nD τ sig) → Buf (Elt F) ℓ) (ρ : Dev nD → PrngReg) :
    θ_run (defs (F := F)) (onTc (τ := τ) (main (F := F))) ⟨m, fun _ => 0, ρ⟩ fun r => ∀ d : Dev nD, ∃ V : Valuation τ sig (Elt F),
      (∀ b : Ref sig .tc, r.2.mem ((d.tc : Thread nD τ).loc b) = V (Proc.devRef .tc b)) ∧ Fix V (main (F := F) d)
        ∧ V (Proc.devRef .tc main_arg0) = m ((d.tc : Thread nD τ).loc main_arg0) := by
  refine (θ_run _ _ _).mono (fun r h d => ?_) (Ordered.run (n := 1) (k := 835) (by decide) (by decide) defs main main_line m ρ)
  obtain ⟨V, h₁, h₂, h₃⟩ := h d
  exact ⟨V, h₁, h₂, h₃ main_arg0 (by decide)⟩

end Cert.ReferenceIdeal
-- ==== Proof.Middle.lean ====
/- From equal maxima and equal arg-maxima, the two programs' host texts compute the same joint statistics. -/
module

public import proofs.«01_k».proof.Proof.KerRun
public import proofs.«01_k».proof.Proof.RefRun

@[expose] public section

set_option maxRecDepth 20000
set_option maxHeartbeats 1000000

namespace Cert.Middle

open Idealize.ShloMosaic Idealize.SL.Sem Cert.Line

variable {F : FTy → Type} [FloatOps F]

theorem rd_of {τ : Topo} {sig : RefSig} {Val : EltTy → Type} (V : Valuation τ sig Val) (x : Ref sig .tc) {hd hm hh} :
    rd V (StableHlo.TRef.of x hd hm hh) = V (Proc.devRef .tc x) := rfl

/-- The concatenation of a pair, its two parts as plain arguments. -/
def pair {α : Type} (out : Shape) (dim : Fin out.rank) {s t : Shape} (a : s.Idx → α) (b : t.Idx → α)
    (h : Shape.Concatenates [s, t] out dim) : out.Idx → α :=
  concatenate out dim [⟨s, a⟩, ⟨t, b⟩] h

theorem pair_eq {α : Type} (out : Shape) (dim : Fin out.rank) {s t : Shape} (a : s.Idx → α) (b : t.Idx → α)
    (h : Shape.Concatenates [s, t] out dim) : concatenate out dim [⟨s, a⟩, ⟨t, b⟩] h = pair out dim a b h := rfl

/-- Equal maxima and equal arg-maxima give equal visibilities, means, variances, rows and columns. -/
theorem stats_eq (K : Valuation KernelIdeal.τ KernelIdeal.sig (Elt F)) (V : Valuation ReferenceIdeal.τ ReferenceIdeal.sig (Elt F))
    (d : Dev ReferenceIdeal.nD)
    (hK : HoldsAll K KernelIdeal.Gen.between) (hR : Fix V (ReferenceIdeal.main (F := F) d))
    (hmx : V (Proc.devRef .tc ReferenceIdeal.main_v33) = K (Proc.devRef .tc KernelIdeal.main_v9))
    (ham : V (Proc.devRef .tc ReferenceIdeal.main_v21) = K (Proc.devRef .tc KernelIdeal.main_v11)) :
    K (Proc.devRef .tc KernelIdeal.main_v38) = V (Proc.devRef .tc ReferenceIdeal.main_v49)
    ∧ K (Proc.devRef .tc KernelIdeal.main_v42) = V (Proc.devRef .tc ReferenceIdeal.main_v53)
    ∧ K (Proc.devRef .tc KernelIdeal.main_v44) = V (Proc.devRef .tc ReferenceIdeal.main_v57)
    ∧ K (Proc.devRef .tc KernelIdeal.main_v51) = V (Proc.devRef .tc ReferenceIdeal.main_v64)
    ∧ K (Proc.devRef .tc KernelIdeal.main_v58) = V (Proc.devRef .tc ReferenceIdeal.main_v71) := by
  simp only [ReferenceIdeal.main, ReferenceIdeal.main_part0, ReferenceIdeal.main_part1, Fix_bind, Fix_hlo, ReferenceIdeal.fn_floor_divide.body, ReferenceIdeal.fn_remainder.body, ReferenceIdeal.fn_where.body,
    ReferenceIdeal.fn_where_1.body, ReferenceIdeal.fn_var.body, ReferenceIdeal.fn_where_2.body, ReferenceIdeal.fn_round.body,
    ReferenceIdeal.fn_clip.body, tnullary, tunary, tbinary, tternary, treshape, rd_of, ReferenceIdeal.main_call3, ReferenceIdeal.main_call4,
    ReferenceIdeal.main_call5, ReferenceIdeal.main_call6, ReferenceIdeal.main_call7, ReferenceIdeal.main_call8,
    ReferenceIdeal.main_call9] at hR
  simp only [snullary, sunary, sbinary, sreshape, sternary] at hR
  obtain ⟨⟨-, -, -, -, -, -, -, -, -, -, -, -, -, -, -, -, -, -, -, -, -, -, -, -, -, -, -, -, -, k1, k2, k3, k4, k5, k6, k7, k8, k9, k10, k11, k12, k13, k14, k15, k16, -, hR⟩, hR', -⟩ := hR
  simp only [HoldsAll_append] at hK
  obtain ⟨⟨-, -, -, -, hc⟩, hK⟩ := hK
  obtain ⟨K1, K2, K3, K4, K5, K6, K7, K8, K9, K10, K11, K12, K13, K14, -⟩ := hK
  simp only [KernelIdeal.Gen.hostOps1_1, KernelIdeal.Gen.hostOps1_2, KernelIdeal.Gen.hostOps1_3, KernelIdeal.Gen.hostOps1_4,
    KernelIdeal.Gen.hostOps1_5, KernelIdeal.Gen.hostOps1_6, KernelIdeal.Gen.hostOps1_7, KernelIdeal.Gen.hostOps1_8,
    KernelIdeal.Gen.hostOps1_9, KernelIdeal.Gen.hostOps1_10, KernelIdeal.Gen.hostOps1_11, KernelIdeal.Gen.hostOps1_12,
    KernelIdeal.Gen.hostOps1_13, KernelIdeal.Gen.hostOps1_14, HoldsAll_cons, HoldsAll_nil, tnullary, tunary, tbinary, tternary, treshape, rd_of] at hc K1 K2 K3 K4 K5 K6 K7 K8 K9 K10 K11 K12 K13 K14
  simp only [snullary, sunary, sbinary, sreshape, sternary] at hc K1 K2 K3 K4 K5 K6 K7 K8 K9 K10 K11 K12 K13 K14
  simp only [hR, hR', k1, k2, k3, k4, k5, k6, k7, k8, k9, k10, k11, k12, k13, k14, k15, k16, hc, K1, K2, K3, K4, K5, K6, K7, K8, K9, K10, K11, K12, K13, K14, hmx, ham, pair_eq]
  exact ⟨trivial, trivial, trivial, rfl, rfl⟩

end Cert.Middle
-- ==== Proof.KerRows.lean ====
module

public import proofs.«01_k».proof.Proof.KerRun
public import proofs.«01_k».proof.Proof.Launch0
public import proofs.«01_k».proof.Proof.RefRows
public import proofs.«01_k».proof.Proof.Middle

/-! # The kernel program's maxima and places after the first launch are those of the reference's rows -/

@[expose] public section

set_option maxRecDepth 20000

namespace Cert.KernelIdeal.Gen

open Idealize.ShloMosaic Idealize.SL.Sem Cert.Line Cert.Threefry Idealize.ShloMosaic.Pointwise Cert.Middle

variable (m : (ℓ : Loc nD τ sig) → Buf (Elt Ideal) ℓ) (ρ : Dev nD → PrngReg) (d : Dev nD)

/-- The block and the place in it of a plane. -/
def blockOf (b : Fin 4) (c : Fin 96) : Fin 6 := ⟨(96 * b + c) / 64, by omega⟩
@[inherit_doc blockOf] def placeOf (b : Fin 4) (c : Fin 96) : Fin 64 := ⟨(96 * b + c) % 64, by omega⟩

/-- The launch's 6×5×64 arrays, brought to the draws', images' and channels' axes, at an index. -/
theorem planes_apply {α : Type} (x : S6x5x64.Idx → α) (e₁ : S6x5x64.Transposes [1, 0, 2] S5x6x64) (e₂ : S5x6x64.ShapeCasts S5x4x96)
    (t : Fin 5) (b : Fin 4) (c : Fin 96) :
    shapeCast S5x4x96 (transpose S5x6x64 [1, 0, 2] x e₁) e₂ (ix3 t b c) = x (ix3 (blockOf b c) t (placeOf b c)) := by
  rw [shapeCast_apply _ e₂ (ix3 t b c) (ix3 t (blockOf b c) (placeOf b c)) (by
    rw [Shape.rowMajor_val_three, Shape.rowMajor_val_three]
    show (t.val * 6 + (96 * b + c) / 64) * 64 + (96 * b + c) % 64 = (t.val * 4 + b) * 96 + c
    omega)]
  pointwise []

/-- The probabilities as the launch reads them: plane by plane, tile rows and lanes in place of lines and columns. -/
theorem tiles_apply {α : Type} (x : S4x96x224x224.Idx → α) (e : S4x96x224x224.ShapeCasts S384x392x128)
    (b : Fin 4) (c : Fin 96) (k : Fin 50176) (hq : 96 * b.val + c < 384) :
    shapeCast S384x392x128 x e (ix3 ⟨96 * b.val + c, hq⟩ (tileRow k) (tileLane k))
      = x (ix4 b c (ReferenceIdeal.line k) (ReferenceIdeal.col k)) :=
  shapeCast_apply _ e _ _ (by
    rw [Shape.rowMajor_val_four, Shape.rowMajor_val_three]
    show ((b.val * 96 + c) * 224 + k.val / 224) * 224 + k.val % 224 = ((96 * b.val + c) * 392 + k.val / 128) * 128 + k.val % 128
    omega)

/-- After the run, `main_v9` and `main_v11` hold each row's maximum and its first place. -/
theorem final_top (t : Fin 5) (b : Fin 4) (c : Fin 96) :
    Top (ReferenceIdeal.row (ReferenceIdeal.sigmoid (W105 m ρ d (Proc.devRef .tc main_arg0))) t b c)
      (W105 m ρ d (Proc.devRef .tc main_v9) (ix3 t b c)) (W105 m ρ d (Proc.devRef .tc main_v11) (ix3 t b c)) := by
  have hb := holds_before m ρ d
  have hK := holds_between m ρ d
  simp only [HoldsAll_append] at hK
  have hK := hK.1
  simp only [hostOps0, hostOps1, HoldsAll_cons, HoldsAll_nil] at hb hK
  simp only [snullary, sunary, sbinary, sreshape, sternary] at hb hK
  obtain ⟨h0, h1, h2, h3, h4, h5, h6, h7, h8, -⟩ := hb
  obtain ⟨k8, k9, k10, k11, -⟩ := hK
  have e5 : W105 m ρ d (Proc.devRef .tc main_v5) = ReferenceIdeal.sigmoid (W105 m ρ d (Proc.devRef .tc main_arg0)) := by
    rw [h7, h6, h4, h3, h2, h5, h1, h0]; rfl
  have hq : 96 * b.val + c < 384 := by omega
  have er : row (prob (V1 m ρ) d) t (96 * b + c) = ReferenceIdeal.row (ReferenceIdeal.sigmoid (W105 m ρ d (Proc.devRef .tc main_arg0))) t b c := by
    funext k
    rw [row, ReferenceIdeal.row, prob, dif_pos hq, ← final_v6, h8, e5]
    exact congrArg (scaled · _) (tiles_apply _ _ b c k hq)
  have h := launch0_top (V1 m ρ) d (blockOf b c) t (placeOf b c)
  rw [show 64 * (blockOf b c : Nat) + placeOf b c = 96 * b + c from Nat.div_add_mod (96 * b.val + c) 64, er, ← final_v7_0, ← final_v7_1] at h
  rw [k9, k8, k11, k10]
  refine (congrArg₂ (Top _) (planes_apply (W105 m ρ d (Proc.devRef .tc main_v7_0)) _ _ t b c)
    (planes_apply (W105 m ρ d (Proc.devRef .tc main_v7_1)) _ _ t b c)).mpr h

/-- Where the reference ran from the same logits, the two programs have the same maxima and the same places. -/
theorem tops_eq (V : Valuation ReferenceIdeal.τ ReferenceIdeal.sig (Elt Ideal)) (e : Dev ReferenceIdeal.nD)
    (hV : Fix V (ReferenceIdeal.main (F := Ideal) e))
    (ha : W105 m ρ d (Proc.devRef .tc main_arg0) = V (Proc.devRef .tc ReferenceIdeal.main_arg0)) :
    V (Proc.devRef .tc ReferenceIdeal.main_v33) = W105 m ρ d (Proc.devRef .tc main_v9)
    ∧ V (Proc.devRef .tc ReferenceIdeal.main_v21) = W105 m ρ d (Proc.devRef .tc main_v11) := by
  have h := fun t b c => (ReferenceIdeal.main_top V e hV t b c).unique (ha ▸ final_top m ρ d t b c)
  refine ⟨funext fun j => ?_, funext fun j => ?_⟩ <;> rw [eq_ix3 (show ReferenceIdeal.S5x4x96.Idx from j)]
  exacts [(h _ _ _).1, (h _ _ _).2]

end Cert.KernelIdeal.Gen
-- ==== Proof.Values.lean ====
module

public import proofs.«01_k».proof.Proof.KerRows
public import proofs.«01_k».proof.Proof.RefRun

/-! # The joints' means, variances and visibilities agree -/

@[expose] public section

set_option maxRecDepth 20000

namespace Cert.KernelIdeal.Gen

open Idealize.ShloMosaic Idealize.SL.Sem Cert.Line

variable (m : (ℓ : Loc nD τ sig) → Buf (Elt Ideal) ℓ) (ρ : Dev nD → PrngReg) (d : Dev nD)

/-- Where the reference ran from the same logits, the two programs have the same visibilities, means, variances, rows and
    columns of the joints. -/
theorem joints_eq (V : Valuation ReferenceIdeal.τ ReferenceIdeal.sig (Elt Ideal)) (e : Dev ReferenceIdeal.nD)
    (hV : Fix V (ReferenceIdeal.main (F := Ideal) e))
    (ha : V (Proc.devRef .tc ReferenceIdeal.main_arg0) = m ((d.tc : Thread nD τ).loc main_arg0)) :
    W105 m ρ d (Proc.devRef .tc main_v38) = V (Proc.devRef .tc ReferenceIdeal.main_v49)
    ∧ W105 m ρ d (Proc.devRef .tc main_v42) = V (Proc.devRef .tc ReferenceIdeal.main_v53)
    ∧ W105 m ρ d (Proc.devRef .tc main_v44) = V (Proc.devRef .tc ReferenceIdeal.main_v57)
    ∧ W105 m ρ d (Proc.devRef .tc main_v51) = V (Proc.devRef .tc ReferenceIdeal.main_v64)
    ∧ W105 m ρ d (Proc.devRef .tc main_v58) = V (Proc.devRef .tc ReferenceIdeal.main_v71) := by
  have h := tops_eq m ρ d V e hV ((W105_main_arg0 m ρ d).trans ha.symm)
  exact Middle.stats_eq _ V e (holds_between m ρ d) hV h.1 h.2

end Cert.KernelIdeal.Gen
-- ==== Proof.Mirror.lean ====
module

public import proofs.«01_k».proof.Proof.RefRows

/-! # The reflected border of the reference's blur -/

@[expose] public section

namespace Cert.ReferenceIdeal

open Idealize.ShloMosaic Idealize.ShloMosaic.Pointwise

/-- The line of the plane a line of the padded plane shows: three reflected lines at each end. -/
def mirror (y : Fin 230) : Fin 224 :=
  ⟨if y.val < 3 then 3 - y.val else if y.val < 227 then y.val - 3 else 449 - y.val, by split_ifs <;> omega⟩

/-- Lines reflected at both ends. -/
theorem mirror_rows {α : Type} (x : S4x96x224x224.Idx → α) {e₁ e₃} {e₂ : Shape.Concatenates [S4x96x3x224, S4x96x224x224] S4x96x227x224 2}
    {e₄ : Shape.Concatenates [S4x96x227x224, S4x96x3x224] S4x96x230x224 2} (u : S4x96x227x224.Idx → α)
    (hu : u = concatenate S4x96x227x224 2 [⟨S4x96x3x224, Host.reverse [2] (extractStridedSlice S4x96x3x224 ![0, 0, 1, 0] x e₁)⟩,
      ⟨S4x96x224x224, x⟩] e₂) (b : Fin 4) (c : Fin 96) (y : Fin 230) (z : Fin 224) :
    concatenate S4x96x230x224 2 [⟨S4x96x227x224, u⟩,
      ⟨S4x96x3x224, Host.reverse [2] (extractStridedSlice S4x96x3x224 ![0, 0, 223, 0] u e₃)⟩] e₄ (ix4 b c y z)
        = x (ix4 b c (mirror y) z) := by
  subst hu
  pointwise []
  simp only [List.mem_singleton, Fin.isValue, Fin.reduceEq, reduceIte, Fin.val_rev]
  have := y.isLt
  split_ifs <;> first | (exfalso; omega) | skip
  all_goals
    refine congrArg (fun w => x (ix4 b c w z)) (Fin.ext ?_)
    simp only [mirror]
    split_ifs <;> omega

/-- Columns reflected at both ends. -/
theorem mirror_cols {α : Type} (x : S4x96x230x224.Idx → α) {e₁ e₃} {e₂ : Shape.Concatenates [S4x96x230x3, S4x96x230x224] S4x96x230x227 3}
    {e₄ : Shape.Concatenates [S4x96x230x227, S4x96x230x3] S4x96x230x230 3} (u : S4x96x230x227.Idx → α)
    (hu : u = concatenate S4x96x230x227 3 [⟨S4x96x230x3, Host.reverse [3] (extractStridedSlice S4x96x230x3 ![0, 0, 0, 1] x e₁)⟩,
      ⟨S4x96x230x224, x⟩] e₂) (b : Fin 4) (c : Fin 96) (z : Fin 230) (y : Fin 230) :
    concatenate S4x96x230x230 3 [⟨S4x96x230x227, u⟩,
      ⟨S4x96x230x3, Host.reverse [3] (extractStridedSlice S4x96x230x3 ![0, 0, 0, 223] u e₃)⟩] e₄ (ix4 b c z y)
        = x (ix4 b c z (mirror y)) := by
  subst hu
  pointwise []
  simp only [List.mem_singleton, Fin.isValue, Fin.reduceEq, reduceIte, Fin.val_rev]
  have := y.isLt
  split_ifs <;> first | (exfalso; omega) | skip
  all_goals
    refine congrArg (fun w => x (ix4 b c z w)) (Fin.ext ?_)
    simp only [mirror]
    split_ifs <;> omega

end Cert.ReferenceIdeal
-- ==== Proof.Blur.lean ====
module

public import proofs.«01_k».proof.Proof.Mirror

/-! # The blur of one point, as a product of two profiles -/

@[expose] public section

namespace Cert.Blur

open Idealize.ShloMosaic Cert.ReferenceIdeal

/-- Line `y + a` of the padded plane. -/
def shift (y : Fin 224) (a : Fin 7) : Fin 230 := ⟨y + a, by omega⟩

/-- A line's share of the blur of a point at line `r`: the taps whose reflected line is `r`. -/
noncomputable def profile (k : Fin 7 → EReal) (r y : Fin 224) : EReal :=
  ∑ a, if mirror (shift y a) = r then k a else 0

/-- A nonnegative factor may be taken into a sum of nonnegative terms. -/
theorem mul_sum_nonneg {n : ℕ} (c : EReal) (f : Fin n → EReal) (hf : ∀ i, 0 ≤ f i) (s : Finset (Fin n)) :
    c * ∑ i ∈ s, f i = ∑ i ∈ s, c * f i := by
  induction s using Finset.induction_on with
  | empty => simp
  | insert a s ha ih =>
    rw [Finset.sum_insert ha, Finset.sum_insert ha, EReal.left_distrib_of_nonneg (hf a) (Finset.sum_nonneg fun i _ => hf i), ih]

theorem sum_mul_nonneg {n : ℕ} (c : EReal) (f : Fin n → EReal) (hf : ∀ i, 0 ≤ f i) (s : Finset (Fin n)) :
    (∑ i ∈ s, f i) * c = ∑ i ∈ s, f i * c := by
  rw [mul_comm, mul_sum_nonneg c f hf]
  exact Finset.sum_congr rfl fun i _ => mul_comm _ _

variable (k : Fin 7 → EReal) (hk : ∀ a, 0 ≤ k a)

include hk in
theorem profile_nonneg (r y : Fin 224) : 0 ≤ profile k r y :=
  Finset.sum_nonneg fun a _ => by split_ifs; exacts [hk a, le_rfl]

include hk in
/-- The blur of a point of weight 0 or 1 at `(r, s)` is the product of its line's and its column's profile. -/
theorem blur_point (v : EReal) (hv : v = 0 ∨ v = 1) (r s y x : Fin 224) :
    (∑ a : Fin 7, ∑ d : Fin 7, (if mirror (shift y a) = r ∧ mirror (shift x d) = s then v else 0) * (k a * k d))
      = (profile k r y * v) * (profile k s x * v) := by
  rcases hv with rfl | rfl
  · simp
  · rw [mul_one, mul_one, profile, sum_mul_nonneg _ _ (fun a => by split_ifs; exacts [hk a, le_rfl])]
    refine Finset.sum_congr rfl fun a _ => ?_
    rw [profile, mul_sum_nonneg _ _ (fun d => by split_ifs; exacts [hk d, le_rfl])]
    refine Finset.sum_congr rfl fun d _ => ?_
    by_cases h1 : mirror (shift y a) = r <;> by_cases h2 : mirror (shift x d) = s <;> simp [h1, h2]

/-- A point's own line has the middle tap. -/
theorem mirror_middle (r : Fin 224) : mirror (shift r 3) = r := by
  refine Fin.ext ?_
  show (if r.val + 3 < 3 then 3 - (r.val + 3) else if r.val + 3 < 227 then r.val + 3 - 3 else 449 - (r.val + 3)) = r
  split_ifs <;> omega

include hk in
theorem profile_pos (h3 : 0 < k 3) (r : Fin 224) : 0 < profile k r r := by
  refine lt_of_lt_of_le h3 ?_
  have h := Finset.single_le_sum (f := fun a => if mirror (shift r a) = r then k a else 0)
    (fun a _ => by split_ifs; exacts [hk a, le_rfl]) (Finset.mem_univ (3 : Fin 7))
  rw [profile]
  simpa [mirror_middle] using h

/-- Some line is out of reach of a point. -/
theorem profile_zero (r : Fin 224) : ∃ y, profile k r y = 0 := by
  by_cases h : r.val < 112
  · refine ⟨⟨223, by omega⟩, Finset.sum_eq_zero fun a _ => if_neg fun e => ?_⟩
    have e := congrArg Fin.val e
    change (if 223 + a.val < 3 then 3 - (223 + a.val) else if 223 + a.val < 227 then 223 + a.val - 3 else 449 - (223 + a.val)) = r.val at e
    have := a.isLt
    split_ifs at e <;> omega
  · refine ⟨⟨0, by omega⟩, Finset.sum_eq_zero fun a _ => if_neg fun e => ?_⟩
    have e := congrArg Fin.val e
    change (if 0 + a.val < 3 then 3 - (0 + a.val) else if 0 + a.val < 227 then 0 + a.val - 3 else 449 - (0 + a.val)) = r.val at e
    have := a.isLt
    split_ifs at e <;> omega

/-- One tap of a profile, as the sum over the point's three images: itself, and its reflections at either end. -/
theorem images (c : EReal) (r y : Fin 224) (a : Fin 7) :
    (if mirror (shift y a) = r then c else 0)
      = (if r.val + 3 = y + a then c else 0) + (if 1 ≤ r.val ∧ r.val ≤ 3 ∧ y.val + a + r = 3 then c else 0)
        + (if 220 ≤ r.val ∧ r.val ≤ 222 ∧ y.val + a + r = 449 then c else 0) := by
  have e : mirror (shift y a) = r ↔ (if y.val + a < 3 then 3 - (y.val + a) else if y.val + a < 227 then y.val + a - 3 else 449 - (y.val + a)) = r :=
    ⟨fun h => congrArg Fin.val h, fun h => Fin.ext h⟩
  have := r.isLt
  have := y.isLt
  have := a.isLt
  by_cases h : mirror (shift y a) = r
  · rw [if_pos h]
    rw [e] at h
    by_cases h1 : y.val + a < 3
    · rw [if_pos h1] at h
      rw [if_neg (by omega), if_pos (by omega), if_neg (by omega), zero_add, add_zero]
    · rw [if_neg h1] at h
      by_cases h2 : y.val + a < 227
      · rw [if_pos h2] at h
        rw [if_pos (by omega), if_neg (by omega), if_neg (by omega), add_zero, add_zero]
      · rw [if_neg h2] at h
        rw [if_neg (by omega), if_neg (by omega), if_pos (by omega), zero_add, zero_add]
  · rw [if_neg h]
    rw [e] at h
    have n1 : ¬ r.val + 3 = y + a := fun q => h (by split_ifs <;> omega)
    have n2 : ¬ (1 ≤ r.val ∧ r.val ≤ 3 ∧ y.val + a + r = 3) := fun q => h (by split_ifs <;> omega)
    have n3 : ¬ (220 ≤ r.val ∧ r.val ≤ 222 ∧ y.val + a + r = 449) := fun q => h (by split_ifs <;> omega)
    rw [if_neg n1, if_neg n2, if_neg n3, add_zero, add_zero]

end Cert.Blur
-- ==== Proof.KerAtt.lean ====
module

public import proofs.«01_k».proof.Proof.Middle
public import proofs.«01_k».proof.Proof.Blur
public import Idealize.ShloMosaic.Lib.Pointwise

/-! # The kernel's two profiles of each joint

The kernel adds, for a joint at line `p`, twenty-one terms: for the line itself and for its two
reflected images, one per tap. -/

@[expose] public section

set_option maxRecDepth 20000
set_option maxHeartbeats 4000000

namespace Cert.KerAtt

open Idealize.ShloMosaic Idealize.SL.Sem Cert.Line Cert.Middle Idealize.ShloMosaic.Pointwise Cert.KernelIdeal
open Cert.ReferenceIdeal (mirror)

/-- What one tap of one image adds. -/
noncomputable def term (ok : BitVec 1) (dd : BitVec 32) (t : BitVec 32) (c : EReal) : EReal :=
  Scalar.select (IntOp.andi ok (IntOp.cmpi .eq dd t)) c 0

theorem term_eq (ok : BitVec 1) (dd : BitVec 32) (t : BitVec 32) (c : EReal) : term ok dd t c = if ok = 1#1 ∧ dd = t then c else 0 := by
  refine if_congr ?_ rfl rfl
  by_cases h : dd = t
  · subst h
    simp only [IntOp.andi, IntOp.cmpi, BEq.rfl, BitVec.ofBool_true, and_true]
    revert ok; decide
  · have : (dd == t) = false := by simpa using h
    simp only [IntOp.andi, IntOp.cmpi, this, BitVec.ofBool_false, h, and_false, iff_false]
    revert ok; decide

/-- A test of a small number against a small interval. -/
theorem between_iff (r n m : ℕ) (hr : r < 1000) (hn : n < 1000) (hm : m < 1000) :
    IntOp.andi (IntOp.cmpi .sge (BitVec.ofNat 32 r) (BitVec.ofNat 32 n)) (IntOp.cmpi .sle (BitVec.ofNat 32 r) (BitVec.ofNat 32 m)) = 1#1
      ↔ n ≤ r ∧ r ≤ m := by
  have e : ∀ a b : ℕ, a < 1000 → b < 1000 → (BitVec.ofNat 32 a).sle (BitVec.ofNat 32 b) = decide (a ≤ b) := by
    intro a b ha hb
    rw [BitVec.sle, BitVec.toInt_eq_toNat_of_lt (by simp; omega), BitVec.toInt_eq_toNat_of_lt (by simp; omega), BitVec.toNat_ofNat, BitVec.toNat_ofNat,
      Nat.mod_eq_of_lt (by omega), Nat.mod_eq_of_lt (by omega)]
    simp
  simp only [IntOp.andi, IntOp.cmpi, e _ _ hr hm, e _ _ hn hr]
  by_cases h1 : n ≤ r <;> by_cases h2 : r ≤ m <;> simp [h1, h2]

/-- The three images of tap `a`, as one test on the reflected line. -/
theorem term_images (p : BitVec 32) (r y : Fin 224) (hp : p = BitVec.ofNat 32 r) (a : Fin 7) (c : EReal) :
    term 1#1 (IntOp.subi (IntOp.addi p 3#32) (BitVec.ofNat 32 y)) (BitVec.ofNat 32 a) c
      + term (IntOp.andi (IntOp.cmpi .sge p 1#32) (IntOp.cmpi .sle p 3#32)) (IntOp.subi (IntOp.subi 3#32 p) (BitVec.ofNat 32 y)) (BitVec.ofNat 32 a) c
      + term (IntOp.andi (IntOp.cmpi .sge p 220#32) (IntOp.cmpi .sle p 222#32)) (IntOp.subi (IntOp.subi 449#32 p) (BitVec.ofNat 32 y)) (BitVec.ofNat 32 a) c
      = if mirror (Blur.shift y a) = r then c else 0 := by
  rw [Blur.images]
  subst hp
  obtain ⟨r, hr⟩ := r
  obtain ⟨y, hy⟩ := y
  obtain ⟨a, ha⟩ := a
  simp only [term_eq, between_iff r 1 3 (by omega) (by omega) (by omega), between_iff r 220 222 (by omega) (by omega) (by omega)]
  simp only [IntOp.subi, IntOp.addi, ← BitVec.toNat_inj, BitVec.toNat_sub, BitVec.toNat_add, BitVec.toNat_ofNat]
  congr 1
  · congr 1
    · refine if_congr ?_ rfl rfl
      rw [true_and]; omega
    · refine if_congr ?_ rfl rfl
      omega
  · refine if_congr ?_ rfl rfl
    omega

/-- What tap `a` adds for the joint's own line, -/
noncomputable def direct (k : Fin 7 → EReal) (p : BitVec 32) (y : Fin 224) (a : Fin 7) : EReal :=
  term 1#1 (IntOp.subi (IntOp.addi p 3#32) (BitVec.ofNat 32 y)) (BitVec.ofNat 32 a) (k a)
/-- for the line reflected at the low edge, -/
noncomputable def low (k : Fin 7 → EReal) (p : BitVec 32) (y : Fin 224) (a : Fin 7) : EReal :=
  term (IntOp.andi (IntOp.cmpi .sge p 1#32) (IntOp.cmpi .sle p 3#32)) (IntOp.subi (IntOp.subi 3#32 p) (BitVec.ofNat 32 y)) (BitVec.ofNat 32 a) (k a)
/-- and for the line reflected at the high edge. -/
noncomputable def high (k : Fin 7 → EReal) (p : BitVec 32) (y : Fin 224) (a : Fin 7) : EReal :=
  term (IntOp.andi (IntOp.cmpi .sge p 220#32) (IntOp.cmpi .sle p 222#32)) (IntOp.subi (IntOp.subi 449#32 p) (BitVec.ofNat 32 y)) (BitVec.ofNat 32 a) (k a)

/-- The twenty-one terms, added in the kernel's order, are the profile. -/
theorem profile_sum (k : Fin 7 → EReal) (p : BitVec 32) (r y : Fin 224) (hp : p = BitVec.ofNat 32 r) :
    direct k p y 0 + direct k p y 1 + direct k p y 2 + direct k p y 3 + direct k p y 4 + direct k p y 5 + direct k p y 6
      + low k p y 0 + low k p y 1 + low k p y 2 + low k p y 3 + low k p y 4 + low k p y 5 + low k p y 6
      + high k p y 0 + high k p y 1 + high k p y 2 + high k p y 3 + high k p y 4 + high k p y 5 + high k p y 6
      = Blur.profile k r y := by
  rw [show Blur.profile k r y = ∑ a, (direct k p y a + low k p y a + high k p y a) from
    Finset.sum_congr rfl fun a _ => (term_images p r y hp a (k a)).symm, Fin.sum_univ_seven]
  abel

variable (K : Valuation τ sig (Elt Ideal))

/-- The rows: each joint's profile at its line, times its amplitude. -/
theorem rows (hK : HoldsAll K Gen.between) (k : S7.Idx → EReal) (hk : K (Proc.devRef .tc main_v68) = k) (p : S4x96.Idx → BitVec 32)
    (hp : K (Proc.devRef .tc main_v51) = p) (v : S4x96.Idx → BitVec 1) (hv : K (Proc.devRef .tc main_v38) = v) (r : Fin 224)
    (b : Fin 4) (c : Fin 96) (y : Fin 224) (hr : p (ix2 b c) = BitVec.ofNat 32 r) :
    K (Proc.devRef .tc main_v272) (ix3 b c y) = Blur.profile (fun a => k (ix1 a)) r y * FloatOps.uitofp (F := Ideal) .f32 (v (ix2 b c)) := by
  simp only [HoldsAll_append] at hK
  obtain ⟨-, -, -, -, -, -, -, -, -, -, -, -, -, -, -, -, K16, K17, K18, K19, K20, K21, K22, K23, K24, K25, K26, K27, K28, K29, K30, K31, K32, K33, K34, K35, K36, K37, K38, K39, K40, K41, K42, K43, K44, K45, K46, K47, K48, K49, K50, K51, K52, K53, K54, K55, K56, K57, K58, -⟩ := hK
  simp only [Gen.hostOps1_16, Gen.hostOps1_17, Gen.hostOps1_18, Gen.hostOps1_19, Gen.hostOps1_20, Gen.hostOps1_21, Gen.hostOps1_22, Gen.hostOps1_23, Gen.hostOps1_24, Gen.hostOps1_25, Gen.hostOps1_26, Gen.hostOps1_27, Gen.hostOps1_28, Gen.hostOps1_29, Gen.hostOps1_30, Gen.hostOps1_31, Gen.hostOps1_32, Gen.hostOps1_33, Gen.hostOps1_34, Gen.hostOps1_35, Gen.hostOps1_36, Gen.hostOps1_37, Gen.hostOps1_38, Gen.hostOps1_39, Gen.hostOps1_40, Gen.hostOps1_41, Gen.hostOps1_42, Gen.hostOps1_43, Gen.hostOps1_44, Gen.hostOps1_45, Gen.hostOps1_46, Gen.hostOps1_47, Gen.hostOps1_48, Gen.hostOps1_49, Gen.hostOps1_50, Gen.hostOps1_51, Gen.hostOps1_52, Gen.hostOps1_53, Gen.hostOps1_54, Gen.hostOps1_55, Gen.hostOps1_56, Gen.hostOps1_57, Gen.hostOps1_58, HoldsAll_cons, HoldsAll_nil,
    tnullary, tunary, tbinary, tternary, treshape, rd_of] at K16 K17 K18 K19 K20 K21 K22 K23 K24 K25 K26 K27 K28 K29 K30 K31 K32 K33 K34 K35 K36 K37 K38 K39 K40 K41 K42 K43 K44 K45 K46 K47 K48 K49 K50 K51 K52 K53 K54 K55 K56 K57 K58
  simp only [snullary, sunary, sbinary, sreshape, sternary] at K16 K17 K18 K19 K20 K21 K22 K23 K24 K25 K26 K27 K28 K29 K30 K31 K32 K33 K34 K35 K36 K37 K38 K39 K40 K41 K42 K43 K44 K45 K46 K47 K48 K49 K50 K51 K52 K53 K54 K55 K56 K57 K58
  obtain ⟨-, -, -, -, -, -, -, -, -, -, -, -, K16⟩ := K16
  simp only [K16, K17, K18, K19, K20, K21, K22, K23, K24, K25, K26, K27, K28, K29, K30, K31, K32, K33, K34, K35, K36, K37, K38, K39, K40, K41, K42, K43, K44, K45, K46, K47, K48, K49, K50, K51, K52, K53, K54, K55, K56, K57, K58, hk, hp, hv]
  clear K16 K17 K18 K19 K20 K21 K22 K23 K24 K25 K26 K27 K28 K29 K30 K31 K32 K33 K34 K35 K36 K37 K38 K39 K40 K41 K42 K43 K44 K45 K46 K47 K48 K49 K50 K51 K52 K53 K54 K55 K56 K57 K58
  pointwise []
  refine congrArg (· * FloatOps.uitofp (F := Ideal) .f32 (v (ix2 b c))) ?_
  exact profile_sum (fun a => k (ix1 a)) (p (ix2 b c)) r y hr

/-- The columns: the same, at the joint's column. -/
theorem columns (hK : HoldsAll K Gen.between) (k : S7.Idx → EReal) (hk : K (Proc.devRef .tc main_v68) = k) (p : S4x96.Idx → BitVec 32)
    (hp : K (Proc.devRef .tc main_v58) = p) (v : S4x96.Idx → BitVec 1) (hv : K (Proc.devRef .tc main_v38) = v) (s : Fin 224)
    (b : Fin 4) (c : Fin 96) (x : Fin 224) (hs : p (ix2 b c) = BitVec.ofNat 32 s) :
    K (Proc.devRef .tc main_v475) (ix3 b c x) = Blur.profile (fun a => k (ix1 a)) s x * FloatOps.uitofp (F := Ideal) .f32 (v (ix2 b c)) := by
  simp only [HoldsAll_append] at hK
  obtain ⟨-, -, -, -, -, -, -, -, -, -, -, -, -, -, -, -, K16, -, -, -, -, -, -, -, -, -, -, -, -, -, -, -, -, -, -, -, -, -, -, -, -, -, -, -, -, -, -, -, -, -, -, -, -, -, -, -, -, -, K58, K59, K60, K61, K62, K63, K64, K65, K66, K67, K68, K69, K70, K71, K72, K73, K74, K75, K76, K77, K78, K79, K80, K81, K82, K83, K84, K85, K86, K87, K88, K89, K90, K91, K92, K93, K94, K95, K96, K97, K98, K99, K100⟩ := hK
  simp only [Gen.hostOps1_16, Gen.hostOps1_58, Gen.hostOps1_59, Gen.hostOps1_60, Gen.hostOps1_61, Gen.hostOps1_62, Gen.hostOps1_63, Gen.hostOps1_64, Gen.hostOps1_65, Gen.hostOps1_66, Gen.hostOps1_67, Gen.hostOps1_68, Gen.hostOps1_69, Gen.hostOps1_70, Gen.hostOps1_71, Gen.hostOps1_72, Gen.hostOps1_73, Gen.hostOps1_74, Gen.hostOps1_75, Gen.hostOps1_76, Gen.hostOps1_77, Gen.hostOps1_78, Gen.hostOps1_79, Gen.hostOps1_80, Gen.hostOps1_81, Gen.hostOps1_82, Gen.hostOps1_83, Gen.hostOps1_84, Gen.hostOps1_85, Gen.hostOps1_86, Gen.hostOps1_87, Gen.hostOps1_88, Gen.hostOps1_89, Gen.hostOps1_90, Gen.hostOps1_91, Gen.hostOps1_92, Gen.hostOps1_93, Gen.hostOps1_94, Gen.hostOps1_95, Gen.hostOps1_96, Gen.hostOps1_97, Gen.hostOps1_98, Gen.hostOps1_99, Gen.hostOps1_100, HoldsAll_cons, HoldsAll_nil,
    tnullary, tunary, tbinary, tternary, treshape, rd_of] at K16 K58 K59 K60 K61 K62 K63 K64 K65 K66 K67 K68 K69 K70 K71 K72 K73 K74 K75 K76 K77 K78 K79 K80 K81 K82 K83 K84 K85 K86 K87 K88 K89 K90 K91 K92 K93 K94 K95 K96 K97 K98 K99 K100
  simp only [snullary, sunary, sbinary, sreshape, sternary] at K16 K58 K59 K60 K61 K62 K63 K64 K65 K66 K67 K68 K69 K70 K71 K72 K73 K74 K75 K76 K77 K78 K79 K80 K81 K82 K83 K84 K85 K86 K87 K88 K89 K90 K91 K92 K93 K94 K95 K96 K97 K98 K99 K100
  obtain ⟨-, -, -, -, -, -, -, -, -, -, -, -, hf, -⟩ := K16
  simp only [hf, K58, K59, K60, K61, K62, K63, K64, K65, K66, K67, K68, K69, K70, K71, K72, K73, K74, K75, K76, K77, K78, K79, K80, K81, K82, K83, K84, K85, K86, K87, K88, K89, K90, K91, K92, K93, K94, K95, K96, K97, K98, K99, K100, hk, hp, hv]
  clear K58 K59 K60 K61 K62 K63 K64 K65 K66 K67 K68 K69 K70 K71 K72 K73 K74 K75 K76 K77 K78 K79 K80 K81 K82 K83 K84 K85 K86 K87 K88 K89 K90 K91 K92 K93 K94 K95 K96 K97 K98 K99 K100
  pointwise []
  refine congrArg (· * FloatOps.uitofp (F := Ideal) .f32 (v (ix2 b c))) ?_
  exact profile_sum (fun a => k (ix1 a)) (p (ix2 b c)) s x hs

end Cert.KerAtt
-- ==== Proof.Launch1.lean ====
module

public import proofs.«01_k».proof.Proof.Gen.KernelIdeal.Frame.Region1
public import Idealize.ShloMosaic.Lib.Pipeline.ValueKit
public import Idealize.ShloMosaic.Lib.Pointwise

/-! # What the second launch leaves in its array: the product of the rows and the columns -/

@[expose] public section

set_option Elab.async false

namespace Cert.KernelIdeal.Gen

open Idealize.ShloMosaic Idealize.ShloMosaic.Pipeline Idealize.ShloMosaic.Pointwise

/-- One block of the launch: the outer products of its planes' rows and columns. -/
theorem block_apply (x0 x1 : Vec Ideal S64x224 .f32) (z : S64x224x224.Idx) :
    out1_2 x0 x1 z = (x0 (ix2 (z 0) (z 1)) * x1 (ix2 (z 0) (z 2)) : EReal) := by
  obtain ⟨p, y, x, rfl⟩ : ∃ (p : Fin 64) (y x : Fin 224), z = ix3 p y x := ⟨z 0, z 1, z 2, eq_ix3 z⟩
  have hz : (![0, 0] : Fin 2 → Nat) = fun _ => 0 := by funext a; fin_cases a <;> rfl
  have hz3 : (![0, 0, 0] : Fin 3 → Nat) = fun _ => 0 := by funext a; fin_cases a <;> rfl
  have h0 : View.ld x0 r1_0 = x0 := View.ld_unit_zero (S := S64x224) hz _ x0
  have h1 : View.ld x1 r1_0 = x1 := View.ld_unit_zero (S := S64x224) hz _ x1
  have h : out1_2 x0 x1 = k1_pay1 x0 x1 := by
    rw [out1_2, h0, h1]
    exact View.canon_unit_zero (S := S64x224x224) hz3 _ _
  rw [h]
  pointwise [k1_pay1]

variable (V : (c : Dev nD) → (b : Ref sig .tc) → Buf (Elt Ideal) ((c.tc : Thread nD τ).loc b)) (c : Dev nD)

/-- Where the launch's windows stand at a point: at the point's block, and at the start of the other axes. -/
theorem place0 : ∀ t : Fin cfg1.N, win1_0.index t 0 = (grid1.coords t 0).val ∧ win1_0.index t 1 = 0 := by decide +kernel
theorem place1 : ∀ t : Fin cfg1.N, win1_1.index t 0 = (grid1.coords t 0).val ∧ win1_1.index t 1 = 0 := by decide +kernel
theorem place2 : ∀ t : Fin cfg1.N, win1_2.index t 0 = (grid1.coords t 0).val ∧ win1_2.index t 1 = 0 ∧ win1_2.index t 2 = 0 := by
  decide +kernel

/-- The launch's result. -/
theorem arr_product (R C : S384x224.Idx → EReal) (hR : V c main_v482 = R) (hC : V c main_v483 = C) :
    (dat1 V c).arrAt 2 cfg1.N = fun j : S384x224x224.Idx => R (ix2 (j 0) (j 1)) * C (ix2 (j 0) (j 2)) := by
  refine (dat1 V c).arrAt_eq_of_covers 2 _ (by decide +kernel) fun t hf y => ?_
  blk_simp
  rw [after1_2]
  obtain ⟨i0, i1, i2⟩ := place2 t
  obtain ⟨a0, a1⟩ := place0 t
  obtain ⟨b0, b1⟩ := place1 t
  rw [block_apply]
  refine congrArg₂ (fun a b : EReal => a * b) ?_ ?_
  · unfold iblk1
    blk_simp
    refine (congrFun hR _).trans (congrArg R (funext fun a => Fin.ext ?_))
    fin_cases a
    · show (((win1_0.blk t).view.emb (ix2 (y 0) (y 1)) 0 : Fin 384) : Nat) = ((win1_2.blk t).view.emb y 0 : Fin 384)
      blk_simp
      rw [a0, i0]
    · show (((win1_0.blk t).view.emb (ix2 (y 0) (y 1)) 1 : Fin 224) : Nat) = ((win1_2.blk t).view.emb y 1 : Fin 224)
      blk_simp
      rw [a1, i1]
  · unfold iblk1
    blk_simp
    refine (congrFun hC _).trans (congrArg C (funext fun a => Fin.ext ?_))
    fin_cases a
    · show (((win1_1.blk t).view.emb (ix2 (y 0) (y 2)) 0 : Fin 384) : Nat) = ((win1_2.blk t).view.emb y 0 : Fin 384)
      blk_simp
      rw [b0, i0]
    · show (((win1_1.blk t).view.emb (ix2 (y 0) (y 2)) 1 : Fin 224) : Nat) = ((win1_2.blk t).view.emb y 2 : Fin 224)
      blk_simp
      rw [b1, i2]

end Cert.KernelIdeal.Gen
-- ==== Proof.KerNorm.lean ====
module

public import proofs.«01_k».proof.Proof.KerRun
public import proofs.«01_k».proof.Proof.Launch1
public import proofs.«01_k».proof.Proof.Middle
public import proofs.«01_k».proof.Proof.ArgMax

/-! # The kernel's normalised map, from the rows and the columns -/

@[expose] public section

set_option maxRecDepth 20000
set_option maxHeartbeats 1000000

namespace Cert.KernelIdeal.Gen

open Idealize.ShloMosaic Idealize.SL.Sem Cert.Line Cert.Middle Idealize.ShloMosaic.Pointwise

/-- The greatest value of a line is a value of the line, and no value of the line is greater. -/
theorem line_max (x : FVec Ideal S4x96x224 .f32) (h₁ : S4x96x224.ReducesTo [2] S4x96) (h₂ : 0 < S_.numel) (b : Fin 4) (c : Fin 96) :
    (∀ k, (x (ix3 b c k) : EReal) ≤ Host.reduce (FloatOps.maximumf (F := Ideal) (φ := .f32)) x (constant (F := Ideal) S_ .f32 0xFF800000#32) h₁ h₂ (ix2 b c))
    ∧ ∃ k, x (ix3 b c k) = Host.reduce (FloatOps.maximumf (F := Ideal) (φ := .f32)) x (constant (F := Ideal) S_ .f32 0xFF800000#32) h₁ h₂ (ix2 b c) := by
  have hr : S4x96x224.Reduces [2] S4x96 := by decide
  have hlift : ∀ k, hr.lift (ix2 b c) k = ix3 b c k := fun k => by
    funext a; fin_cases a <;> rfl
  have e0 := Host.reduce_eq_fold_single (max : EReal → EReal → EReal) x (constant (F := Ideal) S_ .f32 0xFF800000#32) h₁ hr h₂ (ix2 b c)
  rw [show Host.reduce (FloatOps.maximumf (F := Ideal) (φ := .f32)) x _ h₁ h₂ (ix2 b c) = _ from e0]
  rw [show constant (F := Ideal) S_ FTy.f32 0xFF800000#32 (Shape.Idx.first h₂) = ⊥ from ofBits_bot]
  have e : (x ∘ hr.lift (ix2 b c)) = fun k => x (ix3 b c k) := funext fun k => congrArg x (hlift k)
  rw [e]
  refine ⟨fun k => le_fold_max Finset.univ (fun k : Fin 224 => (x (ix3 b c k) : EReal)) (Finset.mem_univ k), ?_⟩
  obtain ⟨k, -, hk⟩ := exists_fold_max Finset.univ (fun k : Fin 224 => (x (ix3 b c k) : EReal)) ⟨0, Finset.mem_univ _⟩
  exact ⟨k, hk⟩

/-- The greatest value over the planes is a plane's value, and no plane's value is greater. -/
theorem plane_max (x : FVec Ideal S4x96 .f32) (h₁ : S4x96.ReducesTo [0, 1] S_) (h₂ : 0 < S_.numel) :
    (∀ i, (x i : EReal) ≤ Host.reduce (FloatOps.maximumf (F := Ideal) (φ := .f32)) x (constant (F := Ideal) S_ .f32 0xFF800000#32) h₁ h₂ ix0)
    ∧ ∃ i, x i = Host.reduce (FloatOps.maximumf (F := Ideal) (φ := .f32)) x (constant (F := Ideal) S_ .f32 0xFF800000#32) h₁ h₂ ix0 := by
  have e : Host.reduce (FloatOps.maximumf (F := Ideal) (φ := .f32)) x (constant (F := Ideal) S_ .f32 0xFF800000#32) h₁ h₂ ix0
      = (Finset.univ : Finset (Fin 4 × Fin 96)).fold max ⊥ fun k => x (ix2 k.1 k.2) := by
    pointwise []
    rw [ofBits_bot]
  rw [e]
  refine ⟨fun i => ?_, ?_⟩
  · obtain ⟨b, c, rfl⟩ : ∃ (b : Fin 4) (c : Fin 96), i = ix2 b c := ⟨i 0, i 1, eq_ix2 i⟩
    exact le_fold_max Finset.univ (fun k : Fin 4 × Fin 96 => (x (ix2 k.1 k.2) : EReal)) (Finset.mem_univ (b, c))
  obtain ⟨k, -, hk⟩ := exists_fold_max Finset.univ (fun k : Fin 4 × Fin 96 => (x (ix2 k.1 k.2) : EReal)) ⟨(0, 0), Finset.mem_univ _⟩
  exact ⟨_, hk⟩

/-- The greatest product of a row and a column is the greatest product of their greatest values. -/
theorem greatest (R C : S4x96x224.Idx → EReal) (u v : S4x96.Idx → EReal) (G : EReal) (h0 : ∀ i, 0 ≤ R i) (h1 : ∀ i, 0 ≤ C i)
    (hu : ∀ (b : Fin 4) (c : Fin 96), (∀ k : Fin 224, R (ix3 b c k) ≤ u (ix2 b c)) ∧ ∃ k : Fin 224, R (ix3 b c k) = u (ix2 b c))
    (hv : ∀ (b : Fin 4) (c : Fin 96), (∀ k : Fin 224, C (ix3 b c k) ≤ v (ix2 b c)) ∧ ∃ k : Fin 224, C (ix3 b c k) = v (ix2 b c))
    (hG : (∀ i, u i * v i ≤ G) ∧ ∃ i, u i * v i = G) :
    (∀ (b : Fin 4) (c : Fin 96) (y x : Fin 224), R (ix3 b c y) * C (ix3 b c x) ≤ G)
      ∧ ∃ (b : Fin 4) (c : Fin 96) (y x : Fin 224), R (ix3 b c y) * C (ix3 b c x) = G := by
  constructor
  · intro b c y x
    refine le_trans ?_ (hG.1 (ix2 b c))
    exact mul_le_mul ((hu b c).1 y) ((hv b c).1 x) (h1 _) ((h0 (ix3 b c y)).trans ((hu b c).1 y))
  · obtain ⟨i, hi⟩ := hG.2
    obtain ⟨b, c, rfl⟩ : ∃ (b : Fin 4) (c : Fin 96), i = ix2 b c := ⟨i 0, i 1, eq_ix2 i⟩
    obtain ⟨y, hy⟩ := (hu b c).2
    obtain ⟨x, hx⟩ := (hv b c).2
    exact ⟨b, c, y, x, by rw [hy, hx, hi]⟩

/-- A plane's place among the 384 planes. -/
def flat (b : Fin 4) (c : Fin 96) : Fin 384 := ⟨96 * b + c, by omega⟩

theorem lines_apply (z : S4x96x224.Idx → EReal) (h : S4x96x224.ShapeCasts S384x224) (b : Fin 4) (c : Fin 96) (y : Fin 224) :
    shapeCast S384x224 z h (ix2 (flat b c) y) = z (ix3 b c y) :=
  shapeCast_apply _ h _ _ (by
    rw [Shape.rowMajor_val_three, Shape.rowMajor_val_two]
    show (b.val * 96 + c) * 224 + y = (96 * b.val + c) * 224 + y
    omega)

theorem maps_apply (z : S384x224x224.Idx → EReal) (h : S384x224x224.ShapeCasts S4x96x224x224) (b : Fin 4) (c : Fin 96) (y x : Fin 224) :
    shapeCast S4x96x224x224 z h (ix4 b c y x) = z (ix3 (flat b c) y x) :=
  shapeCast_apply _ h _ _ (by
    rw [Shape.rowMajor_val_four, Shape.rowMajor_val_three]
    show ((96 * b.val + c) * 224 + y) * 224 + x = ((b.val * 96 + c) * 224 + y.val) * 224 + x
    omega)

/-- The map, read at an index. -/
theorem map_apply (R C : S4x96x224.Idx → EReal) (G : S_.Idx → EReal) (P Q : S384x224.Idx → EReal) (z : S384x224x224.Idx → EReal)
    (M : S4x96x224x224.Idx → EReal) (h) (h') (h'') (hb)
    (hP : P = shapeCast S384x224 (Host.divf (F := Ideal) (φ := .f32) R (broadcastInDim S4x96x224 ![] hb G)) h)
    (hQ : Q = shapeCast S384x224 C h') (hz : z = fun j => P (ix2 (j 0) (j 1)) * Q (ix2 (j 0) (j 2)))
    (hM : M = shapeCast S4x96x224x224 z h'') (b : Fin 4) (c : Fin 96) (y x : Fin 224) :
    M (ix4 b c y x) = Ideal.div (R (ix3 b c y)) (G ix0) * C (ix3 b c x) := by
  rw [hM, maps_apply, hz]
  refine congrArg₂ (fun a b : EReal => a * b) ?_ ?_
  · rw [hP]
    refine (lines_apply _ h b c y).trans ?_
    pointwise []
  · rw [hQ]
    exact lines_apply C h' b c x

variable (m : (ℓ : Loc nD τ sig) → Buf (Elt Ideal) ℓ) (ρ : Dev nD → PrngReg) (d : Dev nD)

/-- The map the kernel returns: a plane's rows over the greatest product, times its columns. -/
theorem map_eq (R C : S4x96x224.Idx → EReal) (hR : W105 m ρ d (Proc.devRef .tc main_v272) = R) (hC : W105 m ρ d (Proc.devRef .tc main_v475) = C)
    (h0 : ∀ i, 0 ≤ R i) (h1 : ∀ i, 0 ≤ C i) :
    ∃ G : EReal, (∀ b c y x, R (ix3 b c y) * C (ix3 b c x) ≤ G) ∧ (∃ b c y x, R (ix3 b c y) * C (ix3 b c x) = G)
      ∧ ∀ b c y x, W105 m ρ d (Proc.devRef .tc main_v485) (ix4 b c y x) = Ideal.div (R (ix3 b c y)) G * C (ix3 b c x) := by
  have hK := holds_between m ρ d
  have hL := holds_last m ρ d
  simp only [HoldsAll_append] at hK
  obtain ⟨-, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, -, hK⟩ := hK
  simp only [hostOps1_100, hostOps2, HoldsAll_cons, HoldsAll_nil] at hK hL
  simp only [snullary, sunary, sbinary, sreshape, sternary] at hK hL
  obtain ⟨-, -, -, -, a0, a1, b0, b1, p, g0, g1, n0, n1, r, c, -⟩ := hK
  obtain ⟨l, -⟩ := hL
  obtain ⟨g, hg⟩ : ∃ g, W105 m ρ d (Proc.devRef .tc main_v479) ix0 = g := ⟨_, rfl⟩
  have hl := line_max (W105 m ρ d (Proc.devRef .tc main_v272)) reducesTo_S4x96x224_S4x96_d2 h_S_
  have hc := line_max (W105 m ρ d (Proc.devRef .tc main_v475)) reducesTo_S4x96x224_S4x96_d2 h_S_
  have hp := plane_max (W105 m ρ d (Proc.devRef .tc main_v478)) reducesTo_S4x96_S_d0_1 h_S_
  rw [← a0, ← a1] at hl
  rw [← b0, ← b1] at hc
  rw [← g0, ← g1] at hp
  rw [p] at hp
  rw [hR] at hl n1
  rw [hC] at hc
  rw [hC] at c
  obtain ⟨ge, gm⟩ := greatest R C (W105 m ρ d (Proc.devRef .tc main_v476)) (W105 m ρ d (Proc.devRef .tc main_v477))
    (W105 m ρ d (Proc.devRef .tc main_v479) ix0) h0 h1 hl hc hp
  refine ⟨W105 m ρ d (Proc.devRef .tc main_v479) ix0, ge, gm, fun b c' y x => ?_⟩
  rw [n1, n0] at r
  exact map_apply R C (W105 m ρ d (Proc.devRef .tc main_v479)) (W105 m ρ d (Proc.devRef .tc main_v482)) (W105 m ρ d (Proc.devRef .tc main_v483))
    (W105 m ρ d (Proc.devRef .tc main_v484)) (W105 m ρ d (Proc.devRef .tc main_v485)) _ _ _ _ r c
    ((final_v484 m ρ d).trans (arr_product (V103 m ρ) d _ _ (final_v482 m ρ d).symm (final_v483 m ρ d).symm)) l b c' y x

end Cert.KernelIdeal.Gen
-- ==== Proof.Windows.lean ====
module

public import proofs.«01_k».proof.Proof.Blur
public import Idealize.ShloMosaic.Lib.ValueIdxRank6
import Idealize.ShloMosaic.Lib.Pointwise
import Idealize.ShloMosaic.Lib.Routing.OpsSet
import Idealize.ShloMosaic.Lib.Routing.OpsPair

/-! # The stacked windows of the reference's blur -/

@[expose] public section

set_option maxHeartbeats 1000000

namespace Cert.ReferenceIdeal

open Idealize.ShloMosaic Idealize.ShloMosaic.Pointwise

variable [Facts]

/-- The stack of seven row windows. -/
theorem windows_rows {α : Type} (x : S4x96x230x230.Idx → α) (w : Fin 7 → S4x96x224x1x230.Idx → α)
    (hw : ∀ a b c y z, w a (ix5 b c y 0 z) = x (ix4 b c (Blur.shift y a) z))
    {e : Shape.Concatenates [S4x96x224x1x230, S4x96x224x1x230, S4x96x224x1x230, S4x96x224x1x230, S4x96x224x1x230, S4x96x224x1x230, S4x96x224x1x230] S4x96x224x7x230 3}
    (b : Fin 4) (c : Fin 96) (y : Fin 224) (a : Fin 7) (z : Fin 230) :
    concatenate S4x96x224x7x230 3 [⟨S4x96x224x1x230, w 0⟩, ⟨S4x96x224x1x230, w 1⟩, ⟨S4x96x224x1x230, w 2⟩, ⟨S4x96x224x1x230, w 3⟩,
      ⟨S4x96x224x1x230, w 4⟩, ⟨S4x96x224x1x230, w 5⟩, ⟨S4x96x224x1x230, w 6⟩] e (ix5 b c y a z) = x (ix4 b c (Blur.shift y a) z) := by
  rw [← hw]
  fin_cases a <;> pointwise []

/-- The stack of seven column windows. -/
theorem windows_cols {α : Type} (x : S4x96x224x7x230.Idx → α) (w : Fin 7 → S4x96x224x7x224x1.Idx → α)
    (hw : ∀ d b c y a z, w d (ix6 b c y a z 0) = x (ix5 b c y a (Blur.shift z d)))
    {e : Shape.Concatenates [S4x96x224x7x224x1, S4x96x224x7x224x1, S4x96x224x7x224x1, S4x96x224x7x224x1, S4x96x224x7x224x1, S4x96x224x7x224x1,
      S4x96x224x7x224x1] S4x96x224x7x224x7 5}
    (b : Fin 4) (c : Fin 96) (y : Fin 224) (a : Fin 7) (z : Fin 224) (d : Fin 7) :
    concatenate S4x96x224x7x224x7 5 [⟨S4x96x224x7x224x1, w 0⟩, ⟨S4x96x224x7x224x1, w 1⟩, ⟨S4x96x224x7x224x1, w 2⟩, ⟨S4x96x224x7x224x1, w 3⟩,
      ⟨S4x96x224x7x224x1, w 4⟩, ⟨S4x96x224x7x224x1, w 5⟩, ⟨S4x96x224x7x224x1, w 6⟩] e (ix6 b c y a z d) = x (ix5 b c y a (Blur.shift z d)) := by
  rw [← hw]
  fin_cases d <;> pointwise []

/-- A scatter of one point into each plane. -/
theorem scatter_point {α : Type} (x0 : S4x96x224x224.Idx → α) (idx : IVec S4x96x4 32) (upd : S4x96.Idx → α) (r s : Fin 4 → Fin 96 → Fin 224)
    (h0 : ∀ b c, idx (ix3 b c 0) = BitVec.ofNat 32 b.val) (h1 : ∀ b c, idx (ix3 b c 1) = BitVec.ofNat 32 c.val)
    (h2 : ∀ b c, idx (ix3 b c 2) = BitVec.ofNat 32 (r b c).val) (h3 : ∀ b c, idx (ix3 b c 3) = BitVec.ofNat 32 (s b c).val)
    (b : Fin 4) (c : Fin 96) (y x : Fin 224) :
    Host.scatter scatter_S4x96x224x224_S4x96x4_S4x96_n_0123_0123_2 (fun _ b => b) x0 idx upd (ix4 b c y x)
      = if y = r b c ∧ x = s b c then upd (ix2 b c) else x0 (ix4 b c y x) := by
  have hw : ∀ n < 224, (BitVec.ofNat 32 n).toInt = n := fun n hn => by
    rw [BitVec.toInt_eq_toNat_of_lt (by rw [BitVec.toNat_ofNat]; omega), BitVec.toNat_ofNat]; omega
  have key : ∀ b' c', scatter_S4x96x224x224_S4x96x4_S4x96_n_0123_0123_2.resultIdx? (ix2 b' c') idx = some (ix4 b c y x)
      ↔ (b' = b ∧ c' = c ∧ y = r b' c' ∧ x = s b' c') := by
    intro b' c'
    have hs : ∀ a : Fin 4, scatter_S4x96x224x224_S4x96x4_S4x96_n_0123_0123_2.start (ix2 b' c') idx a = (idx (ix3 b' c' a)).toInt := by
      intro a
      unfold ScatterDims.start
      have ha : a ∈ scatter_S4x96x224x224_S4x96x4_S4x96_n_0123_0123_2.scatterDimsToOperandDims := by
        show a ∈ ([0, 1, 2, 3] : List (Fin 4))
        fin_cases a <;> decide
      rw [dif_pos ha]
      refine congrArg (fun j => (idx j).toInt) (funext fun q => ?_)
      fin_cases a <;> fin_cases q <;> rfl
    have hz : ∀ a : Fin 4, scatter_S4x96x224x224_S4x96x4_S4x96_n_0123_0123_2.window (ix2 b' c') a = 0 := by
      intro a
      fin_cases a <;> rfl
    rw [Routing.resultIdx?_eq_some]
    have e : ∀ a : Fin 4, (idx (ix3 b' c' a)).toInt = ((![b'.val, c'.val, (r b' c').val, (s b' c').val] a : ℕ) : ℤ) := by
      intro a
      fin_cases a
      · show (idx (ix3 b' c' 0)).toInt = (b'.val : ℤ)
        rw [h0, hw _ (by omega)]
      · show (idx (ix3 b' c' 1)).toInt = (c'.val : ℤ)
        rw [h1, hw _ (by omega)]
      · show (idx (ix3 b' c' 2)).toInt = ((r b' c').val : ℤ)
        rw [h2, hw _ (by omega)]
      · show (idx (ix3 b' c' 3)).toInt = ((s b' c').val : ℤ)
        rw [h3, hw _ (by omega)]
    constructor
    · intro h
      have g : ∀ a : Fin 4, ![b'.val, c'.val, (r b' c').val, (s b' c').val] a = (ix4 b c y x a).val := fun a => by
        have := h a
        rw [hs a, hz a, e a] at this
        simpa using this
      exact ⟨Fin.ext (g 0), Fin.ext (g 1), Fin.ext (g 2).symm, Fin.ext (g 3).symm⟩
    · rintro ⟨rfl, rfl, rfl, rfl⟩ a
      rw [hs a, hz a, e a]
      fin_cases a <;> simp <;> rfl
  split_ifs with h
  · refine Routing.scatter_set_hit _ _ _ _ _ _ (fun k hk => ?_) (ix2 b c) ((key b c).2 ⟨rfl, rfl, h.1, h.2⟩)
    rw [eq_ix2 k] at hk ⊢
    obtain ⟨e1, e2, -⟩ := (key _ _).1 hk
    rw [e1, e2]
  · refine Routing.scatter_set_miss _ _ _ _ _ (fun k hk => h ?_)
    rw [eq_ix2 k] at hk
    obtain ⟨e1, e2, e3, e4⟩ := (key _ _).1 hk
    rw [e1, e2] at e3 e4
    exact ⟨e3, e4⟩

end Cert.ReferenceIdeal
-- ==== Proof.RefAtt.lean ====
module

public import proofs.«01_k».proof.Proof.Windows

/-! # The reference's blurred points -/

@[expose] public section

set_option maxRecDepth 20000
set_option maxHeartbeats 1000000

namespace Cert.ReferenceIdeal

open Idealize.ShloMosaic Idealize.SL.Sem Cert.Line Idealize.ShloMosaic.Pointwise

variable [Facts]

/-- A row window at an index. -/
theorem row_window {α : Type} (x : S4x96x230x230.Idx → α) (a : Fin 7) {e e'} (b : Fin 4) (c : Fin 96) (y : Fin 224) (z : Fin 230) :
    broadcastInDim S4x96x224x1x230 ![0, 1, 2, 4] e (extractStridedSlice S4x96x224x230 ![0, 0, a.val, 0] x e') (ix5 b c y 0 z)
      = x (ix4 b c (Blur.shift y a) z) := by
  pointwise []
  exact congrArg (fun w => x (ix4 b c w z)) (Fin.ext (Nat.add_comm _ _))

/-- A column window at an index. -/
theorem col_window {α : Type} (x : S4x96x224x7x230.Idx → α) (d : Fin 7) {e e'} (b : Fin 4) (c : Fin 96) (y : Fin 224) (a : Fin 7) (z : Fin 224) :
    broadcastInDim S4x96x224x7x224x1 ![0, 1, 2, 3, 4] e (extractStridedSlice S4x96x224x7x224 ![0, 0, 0, 0, d.val] x e') (ix6 b c y a z 0)
      = x (ix5 b c y a (Blur.shift z d)) := by
  pointwise []
  exact congrArg (fun w => x (ix5 b c y a w)) (Fin.ext (Nat.add_comm _ _))

/-- Four stacked columns at an index. -/
theorem columns_apply {α : Type} (x₀ x₁ x₂ x₃ : S4x96.Idx → α) {e₀ e₁ e₂ e₃} {e : Shape.Concatenates [S4x96x1, S4x96x1, S4x96x1, S4x96x1] S4x96x4 2}
    (b : Fin 4) (c : Fin 96) (f : S4x96x4.Idx → α)
    (hf : f = concatenate S4x96x4 2 [⟨S4x96x1, broadcastInDim S4x96x1 ![0, 1] e₀ x₀⟩, ⟨S4x96x1, broadcastInDim S4x96x1 ![0, 1] e₁ x₁⟩,
      ⟨S4x96x1, broadcastInDim S4x96x1 ![0, 1] e₂ x₂⟩, ⟨S4x96x1, broadcastInDim S4x96x1 ![0, 1] e₃ x₃⟩] e) :
    f (ix3 b c 0) = x₀ (ix2 b c) ∧ f (ix3 b c 1) = x₁ (ix2 b c) ∧ f (ix3 b c 2) = x₂ (ix2 b c) ∧ f (ix3 b c 3) = x₃ (ix2 b c) := by
  subst hf
  refine ⟨?_, ?_, ?_, ?_⟩ <;> pointwise []

/-- The two sums over a window. -/
theorem window_sums (X : FVec Ideal S4x96x224x7x224x7 .f32) (b : Fin 4) (c : Fin 96) (y x : Fin 224) {h₁ h₂ h₃ h₄} :
    Host.reduceAdd (F := Ideal) (axes := [3]) (Host.reduceAdd (F := Ideal) (t := S4x96x224x7x224) (axes := [5]) X (constant S_ .f32 0x00000000#32) h₁ h₂)
        (constant S_ .f32 0x00000000#32) h₃ h₄ (ix4 b c y x : S4x96x224x224.Idx)
      = ∑ a : Fin 7, ∑ e : Fin 7, X (ix6 b c y a x e) := by
  pointwise []
  refine Finset.sum_congr rfl fun a _ => ?_
  have hr : S4x96x224x7x224x7.Reduces [5] S4x96x224x7x224 := by decide
  refine (Ideal.hostReduceAdd_single _ hr _ _ _).trans ((zero_add _).trans ?_)
  refine Finset.sum_congr rfl fun e _ => congrArg X ?_
  funext q
  fin_cases q <;> rfl

/-- A number held between 0 and 223 is one. -/
theorem clip_apply (z : BitVec 32) : ∃ r : Fin 224, IntOp.minsi 223#32 (IntOp.maxsi 0#32 z) = BitVec.ofNat 32 r := by
  have h : (IntOp.minsi 223#32 (IntOp.maxsi 0#32 z)).toNat < 224 := by
    unfold IntOp.minsi IntOp.maxsi
    simp only [BitVec.slt_iff_toInt_lt]
    have h223 : (223#32).toInt = 223 := by decide
    have h0 : (0#32).toInt = 0 := by decide
    have hz := z.isLt
    split_ifs with h1 h2 h3
    · decide
    · decide
    · decide
    · rw [h0] at h1
      rw [h223, BitVec.toInt_eq_toNat_cond] at h3
      rw [BitVec.toInt_eq_toNat_cond] at h1
      split_ifs at h1 h3 <;> omega
  exact ⟨⟨_, h⟩, by simp⟩

/-- A nonnegative place keeps its value under the wrap of negative indices. -/
theorem wrap_small (n m : ℕ) (hn : n < 224) (x : BitVec 32) (hx : x = BitVec.ofNat 32 n) :
    (if IntOp.cmpi .slt x 0#32 = 1#1 then IntOp.addi x (BitVec.ofNat 32 m) else x) = BitVec.ofNat 32 n := by
  subst hx
  rw [if_neg]
  have h : (BitVec.ofNat 32 n).toInt = n := by
    rw [BitVec.toInt_eq_toNat_of_lt (by rw [BitVec.toNat_ofNat]; omega), BitVec.toNat_ofNat]; omega
  have : (BitVec.ofNat 32 n).slt 0#32 = false := by
    rw [Bool.eq_false_iff, ne_eq, BitVec.slt_iff_toInt_lt, h]
    simp
  simp [IntOp.cmpi, this]

variable (V : Valuation τ sig (Elt Ideal)) (d : Dev nD) (h : Fix V (main (F := Ideal) d))

include h

/-- The rows and the columns of the points lie in the plane. -/
theorem main_place : ∃ r s : Fin 4 → Fin 96 → Fin 224, ∀ b c, V (Proc.devRef .tc main_v64) (ix2 b c) = BitVec.ofNat 32 (r b c).val
    ∧ V (Proc.devRef .tc main_v71) (ix2 b c) = BitVec.ofNat 32 (s b c).val := by
  simp only [main, Fix_bind] at h
  obtain ⟨-, h, -⟩ := h
  simp only [main_part1, Fix_bind, Fix_hlo, fn_clip.body, tnullary, tunary, tbinary, tternary, treshape, rd_of, main_call7, main_call9] at h
  simp only [snullary, sunary, sbinary, sreshape, sternary] at h
  obtain ⟨-, -, -, -, -, -, -, -, -, -, -, -, -, -, -, -, -, -, -, -, -, -, -, -, p1, p2, ⟨p3, p4, p5, p6, p7, p8, -⟩, -, -, -, -, -, -, -, q1, q2, ⟨q3, q4, q5, q6, q7, q8, -⟩, -⟩ := h
  have hr : ∀ b c, ∃ r : Fin 224, V (Proc.devRef .tc main_v64) (ix2 b c) = BitVec.ofNat 32 r.val := fun b c => by
    obtain ⟨r, e⟩ := clip_apply (V (Proc.devRef .tc main_v63) (ix2 b c))
    refine ⟨r, e ▸ ?_⟩
    rw [p8, p7, p6, p5, p4, p3, p2, p1]
    pointwise []
    rfl
  have hs : ∀ b c, ∃ s : Fin 224, V (Proc.devRef .tc main_v71) (ix2 b c) = BitVec.ofNat 32 s.val := fun b c => by
    obtain ⟨s, e⟩ := clip_apply (V (Proc.devRef .tc main_v70) (ix2 b c))
    refine ⟨s, e ▸ ?_⟩
    rw [q8, q7, q6, q5, q4, q3, q2, q1]
    pointwise []
    rfl
  choose r hr using hr
  choose s hs using hs
  exact ⟨r, s, fun b c => ⟨hr b c, hs b c⟩⟩

/-- The points: each plane holds its visibility at its joint's place, and 0 elsewhere. -/
theorem main_points (r s : Fin 4 → Fin 96 → Fin 224) (hr : ∀ b c, V (Proc.devRef .tc main_v64) (ix2 b c) = BitVec.ofNat 32 (r b c).val)
    (hs : ∀ b c, V (Proc.devRef .tc main_v71) (ix2 b c) = BitVec.ofNat 32 (s b c).val) (b : Fin 4) (c : Fin 96) (y x : Fin 224) :
    V (Proc.devRef .tc main_v105) (ix4 b c y x)
      = if y = r b c ∧ x = s b c then FloatOps.uitofp (F := Ideal) .f32 (V (Proc.devRef .tc main_v49) (ix2 b c)) else (0 : EReal) := by
  simp only [main, Fix_bind] at h
  obtain ⟨-, h1, h2, -⟩ := h
  simp only [main_part1, Fix_bind, Fix_hlo] at h1
  simp only [snullary, sunary, sbinary, sreshape, sternary] at h1
  obtain ⟨-, -, -, -, -, -, -, -, -, -, -, -, -, -, -, -, -, -, -, -, -, -, -, -, -, -, -, -, -, -, -, -, -, -, -, -, -,
    i0, i1, i2, i3, i4, i5, z0, z1, u, w0, w1, w2, w3, w4, w5, w6, v0, v1, v2, v3, v4, v5, v6⟩ := h1
  simp only [main_part2, Fix_bind, Fix_hlo] at h2
  simp only [snullary, sunary, sbinary, sreshape, sternary, snary] at h2
  obtain ⟨r0, r1, r2, r3, r4, r5, r6, s0, s1, s2, s3, s4, s5, s6, b0, b1, b2, b3, e, sc, -⟩ := h2
  have k : ∀ b c, V (Proc.devRef .tc main_v104) (ix3 b c 0) = V (Proc.devRef .tc main_v84) (ix2 b c)
      ∧ V (Proc.devRef .tc main_v104) (ix3 b c 1) = V (Proc.devRef .tc main_v89) (ix2 b c)
      ∧ V (Proc.devRef .tc main_v104) (ix3 b c 2) = V (Proc.devRef .tc main_v94) (ix2 b c)
      ∧ V (Proc.devRef .tc main_v104) (ix3 b c 3) = V (Proc.devRef .tc main_v99) (ix2 b c) := by
    intro b c
    clear i0 i1 i2 i3 i4 i5 z0 z1 u w0 w1 w2 w3 w4 w5 w6 v0 v1 v2 v3 v4 v5 v6 r0 r1 r2 r3 r4 r5 r6 s0 s1 s2 s3 s4 s5 s6 sc
    have e' : V (Proc.devRef .tc main_v104) = concatenate S4x96x4 2 [⟨S4x96x1, V (Proc.devRef .tc main_v100)⟩,
      ⟨S4x96x1, V (Proc.devRef .tc main_v101)⟩, ⟨S4x96x1, V (Proc.devRef .tc main_v102)⟩, ⟨S4x96x1, V (Proc.devRef .tc main_v103)⟩] _ := e
    rw [b0, b1, b2, b3] at e'
    exact columns_apply _ _ _ _ b c _ e'
  rw [sc, scatter_point _ _ _ r s (fun b c => ?_) (fun b c => ?_) (fun b c => ?_) (fun b c => ?_)]
  · clear * - u z0 z1
    rw [u, z1, z0]
    pointwise []
  · rw [(k b c).1, w6, w5, w4, w3, w2, w1, w0, i2, i1, i0]
    pointwise []
    exact wrap_small b.val 4 (by omega) _ rfl
  · rw [(k b c).2.1, v6, v5, v4, v3, v2, v1, v0, i5, i4, i3]
    pointwise []
    exact wrap_small c.val 96 (by omega) _ rfl
  · rw [(k b c).2.2.1, r6, r5, r4, r3, r2, r1, r0]
    pointwise []
    exact wrap_small _ 224 (by omega) _ (hr b c)
  · rw [(k b c).2.2.2, s6, s5, s4, s3, s2, s1, s0]
    pointwise []
    exact wrap_small _ 224 (by omega) _ (hs b c)

/-- The padded plane. -/
theorem main_pad (b : Fin 4) (c : Fin 96) (y x : Fin 230) :
    V (Proc.devRef .tc main_v121) (ix4 b c y x) = V (Proc.devRef .tc main_v105) (ix4 b c (mirror y) (mirror x)) := by
  simp only [main, Fix_bind] at h
  obtain ⟨-, -, h, -⟩ := h
  simp only [main_part2, Fix_bind, Fix_hlo, fn_pad.body, fn_flip.body, fn_flip_3.body, tnullary, tunary, tbinary, tternary, treshape, rd_of,
    main_call11] at h
  simp only [snullary, sunary, sbinary, sreshape, sternary, snary] at h
  obtain ⟨-, -, -, -, -, -, -, -, -, -, -, -, -, -, -, -, -, -, -, -, -, -, -, -, -, -, -, -, -, -, -, -, -, -, -, -, -, -, -, -, -, p, -⟩ := h
  obtain ⟨-, p1, p2, p3, -, p5, p6, p7, -, p9, p10, p11, -, p13, p14, p15, -⟩ := p
  obtain ⟨p2, -⟩ := p2
  obtain ⟨p6, -⟩ := p6
  obtain ⟨p10, -⟩ := p10
  obtain ⟨p14, -⟩ := p14
  rw [p1] at p2
  rw [p2] at p3
  rw [p5] at p6
  rw [p6] at p7
  rw [p9] at p10
  rw [p10] at p11
  rw [p13] at p14
  rw [p14] at p15
  rw [p15, mirror_cols _ _ p11, p7, mirror_rows _ _ p3]

/-- The blur: the padded plane's windows weighted with the taps' products. -/
theorem main_blur (P : S4x96x230x230.Idx → EReal) (hP : V (Proc.devRef .tc main_v121) = P) (k : S7.Idx → EReal)
    (hk : V (Proc.devRef .tc main_v115) = k) (b : Fin 4) (c : Fin 96) (y x : Fin 224) :
    V (Proc.devRef .tc main_v156) (ix4 b c y x)
      = ∑ a : Fin 7, ∑ e : Fin 7, P (ix4 b c (Blur.shift y a) (Blur.shift x e)) * (k (ix1 a) * k (ix1 e)) := by
  simp only [main, Fix_bind] at h
  obtain ⟨-, -, h1, h2⟩ := h
  simp only [main_part2, Fix_bind, Fix_hlo] at h1
  simp only [snullary, sunary, sbinary, sreshape, sternary, snary] at h1
  obtain ⟨-, -, -, -, -, -, -, -, -, -, -, -, -, -, -, -, -, -, -, -, -, -, -, -, -, -, -, -, -, -, -, -, -, -, -, k0, k1, k2, k3, k4, -, -,
    s0, s1, s2, s3, s4, s5, s6, b0, b1, b2, b3, b4, b5, b6, e, t0, t1, t2⟩ := h1
  simp only [main_part3, Fix_bind, Fix_hlo] at h2
  simp only [snullary, sunary, sbinary, sreshape, sternary, snary] at h2
  obtain ⟨t3, t4, t5, t6, c0, c1, c2, c3, c4, c5, c6, e', m0, m1, m2, z0, r0, z1, r1, -⟩ := h2
  have e1 : ∀ (b : Fin 4) (c : Fin 96) (y : Fin 224) (a : Fin 7) (z : Fin 230), V (Proc.devRef .tc main_v136) (ix5 b c y a z)
      = V (Proc.devRef .tc main_v121) (ix4 b c (Blur.shift y a) z) := fun b c y a z => by
    rw [e]
    show concatenate S4x96x224x7x230 3 [⟨S4x96x224x1x230, V (Proc.devRef .tc main_v129)⟩, ⟨S4x96x224x1x230, V (Proc.devRef .tc main_v130)⟩,
      ⟨S4x96x224x1x230, V (Proc.devRef .tc main_v131)⟩, ⟨S4x96x224x1x230, V (Proc.devRef .tc main_v132)⟩,
      ⟨S4x96x224x1x230, V (Proc.devRef .tc main_v133)⟩, ⟨S4x96x224x1x230, V (Proc.devRef .tc main_v134)⟩, ⟨S4x96x224x1x230, V (Proc.devRef .tc main_v135)⟩] _ _ = _
    rw [b0, b1, b2, b3, b4, b5, b6, s0, s1, s2, s3, s4, s5, s6]
    exact windows_rows (V (Proc.devRef .tc main_v121)) (fun a => broadcastInDim S4x96x224x1x230 ![0, 1, 2, 4] (by decide)
      (extractStridedSlice S4x96x224x230 ![0, 0, a.val, 0] (V (Proc.devRef .tc main_v121)) (by revert a; decide)))
      (fun a b c y z => row_window _ a b c y z) b c y a z
  have e2 : ∀ (a d : Fin 7), V (Proc.devRef .tc main_v151) (ix6 b c y a x d)
      = V (Proc.devRef .tc main_v136) (ix5 b c y a (Blur.shift x d)) := fun a d => by
    rw [e']
    show concatenate S4x96x224x7x224x7 5 [⟨S4x96x224x7x224x1, V (Proc.devRef .tc main_v144)⟩, ⟨S4x96x224x7x224x1, V (Proc.devRef .tc main_v145)⟩,
      ⟨S4x96x224x7x224x1, V (Proc.devRef .tc main_v146)⟩, ⟨S4x96x224x7x224x1, V (Proc.devRef .tc main_v147)⟩,
      ⟨S4x96x224x7x224x1, V (Proc.devRef .tc main_v148)⟩, ⟨S4x96x224x7x224x1, V (Proc.devRef .tc main_v149)⟩, ⟨S4x96x224x7x224x1, V (Proc.devRef .tc main_v150)⟩] _ _ = _
    rw [c0, c1, c2, c3, c4, c5, c6, t0, t1, t2, t3, t4, t5, t6]
    exact windows_cols (V (Proc.devRef .tc main_v136)) (fun a => broadcastInDim S4x96x224x7x224x1 ![0, 1, 2, 3, 4] (by decide)
      (extractStridedSlice S4x96x224x7x224 ![0, 0, 0, 0, a.val] (V (Proc.devRef .tc main_v136)) (by revert a; decide)))
      (fun d b c y a z => col_window _ d b c y a z) b c y a x d
  have e3 : ∀ a d : Fin 7, V (Proc.devRef .tc main_v154) (ix6 b c y a x d)
      = P (ix4 b c (Blur.shift y a) (Blur.shift x d)) * (k (ix1 a) * k (ix1 d)) := fun a d => by
    rw [← hP, ← hk, ← e1, ← e2, m2, m1, m0, k4, k3, k2, k1, k0]
    pointwise []
  clear s0 s1 s2 s3 s4 s5 s6 t0 t1 t2 t3 t4 t5 t6 b0 b1 b2 b3 b4 b5 b6 c0 c1 c2 c3 c4 c5 c6 e e' m0 m1 m2 k0 k1 k2 k3 k4
  rw [r1, z1, r0, z0]
  exact (window_sums _ b c y x).trans (Finset.sum_congr rfl fun a _ => Finset.sum_congr rfl fun e _ => e3 a e)

end Cert.ReferenceIdeal
-- ==== Proof.RefNorm.lean ====
module

public import proofs.«01_k».proof.Proof.RefAtt

/-! # The reference's normalisation -/

@[expose] public section

set_option maxRecDepth 20000
set_option maxHeartbeats 1000000

namespace Cert.ReferenceIdeal

open Idealize.ShloMosaic Idealize.SL.Sem Cert.Line Idealize.ShloMosaic.Pointwise

theorem ofBits_top : Ideal.ofBits .f32 0x7F800000#32 = ⊤ := by simp [Ideal.ofBits, Ideal.ieee]

/-- The least value of an array of which no value is negative and some value is 0. -/
theorem reduce_min_zero (x : FVec Ideal S4x96x224x224 .f32) {h₁ h₂} (h0 : ∀ i, (0 : EReal) ≤ x i) (i : S4x96x224x224.Idx) (hi : x i = (0 : EReal)) :
    Host.reduce (FloatOps.minimumf (F := Ideal) (φ := .f32)) (axes := [0, 1, 2, 3]) x (constant (F := Ideal) S_ .f32 0x7F800000#32) h₁ h₂ ix0 = (0 : EReal) := by
  pointwise []
  refine le_antisymm ((Finset.fold_min_le _).2 (Or.inr ⟨i, by simp only [Finset.mem_filter, Finset.mem_univ, true_and]; exact funext fun a => a.elim0, hi.le⟩)) ?_
  exact (Finset.le_fold_min _).2 ⟨by rw [ofBits_top]; exact le_top, fun j _ => h0 j⟩

/-- The greatest value of an array. -/
theorem reduce_max_eq (x : FVec Ideal S4x96x224x224 .f32) {h₁ h₂} (M : EReal) (h0 : ∀ i, x i ≤ M) (i : S4x96x224x224.Idx) (hi : x i = M) :
    Host.reduce (FloatOps.maximumf (F := Ideal) (φ := .f32)) (axes := [0, 1, 2, 3]) x (constant (F := Ideal) S_ .f32 0xFF800000#32) h₁ h₂ ix0 = M := by
  pointwise []
  refine le_antisymm ((Finset.fold_max_le _).2 ⟨by rw [show Ideal.ofBits .f32 0xFF800000#32 = ⊥ from ofBits_bot]; exact bot_le, fun j _ => h0 j⟩) ?_
  exact (Finset.le_fold_max _).2 (Or.inr ⟨i, by simp only [Finset.mem_filter, Finset.mem_univ, true_and]; exact funext fun a => a.elim0, hi.ge⟩)

variable [Facts] (V : Valuation τ sig (Elt Ideal)) (d : Dev nD) (h : Fix V (main (F := Ideal) d))

include h

/-- The normalised map: over the greatest value of a blur of which no value is negative and some value is 0. -/
theorem main_norm (A : S4x96x224x224.Idx → EReal) (hA : V (Proc.devRef .tc main_v156) = A) (h0 : ∀ i, 0 ≤ A i) (hz : ∃ i, A i = 0)
    (M : EReal) (hM : ∀ i, A i ≤ M) (hm : ∃ i, A i = M) (i : S4x96x224x224.Idx) :
    V (Proc.devRef .tc main_v164) i = Ideal.div (A i) M := by
  obtain ⟨z, hz⟩ := hz
  obtain ⟨w, hm⟩ := hm
  simp only [main, Fix_bind] at h
  obtain ⟨-, -, -, h⟩ := h
  simp only [main_part3, Fix_bind, Fix_hlo] at h
  simp only [snullary, sunary, sbinary, sreshape, sternary, snary] at h
  obtain ⟨-, -, -, -, -, -, -, -, -, -, -, -, -, -, -, -, -, -, -, n0, n1, n2, n3, x0, x1, m0, m1, m2, m3, m4, -⟩ := h
  have e1 : V (Proc.devRef .tc main_v157) ix0 = (0 : EReal) := by
    rw [n1, n0]
    exact reduce_min_zero (V (Proc.devRef .tc main_v156)) (hA ▸ h0) z (hA ▸ hz)
  have e2 : V (Proc.devRef .tc main_v161) ix0 = (0 : EReal) := by
    rw [m1, m0]
    exact reduce_min_zero (V (Proc.devRef .tc main_v156)) (hA ▸ h0) z (hA ▸ hz)
  have e3 : V (Proc.devRef .tc main_v160) ix0 = M := by
    rw [x1, x0]
    exact reduce_max_eq (V (Proc.devRef .tc main_v156)) M (hA ▸ hM) w (hA ▸ hm)
  rw [m4, m3, m2, n3, n2, hA]
  pointwise []
  rw [e1, e2, e3, sub_zero, sub_zero]

end Cert.ReferenceIdeal
-- ==== Proof.Taps.lean ====
module

public import proofs.«01_k».proof.Proof.Middle
public import Idealize.ShloMosaic.Lib.Pointwise
public import Idealize.ShloMosaic.Lib.IdealHost

/-! # The Gaussian's taps: the same in both programs, nonnegative, the middle one positive -/

@[expose] public section

set_option maxRecDepth 20000
set_option maxHeartbeats 1000000

namespace Cert.Taps

open Idealize.ShloMosaic Idealize.SL.Sem Cert.Line Cert.Middle Idealize.ShloMosaic.Pointwise

/-- A finite number. -/
def Finite (x : EReal) : Prop := ∃ r : ℝ, x = r

theorem Finite.add {x y : EReal} : Finite x → Finite y → Finite (x + y) := by
  rintro ⟨r, rfl⟩ ⟨s, rfl⟩; exact ⟨r + s, (EReal.coe_add r s).symm⟩

theorem Finite.sub {x y : EReal} : Finite x → Finite y → Finite (x - y) := by
  rintro ⟨r, rfl⟩ ⟨s, rfl⟩; exact ⟨r - s, (EReal.coe_sub r s).symm⟩

theorem Finite.mul {x y : EReal} : Finite x → Finite y → Finite (x * y) := by
  rintro ⟨r, rfl⟩ ⟨s, rfl⟩; exact ⟨r * s, (EReal.coe_mul r s).symm⟩

theorem Finite.div {x : EReal} (s : ℝ) (hs : s ≠ 0) : Finite x → Finite (Ideal.div x s) := by
  rintro ⟨r, rfl⟩
  refine ⟨r * s⁻¹, ?_⟩
  rw [Ideal.div, if_neg (by simpa using hs), EReal.coe_mul, EReal.coe_inv]

theorem bits_3 : Ideal.ofBits .f32 0x40400000#32 = ((3 : ℝ) : EReal) := by
  simp [Ideal.ofBits, Ideal.ieee]; norm_num
  rw [← EReal.coe_mul]; norm_num
theorem bits_neg3 : Ideal.ofBits .f32 0xC0400000#32 = ((-3 : ℝ) : EReal) := by
  simp [Ideal.ofBits, Ideal.ieee]; norm_num
  rw [← EReal.coe_mul]; norm_num
theorem bits_6 : Ideal.ofBits .f32 0x40C00000#32 = ((6 : ℝ) : EReal) := by
  simp [Ideal.ofBits, Ideal.ieee]; norm_num
  rw [← EReal.coe_mul]; norm_num
theorem bits_sigma : Ideal.ofBits .f32 0x3FC00000#32 = ((1.5 : ℝ) : EReal) := by
  simp [Ideal.ofBits, Ideal.ieee]; norm_num
  rw [← EReal.coe_mul]; norm_num
theorem bits_half : Ideal.ofBits .f32 0xBF000000#32 = ((-0.5 : ℝ) : EReal) := by
  simp [Ideal.ofBits, Ideal.ieee]; norm_num
  rw [← EReal.coe_mul]; norm_num

/-- Exponentials of finite numbers over their sum: all nonnegative, in fact positive. -/
theorem softmax_pos {n : ℕ} (e : Fin n → EReal) (t : Fin n → EReal) (ht : ∀ a, Finite (t a)) (he : ∀ a, e a = Ideal.exp (t a)) (a : Fin n) :
    0 < Ideal.div (e a) (∑ b, e b) := by
  choose r hr using ht
  have h1 : ∀ b, e b = ((Real.exp (r b) : ℝ) : EReal) := fun b => by rw [he, hr]; rfl
  have hs : ∑ b, e b = ((∑ b, Real.exp (r b) : ℝ) : EReal) := by
    rw [Finset.sum_congr rfl fun b _ => h1 b]
    exact (map_sum (⟨⟨((↑) : ℝ → EReal), EReal.coe_zero⟩, EReal.coe_add⟩ : ℝ →+ EReal) _ _).symm
  have hp : 0 < ∑ b, Real.exp (r b) := Finset.sum_pos (fun b _ => Real.exp_pos _) ⟨a, Finset.mem_univ _⟩
  rw [hs, h1, Ideal.div, if_neg (by simpa using hp.ne'), ← EReal.coe_inv, ← EReal.coe_mul]
  exact_mod_cast mul_pos (Real.exp_pos _) (inv_pos.2 hp)

/-- Finite values followed by one more are finite. -/
theorem linspace_finite (x : ReferenceIdeal.S6.Idx → EReal) (y : ReferenceIdeal.S1.Idx → EReal) (hx : ∀ j : Fin 6, Finite (x (ix1 j)))
    (hy : ∀ j : Fin 1, Finite (y (ix1 j))) {e : Shape.Concatenates [ReferenceIdeal.S6, ReferenceIdeal.S1] ReferenceIdeal.S7 0} (b : Fin 7) :
    Finite (concatenate ReferenceIdeal.S7 0 [⟨ReferenceIdeal.S6, x⟩, ⟨ReferenceIdeal.S1, y⟩] e (ix1 b)) := by
  pointwise []
  split_ifs
  · exact hx _
  all_goals exact hy _

/-- The two programs compute the same taps. -/
theorem taps_eq {F : FTy → Type} [FloatOps F] (K : Valuation KernelIdeal.τ KernelIdeal.sig (Elt F)) (V : Valuation ReferenceIdeal.τ ReferenceIdeal.sig (Elt F))
    (d : Dev ReferenceIdeal.nD)
    (hK : HoldsAll K KernelIdeal.Gen.between) (hR : Fix V (ReferenceIdeal.main (F := F) d)) :
    K (Proc.devRef .tc KernelIdeal.main_v68) = V (Proc.devRef .tc ReferenceIdeal.main_v115) := by
  simp only [ReferenceIdeal.main, Fix_bind] at hR
  obtain ⟨-, -, hR, -⟩ := hR
  simp only [ReferenceIdeal.main_part2, Fix_bind, Fix_hlo, ReferenceIdeal.fn_linspace.body,
    tnullary, tunary, tbinary, treshape, rd_of, ReferenceIdeal.main_call10] at hR
  simp only [snullary, sunary, sbinary, sreshape, sternary] at hR
  obtain ⟨-, -, -, -, -, -, -, -, -, -, -, -, -, -, -, -, -, -, -, -, c0, c1, hl, t0, t1, t2, t3, t4, t5, t6, t7, t8, t9, t10, t11, -⟩ := hR
  simp only [HoldsAll_append] at hK
  obtain ⟨-, -, -, -, -, -, -, -, -, -, -, -, -, -, K14, K15, K16, -⟩ := hK
  simp only [KernelIdeal.Gen.hostOps1_14, KernelIdeal.Gen.hostOps1_15, KernelIdeal.Gen.hostOps1_16, HoldsAll_cons, HoldsAll_nil, tnullary, tunary, tbinary, tternary, treshape, rd_of] at K14 K15 K16
  simp only [snullary, sunary, sbinary, sreshape, sternary] at K14 K15 K16
  simp only [t0, t1, t2, t3, t4, t5, t6, t7, t8, t9, t10, t11]
  obtain ⟨k0, k1, k2, k3, k4, k5, k6, k7, k8, k9, k10, k11, -⟩ := K16
  simp only [k0, k1, k2, k3, k4, k5, k6, k7, k8, k9, k10, k11]
  have e : K (Proc.devRef .tc KernelIdeal.main_v59) = V (Proc.devRef .tc ReferenceIdeal.main_v106) := by
    simp only [K14, K15, hl, c0, c1, pair_eq]
  rw [e]

/-- In the reference, every tap is positive. -/
theorem taps_pos (V : Valuation ReferenceIdeal.τ ReferenceIdeal.sig (Elt Ideal)) (d : Dev ReferenceIdeal.nD)
    (hR : Fix V (ReferenceIdeal.main (F := Ideal) d)) (a : Fin 7) : (0 : EReal) < V (Proc.devRef .tc ReferenceIdeal.main_v115) (ix1 a) := by
  simp only [ReferenceIdeal.main, Fix_bind] at hR
  obtain ⟨-, -, hR, -⟩ := hR
  simp only [ReferenceIdeal.main_part2, Fix_bind, Fix_hlo, ReferenceIdeal.fn_linspace.body,
    tnullary, tunary, tbinary, treshape, rd_of, ReferenceIdeal.main_call10] at hR
  simp only [snullary, sunary, sbinary, sreshape, sternary] at hR
  obtain ⟨-, -, -, -, -, -, -, -, -, -, -, -, -, -, -, -, -, -, -, -, c0, c1, hl, t0, t1, t2, t3, t4, t5, t6, t7, t8, t9, t10, t11, -⟩ := hR
  have hx : ∀ b : Fin 7, Finite (V (Proc.devRef .tc ReferenceIdeal.main_v106) (ix1 b)) := by
    intro b
    obtain ⟨l0, l1, -, -, -, l4, l5, l6, l7, l8, l9, l10, l11, l12, l13, l14, l15, l16, l17, l18, l19, -⟩ := hl
    clear t0 t1 t2 t3 t4 t5 t6 t7 t8 t9 t10 t11
    rw [l19]
    refine linspace_finite (V (Proc.devRef .tc ReferenceIdeal.main_call10_v15)) (V (Proc.devRef .tc ReferenceIdeal.main_call10_v16))
      (fun j => ?_) (fun j => ?_) b
    · rw [l17, l16, l15, l14, l13, l12, l11, l10, l9, l8, l7, l6, l5, l4, l1, l0, c0, c1]
      clear l0 l1 l4 l5 l6 l7 l8 l9 l10 l11 l12 l13 l14 l15 l16 l17 l18 l19
      pointwise []
      exact .add (.mul ⟨_, bits_neg3⟩ (.sub ⟨1, rfl⟩ (bits_6 ▸ .div _ (by norm_num) ⟨_, rfl⟩)))
        (.mul ⟨_, bits_3⟩ (bits_6 ▸ .div _ (by norm_num) ⟨_, rfl⟩))
    · rw [l18, l1, c1]
      exact ⟨_, bits_3⟩
  have hu : ∀ b : Fin 7, Finite (V (Proc.devRef .tc ReferenceIdeal.main_v111) (ix1 b)) := by
    intro b
    rw [t6, t5, t4, t3, t2, t1, t0]
    clear hl c0 c1 t0 t1 t2 t3 t4 t5 t6 t7 t8 t9 t10 t11
    pointwise []
    rw [bits_half, bits_sigma]
    exact .mul ⟨_, rfl⟩ (.mul (.div _ (by norm_num) (hx b)) (.div _ (by norm_num) (hx b)))
  rw [t11, t10, t9, t8]
  pointwise []
  exact softmax_pos _ _ hu (fun b => by rw [t7]; pointwise []) a

end Cert.Taps
-- ==== Proof.Mask.lean ====
module

public import proofs.«01_k».proof.Proof.RefRows
public import proofs.«01_k».proof.Proof.Middle

/-! # Where the attention map is claimed, some joint is visible -/

@[expose] public section

set_option maxRecDepth 20000
set_option maxHeartbeats 1000000

namespace Cert.ReferenceIdeal

open Idealize.ShloMosaic Idealize.SL.Sem Cert.Line Cert.Middle Idealize.ShloMosaic.Pointwise

/-- The disjunction of an array of which no value is set is not set. -/
theorem reduce_or_zero (x : S4x96.Idx → BitVec 1) (h₁ : S4x96.ReducesTo [0, 1] S_) (h₂ : 0 < S_.numel) (h : ∀ b c, x (ix2 b c) ≠ 1#1) :
    Host.reduce IntOp.ori x (constantI S_ 1 0#1) h₁ h₂ ix0 = 0#1 := by
  have e : x = fun _ => 0#1 := by
    funext i
    obtain ⟨b, c, rfl⟩ : ∃ (b : Fin 4) (c : Fin 96), i = ix2 b c := ⟨i 0, i 1, eq_ix2 i⟩
    have := h b c
    revert this
    generalize x (ix2 b c) = v
    revert v
    decide
  subst e
  pointwise []
  have hs : ∀ s : Finset (Fin 4 × Fin 96), s.fold IntOp.ori 0#1 (fun _ => 0#1) = 0#1 := by
    intro s
    induction s using Finset.induction_on with
    | empty => rfl
    | insert a s ha ih => rw [Finset.fold_insert ha, ih]; rfl
  exact hs _

variable [Facts] [On_some_visible.Facts] (V : Valuation τ sig (Elt Ideal)) (d : Dev nD) (h : Fix V (main (F := Ideal) d))

include h

/-- The mask is the disjunction of the visibilities the program computes. -/
theorem mask_eq : (On_some_visible.fn (F := Ideal) (V (Proc.devRef .tc main_arg0))).1
    = broadcastInDim S4x96x224x224 ![] On_some_visible.Facts.bcast_S_S4x96x224x224
        (Host.reduce IntOp.ori (V (Proc.devRef .tc main_v49)) (constantI S_ 1 0#1) On_some_visible.Facts.reducesTo_S4x96_S_d0_1 On_some_visible.Facts.h_S_) := by
  simp only [main, Fix_bind] at h
  obtain ⟨h, g, -, -⟩ := h
  simp only [main_part0, Fix_bind, Fix_hlo, tnullary, tunary, tbinary, treshape, rd_of] at h
  simp only [snullary, sunary, sbinary, sreshape] at h
  simp only [main_part1, Fix_bind, Fix_hlo] at g
  simp only [snullary, sunary, sbinary, sreshape] at g
  obtain ⟨h0, h1, h2, h3, h4, h5, h6, h7, c0, c1, c2, c3, c4, c5, c6, c7, c8, c9, i0, i1, hf, z0, z1, hu, m0, m1, m2, m3,
    -, -, -, -, -, -, -, -, -, -, -, -, -, -, -, -, n0, n1, v0, v1, v2, -⟩ := h
  obtain ⟨w0, w1, w2, w3, w4, w5, w6, w7, w8, -⟩ := g
  have ef := fold_in_eq V _ _ _ hf
  have eu := uniform_eq V _ _ _ _ hu
  have e16 : V (Proc.devRef .tc main_v16) = _ := eu
  have e15 : V (Proc.devRef .tc main_v15) = _ := ef
  rw [w8, w7, w6, w5, w4, w3, w2, w1, w0, v2, v1, v0, n1, n0, m3, m2, m1, m0, e16, rd_of, e15]
  simp only [rd_of]
  rw [h7, h6, h4, h3, h2, h5, h1, h0, z0, z1, i1, i0, c9, c8, c7, c6, c5, c4, c3, c2, c1, c0]
  rfl

/-- Where the mask is set, some joint is visible. -/
theorem main_mask (i : S4x96x224x224.Idx) (hi : (On_some_visible.fn (F := Ideal) (V (Proc.devRef .tc main_arg0))).1 i = 1#1) :
    ∃ b c, (V (Proc.devRef .tc main_v49) (ix2 b c) : BitVec 1) = 1#1 := by
  by_contra hn
  rw [not_exists] at hn
  simp only [not_exists] at hn
  rw [mask_eq V d h] at hi
  have e := reduce_or_zero (V (Proc.devRef .tc main_v49)) On_some_visible.Facts.reducesTo_S4x96_S_d0_1 On_some_visible.Facts.h_S_ hn
  have e' : Host.reduce IntOp.ori (V (Proc.devRef .tc main_v49)) (constantI S_ 1 0#1) On_some_visible.Facts.reducesTo_S4x96_S_d0_1 On_some_visible.Facts.h_S_ ix0 = 1#1 := by
    refine Eq.trans ?_ hi
    exact congrArg _ (funext fun a => a.elim0)
  rw [e] at e'
  exact absurd e' (by decide)

end Cert.ReferenceIdeal
-- ==== Proof.Att.lean ====
module

public import proofs.«01_k».proof.Proof.Values
public import proofs.«01_k».proof.Proof.KerAtt
public import proofs.«01_k».proof.Proof.KerNorm
public import proofs.«01_k».proof.Proof.RefNorm
public import proofs.«01_k».proof.Proof.Taps
public import proofs.«01_k».proof.Proof.Mask

/-! # The attention map: where some joint is visible, the two programs return the same -/

@[expose] public section

set_option maxRecDepth 20000
set_option maxHeartbeats 1000000

namespace Cert.Att

open Idealize.ShloMosaic Idealize.SL.Sem Cert.Line Cert.Middle Idealize.ShloMosaic.Pointwise

/-- A visibility as a number is 0 or 1, and 1 where it is set. -/
theorem weight (v : BitVec 1) : (FloatOps.uitofp (F := Ideal) .f32 v = (0 : EReal) ∨ FloatOps.uitofp (F := Ideal) .f32 v = (1 : EReal))
    ∧ (v = 1#1 → FloatOps.uitofp (F := Ideal) .f32 v = (1 : EReal)) := by
  have e0 : FloatOps.uitofp (F := Ideal) .f32 0#1 = (0 : EReal) := by
    show (((0#1).toNat : ℝ) : EReal) = 0
    simp
  have e1 : FloatOps.uitofp (F := Ideal) .f32 1#1 = (1 : EReal) := by
    show (((1#1).toNat : ℝ) : EReal) = 1
    simp
  have hv : v = 0#1 ∨ v = 1#1 := by revert v; decide
  rcases hv with rfl | rfl
  · exact ⟨.inl e0, fun h => absurd h (by decide)⟩
  · exact ⟨.inr e1, fun _ => e1⟩

/-- A product of a row and a column over a number that is not 0. -/
theorem div_mul (a b g : EReal) (h : g ≠ 0) : Ideal.div (a * b) g = Ideal.div a g * b := by
  rw [Ideal.div, Ideal.div, if_neg h, if_neg h, mul_right_comm]

/-- In the reference, the blurred map is the product of the rows' and the columns' profiles. -/
theorem blur_eq [ReferenceIdeal.Facts] (V : Valuation ReferenceIdeal.τ ReferenceIdeal.sig (Elt Ideal)) (d : Dev ReferenceIdeal.nD)
    (h : Fix V (ReferenceIdeal.main (F := Ideal) d)) (k : ReferenceIdeal.S7.Idx → EReal)
    (hk : V (Proc.devRef .tc ReferenceIdeal.main_v115) = k) (hk0 : ∀ a : Fin 7, 0 ≤ k (ix1 a))
    (v : ReferenceIdeal.S4x96.Idx → BitVec 1) (hv : V (Proc.devRef .tc ReferenceIdeal.main_v49) = v)
    (r s : Fin 4 → Fin 96 → Fin 224) (hr : ∀ b c, V (Proc.devRef .tc ReferenceIdeal.main_v64) (ix2 b c) = BitVec.ofNat 32 (r b c).val)
    (hs : ∀ b c, V (Proc.devRef .tc ReferenceIdeal.main_v71) (ix2 b c) = BitVec.ofNat 32 (s b c).val) (b : Fin 4) (c : Fin 96) (y x : Fin 224) :
    V (Proc.devRef .tc ReferenceIdeal.main_v156) (ix4 b c y x)
      = (Blur.profile (fun a => k (ix1 a)) (r b c) y * FloatOps.uitofp (F := Ideal) .f32 (v (ix2 b c)))
        * (Blur.profile (fun a => k (ix1 a)) (s b c) x * FloatOps.uitofp (F := Ideal) .f32 (v (ix2 b c))) := by
  obtain ⟨P, hP⟩ : ∃ P : ReferenceIdeal.S4x96x230x230.Idx → EReal, V (Proc.devRef .tc ReferenceIdeal.main_v121) = P := ⟨_, rfl⟩
  have e : ∀ y x : Fin 230, P (ix4 b c y x) = if ReferenceIdeal.mirror y = r b c ∧ ReferenceIdeal.mirror x = s b c
      then FloatOps.uitofp (F := Ideal) .f32 (v (ix2 b c)) else 0 := fun y x => by
    rw [← hP, ReferenceIdeal.main_pad V d h, ReferenceIdeal.main_points V d h r s hr hs, hv]
  rw [ReferenceIdeal.main_blur V d h P hP k hk b c y x]
  simp only [e]
  exact Blur.blur_point (fun a => k (ix1 a)) hk0 _ (weight (v (ix2 b c))).1 (r b c) (s b c) y x

/-- The greatest value of a map of products, of which some product is positive. -/
theorem greatest_ne {R C : KernelIdeal.S4x96x224.Idx → EReal} {G : EReal}
    (hG : ∀ (b : Fin 4) (c : Fin 96) (y x : Fin 224), R (ix3 b c y) * C (ix3 b c x) ≤ G) (b : Fin 4) (c : Fin 96) (y x : Fin 224)
    (hR : 0 < R (ix3 b c y)) (hC : 0 < C (ix3 b c x)) : G ≠ 0 :=
  (lt_of_lt_of_le (EReal.mul_pos hR hC) (hG b c y x)).ne'

open Cert.KernelIdeal.Gen (W105 holds_between joints_eq map_eq W105_main_arg0)

variable [ReferenceIdeal.Facts] [On_some_visible.Facts]
  (m : (ℓ : Loc KernelIdeal.nD KernelIdeal.τ KernelIdeal.sig) → Buf (Elt Ideal) ℓ) (ρ : Dev KernelIdeal.nD → PrngReg) (d : Dev KernelIdeal.nD)

/-- Where some joint is visible, the attention maps are equal. -/
theorem att_eq (V : Valuation ReferenceIdeal.τ ReferenceIdeal.sig (Elt Ideal)) (e : Dev ReferenceIdeal.nD)
    (hV : Fix V (ReferenceIdeal.main (F := Ideal) e))
    (ha : V (Proc.devRef .tc ReferenceIdeal.main_arg0) = m ((d.tc : Thread KernelIdeal.nD KernelIdeal.τ).loc KernelIdeal.main_arg0))
    (i : ReferenceIdeal.S4x96x224x224.Idx)
    (hi : (On_some_visible.fn (F := Ideal) (m ((d.tc : Thread KernelIdeal.nD KernelIdeal.τ).loc KernelIdeal.main_arg0))).1 i = 1#1) :
    W105 m ρ d (Proc.devRef .tc KernelIdeal.main_v485) i = V (Proc.devRef .tc ReferenceIdeal.main_v164) i := by
  obtain ⟨hv, -, -, hp, hq⟩ := joints_eq m ρ d V e hV ha
  obtain ⟨r, s, hrs⟩ := ReferenceIdeal.main_place V e hV
  obtain ⟨k, hk⟩ : ∃ k : ReferenceIdeal.S7.Idx → EReal, V (Proc.devRef .tc ReferenceIdeal.main_v115) = k := ⟨_, rfl⟩
  obtain ⟨v, hv'⟩ : ∃ v : ReferenceIdeal.S4x96.Idx → BitVec 1, V (Proc.devRef .tc ReferenceIdeal.main_v49) = v := ⟨_, rfl⟩
  obtain ⟨R, hR⟩ : ∃ R : KernelIdeal.S4x96x224.Idx → EReal, W105 m ρ d (Proc.devRef .tc KernelIdeal.main_v272) = R := ⟨_, rfl⟩
  obtain ⟨C, hC⟩ : ∃ C : KernelIdeal.S4x96x224.Idx → EReal, W105 m ρ d (Proc.devRef .tc KernelIdeal.main_v475) = C := ⟨_, rfl⟩
  obtain ⟨A, hA⟩ : ∃ A : ReferenceIdeal.S4x96x224x224.Idx → EReal, V (Proc.devRef .tc ReferenceIdeal.main_v156) = A := ⟨_, rfl⟩
  have hkp : ∀ a : Fin 7, 0 < k (ix1 a) := fun a => hk ▸ Taps.taps_pos V e hV a
  have hk0 : ∀ a : Fin 7, 0 ≤ k (ix1 a) := fun a => (hkp a).le
  have hkk := (Taps.taps_eq _ V e (holds_between m ρ d) hV).trans hk
  have eR : ∀ (b : Fin 4) (c : Fin 96) (y : Fin 224), R (ix3 b c y)
      = Blur.profile (fun a => k (ix1 a)) (r b c) y * FloatOps.uitofp (F := Ideal) .f32 (v (ix2 b c)) := fun b c y => by
    rw [← hR]
    exact KerAtt.rows _ (holds_between m ρ d) k hkk _ hp v (hv.trans hv') (r b c) b c y (hrs b c).1
  have eC : ∀ (b : Fin 4) (c : Fin 96) (x : Fin 224), C (ix3 b c x)
      = Blur.profile (fun a => k (ix1 a)) (s b c) x * FloatOps.uitofp (F := Ideal) .f32 (v (ix2 b c)) := fun b c x => by
    rw [← hC]
    exact KerAtt.columns _ (holds_between m ρ d) k hkk _ hq v (hv.trans hv') (s b c) b c x (hrs b c).2
  have eA : ∀ (b : Fin 4) (c : Fin 96) (y x : Fin 224), A (ix4 b c y x) = R (ix3 b c y) * C (ix3 b c x) := fun b c y x => by
    rw [eR, eC, ← hA]
    exact blur_eq V e hV k hk hk0 v hv' r s (fun b c => (hrs b c).1) (fun b c => (hrs b c).2) b c y x
  have w0 : ∀ b c, (0 : EReal) ≤ FloatOps.uitofp (F := Ideal) .f32 (v (ix2 b c)) := fun b c => by
    rcases (weight (v (ix2 b c))).1 with h | h <;> rw [h]
    exact zero_le_one
  have hR0 : ∀ j, 0 ≤ R j := fun j => by
    obtain ⟨b, c, y, rfl⟩ : ∃ (b : Fin 4) (c : Fin 96) (y : Fin 224), j = ix3 b c y := ⟨j 0, j 1, j 2, eq_ix3 j⟩
    rw [eR]
    exact mul_nonneg (Blur.profile_nonneg _ hk0 _ _) (w0 b c)
  have hC0 : ∀ j, 0 ≤ C j := fun j => by
    obtain ⟨b, c, y, rfl⟩ : ∃ (b : Fin 4) (c : Fin 96) (y : Fin 224), j = ix3 b c y := ⟨j 0, j 1, j 2, eq_ix3 j⟩
    rw [eC]
    exact mul_nonneg (Blur.profile_nonneg _ hk0 _ _) (w0 b c)
  obtain ⟨G, hG, ⟨b₁, c₁, y₁, x₁, hg⟩, hM⟩ := map_eq m ρ d R C hR hC hR0 hC0
  obtain ⟨b₀, c₀, h₀⟩ := ReferenceIdeal.main_mask V e hV i (ha ▸ hi)
  rw [hv'] at h₀
  have hGne : G ≠ 0 := greatest_ne hG b₀ c₀ (r b₀ c₀) (s b₀ c₀)
    (by rw [eR, (weight _).2 h₀, mul_one]; exact Blur.profile_pos _ hk0 (hkp 3) _)
    (by rw [eC, (weight _).2 h₀, mul_one]; exact Blur.profile_pos _ hk0 (hkp 3) _)
  obtain ⟨z, hz⟩ := Blur.profile_zero (fun a => k (ix1 a)) (r b₀ c₀)
  have split : ∀ j : ReferenceIdeal.S4x96x224x224.Idx, ∃ (b : Fin 4) (c : Fin 96) (y x : Fin 224), j = ix4 b c y x :=
    fun j => ⟨j 0, j 1, j 2, j 3, eq_ix4 j⟩
  have hn := ReferenceIdeal.main_norm V e hV A hA
    (fun j => by obtain ⟨b, c, y, x, rfl⟩ := split j; rw [eA]; exact mul_nonneg (hR0 _) (hC0 _))
    ⟨ix4 b₀ c₀ z 0, by rw [eA, eR, hz, zero_mul, zero_mul]⟩ G
    (fun j => by obtain ⟨b, c, y, x, rfl⟩ := split j; rw [eA]; exact hG b c y x)
    ⟨ix4 b₁ c₁ y₁ x₁, by rw [eA, hg]⟩ i
  obtain ⟨b, c, y, x, rfl⟩ := split i
  rw [hn, eA, div_mul _ _ _ hGne]
  exact hM b c y x

end Cert.Att
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_some_visible
public import proofs.«01_k».proof.Proof.Values
public import proofs.«01_k».proof.Proof.Att
public import Idealize.ShloMosaic.Adequacy
public import Idealize.ShloMosaic.Init

@[expose] public section

noncomputable section

namespace Cert.Proof

open Idealize.ShloMosaic Idealize.SL.Sem

/-- The reference terminates, its argument ends unchanged, and it declares no semaphore. -/
theorem frame_reference : Cert.quiescent_ReferenceIdeal := fun m ρ _ =>
  (θ_run _ _ _).mono (fun r h => ⟨fun c => by
    obtain ⟨V, hm, -, ha⟩ := h c
    exact (hm _).trans ha, sem_eq_zero_of_no_sems (by decide) r.2⟩) (ReferenceIdeal.run m ρ)

/-- The value claim: both programs end with the same means, variances and visibilities of the joints, and, where some joint is
    visible, with the same attention map. -/
theorem algebraic : Cert.algebraic_KernelIdeal_ReferenceIdeal_on_some_visible := by
  intro m g m' g' _ ha
  refine ⟨fun c => KernelIdeal.Gen.W105 m g c (Proc.devRef .tc KernelIdeal.main_v485),
    fun c => KernelIdeal.Gen.W105 m g c (Proc.devRef .tc KernelIdeal.main_v42),
    fun c => KernelIdeal.Gen.W105 m g c (Proc.devRef .tc KernelIdeal.main_v44),
    fun c => KernelIdeal.Gen.W105 m g c (Proc.devRef .tc KernelIdeal.main_v38), ?_, ?_⟩
  · refine (θ_run _ _ _).mono (fun r h c => ?_) (KernelIdeal.Gen.run m g)
    exact ⟨fun i _ => congrFun (h c KernelIdeal.main_v485 (by decide)) i, fun i _ => congrFun (h c KernelIdeal.main_v42 (by decide)) i,
      fun i _ => congrFun (h c KernelIdeal.main_v44 (by decide)) i, fun i _ => congrFun (h c KernelIdeal.main_v38 (by decide)) i,
      (h c KernelIdeal.main_arg0 (by decide)).trans (KernelIdeal.Gen.W105_main_arg0 m g c)⟩
  · refine (θ_run _ _ _).mono (fun r h c => ?_) (ReferenceIdeal.run m' g')
    obtain ⟨V, hm, hV, hr⟩ := h c
    obtain ⟨e4, e2, e3, -, -⟩ := KernelIdeal.Gen.joints_eq m g c V c hV (hr.trans (ha c))
    exact ⟨fun i hi => (congrFun (hm ReferenceIdeal.main_v164) i).trans (Att.att_eq m g c V c hV (hr.trans (ha c)) i hi).symm,
      fun i _ => congrFun ((hm ReferenceIdeal.main_v53).trans e2.symm) i,
      fun i _ => congrFun ((hm ReferenceIdeal.main_v57).trans e3.symm) i, fun i _ => congrFun ((hm ReferenceIdeal.main_v49).trans e4.symm) i, (hm _).trans hr⟩

/-- Everything the certificate claims. -/
theorem claim : Cert.Claim :=
  ⟨Cert.Kernel.Gen.facts, Cert.KernelIdeal.Gen.facts, Cert.ReferenceIdeal.Gen.facts, Cert.On_some_visible.Gen.facts,
    fun m ρ _ => Cert.Kernel.Gen.frame m ρ, fun m ρ _ => Cert.KernelIdeal.Gen.frame m ρ, frame_reference, trivial, algebraic⟩

end Cert.Proof

end
